-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "dead" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)) (v2 : (c : Dev Cert.Kernel5Ideal.nD) → Buf (Elt Ideal) ((c.tc : Thread Cert.Kernel5Ideal.nD Cert.Kernel5Ideal.τ).loc Cert.Kernel5Ideal.main_v14_2)) (v3 : (c : Dev Cert.Kernel5Ideal.nD) → Buf (Elt Ideal) ((c.tc : Thread Cert.Kernel5Ideal.nD Cert.Kernel5Ideal.τ).loc Cert.Kernel5Ideal.main_v14_3)) (v4 : (c : Dev Cert.Kernel5Ideal.nD) → Buf (Elt Ideal) ((c.tc : Thread Cert.Kernel5Ideal.nD Cert.Kernel5Ideal.τ).loc Cert.Kernel5Ideal.main_v14_4)) (v5 : (c : Dev Cert.Kernel5Ideal.nD) → Buf (Elt Ideal) ((c.tc : Thread Cert.Kernel5Ideal.nD Cert.Kernel5Ideal.τ).loc Cert.Kernel5Ideal.main_v14_5)) (v6 : (c : Dev Cert.Kernel5Ideal.nD) → Buf (Elt Ideal) ((c.tc : Thread Cert.Kernel5Ideal.nD Cert.Kernel5Ideal.τ).loc Cert.Kernel5Ideal.main_v14_6)) (v7 : (c : Dev Cert.Kernel5Ideal.nD) → Buf (Elt Ideal) ((c.tc : Thread Cert.Kernel5Ideal.nD Cert.Kernel5Ideal.τ).loc Cert.Kernel5Ideal.main_v14_7)) (v8 : (c : Dev Cert.Kernel5Ideal.nD) → Buf (Elt Ideal) ((c.tc : Thread Cert.Kernel5Ideal.nD Cert.Kernel5Ideal.τ).loc Cert.Kernel5Ideal.main_v14_8)) (v9 : (c : Dev Cert.Kernel5Ideal.nD) → Buf (Elt Ideal) ((c.tc : Thread Cert.Kernel5Ideal.nD Cert.Kernel5Ideal.τ).loc Cert.Kernel5Ideal.main_v14_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_v14_2) = v2 c
          ∧ r.2.mem ((c.tc : Thread Cert.Kernel5Ideal.nD Cert.Kernel5Ideal.τ).loc Cert.Kernel5Ideal.main_v14_3) = v3 c
          ∧ r.2.mem ((c.tc : Thread Cert.Kernel5Ideal.nD Cert.Kernel5Ideal.τ).loc Cert.Kernel5Ideal.main_v14_4) = v4 c
          ∧ r.2.mem ((c.tc : Thread Cert.Kernel5Ideal.nD Cert.Kernel5Ideal.τ).loc Cert.Kernel5Ideal.main_v14_5) = v5 c
          ∧ r.2.mem ((c.tc : Thread Cert.Kernel5Ideal.nD Cert.Kernel5Ideal.τ).loc Cert.Kernel5Ideal.main_v14_6) = v6 c
          ∧ r.2.mem ((c.tc : Thread Cert.Kernel5Ideal.nD Cert.Kernel5Ideal.τ).loc Cert.Kernel5Ideal.main_v14_7) = v7 c
          ∧ r.2.mem ((c.tc : Thread Cert.Kernel5Ideal.nD Cert.Kernel5Ideal.τ).loc Cert.Kernel5Ideal.main_v14_8) = v8 c
          ∧ r.2.mem ((c.tc : Thread Cert.Kernel5Ideal.nD Cert.Kernel5Ideal.τ).loc Cert.Kernel5Ideal.main_v14_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_v41) = v4 c
          ∧ r.2.mem ((c.tc : Thread Cert.Reference5Ideal.nD Cert.Reference5Ideal.τ).loc Cert.Reference5Ideal.main_v42) = v5 c
          ∧ r.2.mem ((c.tc : Thread Cert.Reference5Ideal.nD Cert.Reference5Ideal.τ).loc Cert.Reference5Ideal.main_v43) = v6 c
          ∧ r.2.mem ((c.tc : Thread Cert.Reference5Ideal.nD Cert.Reference5Ideal.τ).loc Cert.Reference5Ideal.main_v48) = v7 c
          ∧ r.2.mem ((c.tc : Thread Cert.Reference5Ideal.nD Cert.Reference5Ideal.τ).loc Cert.Reference5Ideal.main_v53) = v8 c
          ∧ r.2.mem ((c.tc : Thread Cert.Reference5Ideal.nD Cert.Reference5Ideal.τ).loc Cert.Reference5Ideal.main_v15) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "masked" .f32 0xF149F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v23)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "masked" .f32 0xF149F2CA#32 ⊥

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v22)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v59) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x1024x4096 : Shape := ⟨3, ![4, 1024, 4096]⟩
abbrev S4x4x4096x128 : Shape := ⟨4, ![4, 4, 4096, 128]⟩
abbrev S4x4x64x4096 : Shape := ⟨4, ![4, 4, 64, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S4x4096x1024 : Shape := ⟨3, ![4, 4096, 1024]⟩
abbrev S1x256x128 : Shape := ⟨3, ![1, 256, 128]⟩
abbrev S1x1x4096x128 : Shape := ⟨4, ![1, 1, 4096, 128]⟩
abbrev S1x1x64x4096 : Shape := ⟨4, ![1, 1, 64, 4096]⟩
abbrev S1x128x256 : Shape := ⟨3, ![1, 128, 256]⟩
abbrev S64x512 : Shape := ⟨2, ![64, 512]⟩
abbrev S1x512 : Shape := ⟨2, ![1, 512]⟩
abbrev S256x128 : Shape := ⟨2, ![256, 128]⟩
abbrev S64x128 : Shape := ⟨2, ![64, 128]⟩
abbrev S128x512 : Shape := ⟨2, ![128, 512]⟩
abbrev S1x1x128x128 : Shape := ⟨4, ![1, 1, 128, 128]⟩
abbrev S512 : Shape := ⟨1, ![512]⟩
abbrev S1x1x64x128 : Shape := ⟨4, ![1, 1, 64, 128]⟩
abbrev S1 : Shape := ⟨1, ![1]⟩
abbrev S1x1 : Shape := ⟨2, ![1, 1]⟩
abbrev S128x64 : Shape := ⟨2, ![128, 64]⟩

abbrev nBuf : Space → Nat
  | .hbm => 16
  | .vmem => 11
  | .smem => 0
  | _ => 0

abbrev bufTy : (tb : Table) → Fin (tcTables nBuf tb) → BufTy
  | .hbm, ⟨0, _⟩ => ⟨S4x1024x4096, .bf16⟩
  | .hbm, ⟨1, _⟩ => ⟨S4x4x4096x128, .bf16⟩
  | .hbm, ⟨2, _⟩ => ⟨S4x4x64x4096, .f32⟩
  | .hbm, ⟨3, _⟩ => ⟨S128, .i32⟩
  | .hbm, ⟨4, _⟩ => ⟨S128x1, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .bf16⟩
  | .hbm, ⟨10, _⟩ => ⟨S_, .bf16⟩
  | .hbm, ⟨11, _⟩ => ⟨S128x128, .bf16⟩
  | .hbm, ⟨12, _⟩ => ⟨S128x256, .bf16⟩
  | .hbm, ⟨13, _⟩ => ⟨S128x128, .bf16⟩
  | .hbm, ⟨14, _⟩ => ⟨S128x128, .bf16⟩
  | .hbm, ⟨15, _⟩ => ⟨S4x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x64x4096, .f32⟩
  | .local _ .vmem, ⟨5, _⟩ => ⟨S1x1x64x4096, .f32⟩
  | .local _ .vmem, ⟨6, _⟩ => ⟨S128x128, .bf16⟩
  | .local _ .vmem, ⟨7, _⟩ => ⟨S1x128x256, .bf16⟩
  | .local _ .vmem, ⟨8, _⟩ => ⟨S1x128x256, .bf16⟩
  | .local _ .vmem, ⟨9, _⟩ => ⟨S64x512, .f32⟩
  | .local _ .vmem, ⟨10, _⟩ => ⟨S1x512, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c128_i32 : BitVec 32 := 128#32
  let v19 : BitVec 32 := Scalar.muli arg2 c128_i32
  v19
def k0_off1 (i : grid0.Coords) : Fin 4 → Nat :=
  let c0_10 : Index := 0#32
  let c0_11 : Index := 0#32
  let arg2 : BitVec 32 := BitVec.ofNat 32 (i 2).val
  let c128_i32 : BitVec 32 := 128#32
  let v19 : BitVec 32 := Scalar.muli arg2 c128_i32
  let v20 : BitVec 32 := v19
  let v21 : Index := Scalar.indexCast v20
  let c0_12 : Index := 0#32
  ![0, 0, v21.toNat, 0]
def k0_mult2 (i : grid0.Coords) : BitVec 32 :=
  let arg2 : BitVec 32 := BitVec.ofNat 32 (i 2).val
  let c128_i32_27 : BitVec 32 := 128#32
  let v63 : BitVec 32 := Scalar.muli arg2 c128_i32_27
  v63
def k0_off2 (i : grid0.Coords) : Fin 4 → Nat :=
  let c0_28 : Index := 0#32
  let c0_29 : Index := 0#32
  let c0_30 : Index := 0#32
  let arg2 : BitVec 32 := BitVec.ofNat 32 (i 2).val
  let c128_i32_27 : BitVec 32 := 128#32
  let v63 : BitVec 32 := Scalar.muli arg2 c128_i32_27
  let v64 : BitVec 32 := v63
  let v65 : Index := Scalar.indexCast v64
  ![0, 0, 0, v65.toNat]
def k0_mult3 (arg10 : BitVec 32) : BitVec 32 :=
  let c128_i32_43 : BitVec 32 := 128#32
  let v98 : BitVec 32 := Scalar.muli arg10 c128_i32_43
  v98

def k0_off3 (arg10 : BitVec 32) : Fin 4 → Nat :=
  let c0_44 : Index := 0#32
  let c0_45 : Index := 0#32
  let c128_i32_43 : BitVec 32 := 128#32
  let v98 : BitVec 32 := Scalar.muli arg10 c128_i32_43
  let v99 : BitVec 32 := v98
  let v100 : Index := Scalar.indexCast v99
  let c0_46 : Index := 0#32
  ![0, 0, v100.toNat, 0]
def k0_mult4 (arg10 : BitVec 32) : BitVec 32 :=
  let c128_i32_59 : BitVec 32 := 128#32
  let v133 : BitVec 32 := Scalar.muli arg10 c128_i32_59
  v133
def k0_off4 (arg10 : BitVec 32) : Fin 4 → Nat :=
  let c0_60 : Index := 0#32
  let c0_61 : Index := 0#32
  let c0_62 : Index := 0#32
  let c128_i32_59 : BitVec 32 := 128#32
  let v133 : BitVec 32 := Scalar.muli arg10 c128_i32_59
  let v134 : BitVec 32 := v133
  let v135 : Index := Scalar.indexCast v134
  ![0, 0, 0, v135.toNat]

def k0_chk1 (arg10 : BitVec 32) : Prop :=
  (128 ∣ (k0_mult3 arg10).toNat) ∧
  (∀ a, (k0_off3 arg10) a + S1x1x128x128.size a ≤ S1x1x4096x128.size a) ∧
  (128 ∣ (k0_mult4 arg10).toNat) ∧
  (∀ a, (k0_off4 arg10) a + S1x1x64x128.size a ≤ S1x1x64x4096.size a)
theorem k0_mult3_dvd : ∀ (arg10 : BitVec 32) (k0_hw1 : k0_chk1 arg10), 128 ∣ (k0_mult3 arg10).toNat := fun arg10 k0_hw1 => k0_hw1.1
theorem k0_off3_inb : ∀ (arg10 : BitVec 32) (k0_hw1 : k0_chk1 arg10), ∀ a, (k0_off3 arg10) a + S1x1x128x128.size a ≤ S1x1x4096x128.size a := fun arg10 k0_hw1 => k0_hw1.2.1
theorem k0_mult4_dvd : ∀ (arg10 : BitVec 32) (k0_hw1 : k0_chk1 arg10), 128 ∣ (k0_mult4 arg10).toNat := fun arg10 k0_hw1 => k0_hw1.2.2.1
theorem k0_off4_inb : ∀ (arg10 : BitVec 32) (k0_hw1 : k0_chk1 arg10), ∀ a, (k0_off4 arg10) a + S1x1x64x128.size a ≤ S1x1x64x4096.size a := fun arg10 k0_hw1 => k0_hw1.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead" => some ⊥
  | _ => none
-- ==== ReferenceIdeal.lean ====
abbrev S4x1024x4096 : Shape := ⟨3, ![4, 1024, 4096]⟩
abbrev S4x4x4096x128 : Shape := ⟨4, ![4, 4, 4096, 128]⟩
abbrev S4x4x64x4096 : Shape := ⟨4, ![4, 4, 64, 4096]⟩
abbrev S4x4x4x64x4096 : Shape := ⟨5, ![4, 4, 4, 64, 4096]⟩
abbrev S4x4x4096x64 : Shape := ⟨4, ![4, 4, 4096, 64]⟩
abbrev S4x4x4x4096x4096 : Shape := ⟨5, ![4, 4, 4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x64x4x4096 : Shape := ⟨5, ![4, 4, 64, 4, 4096]⟩
abbrev S4x4096x4x4x64 : Shape := ⟨5, ![4, 4096, 4, 4, 64]⟩
abbrev S4x4096x1024 : Shape := ⟨3, ![4, 4096, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x4x4096x128, .bf16⟩
  | .hbm, ⟨2, _⟩ => ⟨S4x4x64x4096, .f32⟩
  | .hbm, ⟨3, _⟩ => ⟨S4x1024x4096, .f32⟩
  | .hbm, ⟨4, _⟩ => ⟨S4x4x4x64x4096, .f32⟩
  | .hbm, ⟨5, _⟩ => ⟨S4x4x4096x64, .bf16⟩
  | .hbm, ⟨6, _⟩ => ⟨S4x4x4096x64, .f32⟩
  | .hbm, ⟨7, _⟩ => ⟨S4x4x4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4x4x4x4096x4096, .f32⟩
  | .hbm, ⟨15, _⟩ => ⟨S4x4x4x4096x4096, .f32⟩
  | .hbm, ⟨16, _⟩ => ⟨S_, .f32⟩
  | .hbm, ⟨17, _⟩ => ⟨S4x4x4x4096x4096, .f32⟩
  | .hbm, ⟨18, _⟩ => ⟨S4x4x4x4096x4096, .f32⟩
  | .hbm, ⟨19, _⟩ => ⟨S4x4x4x4096x4096, .f32⟩
  | .hbm, ⟨20, _⟩ => ⟨S4x4x4x4096x4096, .f32⟩
  | .hbm, ⟨21, _⟩ => ⟨S4x4x4x4096x4096, .i1⟩
  | .hbm, ⟨22, _⟩ => ⟨S4x4x4x4096x4096, .f32⟩
  | .hbm, ⟨23, _⟩ => ⟨S4x4x4x4096x4096, .f32⟩
  | .hbm, ⟨24, _⟩ => ⟨S4x4x4x4096x4096, .f32⟩
  | .hbm, ⟨25, _⟩ => ⟨S4x4x4x4096x4096, .f32⟩
  | .hbm, ⟨26, _⟩ => ⟨S4x4x4x4096x4096, .f32⟩
  | .hbm, ⟨27, _⟩ => ⟨S4x4x4x4096x4096, .f32⟩
  | .hbm, ⟨28, _⟩ => ⟨S4x4x4x4096x4096, .f32⟩
  | .hbm, ⟨29, _⟩ => ⟨S4x4x4x4096x4096, .f32⟩
  | .hbm, ⟨30, _⟩ => ⟨S4x4x4x4096x4096, .f32⟩
  | .hbm, ⟨31, _⟩ => ⟨S_, .f32⟩
  | .hbm, ⟨32, _⟩ => ⟨S_, .f32⟩
  | .hbm, ⟨33, _⟩ => ⟨S4x4x4x4096x4096, .i1⟩
  | .hbm, ⟨34, _⟩ => ⟨S4x4x4x4096x4096, .f32⟩
  | .hbm, ⟨35, _⟩ => ⟨S4x4x4x4096x4096, .f32⟩
  | .hbm, ⟨36, _⟩ => ⟨S_, .f32⟩
  | .hbm, ⟨37, _⟩ => ⟨S_, .f32⟩
  | .hbm, ⟨38, _⟩ => ⟨S4x4x4x4096x4096, .f32⟩
  | .hbm, ⟨39, _⟩ => ⟨S4x4x4x4096x4096, .f32⟩
  | .hbm, ⟨40, _⟩ => ⟨S4x4x4x4096x4096, .f32⟩
  | .hbm, ⟨41, _⟩ => ⟨S_, .f32⟩
  | .hbm, ⟨42, _⟩ => ⟨S4x4x4x4096x4096, .f32⟩
  | .hbm, ⟨43, _⟩ => ⟨S4x4x4x4096x4096, .f32⟩
  | .hbm, ⟨44, _⟩ => ⟨S4x4x4x4096x4096, .f32⟩
  | .hbm, ⟨45, _⟩ => ⟨S4x4x4x4096x4096, .f32⟩
  | .hbm, ⟨46, _⟩ => ⟨S4x4x4x4096x4096, .i1⟩
  | .hbm, ⟨47, _⟩ => ⟨S4x4x4x4096x4096, .f32⟩
  | .hbm, ⟨48, _⟩ => ⟨S4x4x4x4096x4096, .f32⟩
  | .hbm, ⟨49, _⟩ => ⟨S4x4x4x4096x4096, .f32⟩
  | .hbm, ⟨50, _⟩ => ⟨S4x4x4x4096x4096, .f32⟩
  | .hbm, ⟨51, _⟩ => ⟨S4x4x4x4096x4096, .f32⟩
  | .hbm, ⟨52, _⟩ => ⟨S4x4x4x4096x4096, .f32⟩
  | .hbm, ⟨53, _⟩ => ⟨S4x4x4x4096x4096, .f32⟩
  | .hbm, ⟨54, _⟩ => ⟨S4x4x4x4096x4096, .f32⟩
  | .hbm, ⟨55, _⟩ => ⟨S4x4x4x4096x4096, .f32⟩
  | .hbm, ⟨56, _⟩ => ⟨S4x4x4x4096x4096, .f32⟩
  | .hbm, ⟨57, _⟩ => ⟨S4x4x4x4096x4096, .f32⟩
  | .hbm, ⟨58, _⟩ => ⟨S_, .f32⟩
  | .hbm, ⟨59, _⟩ => ⟨S_, .f32⟩
  | .hbm, ⟨60, _⟩ => ⟨S4x4x4x4096x4096, .i1⟩
  | .hbm, ⟨61, _⟩ => ⟨S4x4x4x4096x4096, .f32⟩
  | .hbm, ⟨62, _⟩ => ⟨S4x4x4x4096x4096, .f32⟩
  | .hbm, ⟨63, _⟩ => ⟨S4x4x64x4x4096, .f32⟩
  | .hbm, ⟨64, _⟩ => ⟨S4x4096x4x4x64, .f32⟩
  | .hbm, ⟨65, _⟩ => ⟨S4x4096x1024, .f32⟩
  | .hbm, ⟨66, _⟩ => ⟨S4x4096x1024, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v12 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_0 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x1536 : Shape := ⟨2, ![1024, 1536]⟩
abbrev S1024x1024 : Shape := ⟨2, ![1024, 1024]⟩
abbrev S1024x512 : Shape := ⟨2, ![1024, 512]⟩
abbrev S512x1024 : Shape := ⟨2, ![512, 1024]⟩
abbrev S1024x256 : Shape := ⟨2, ![1024, 256]⟩
abbrev S1x1024 : Shape := ⟨2, ![1, 1024]⟩
abbrev S4x1024x4096 : Shape := ⟨3, ![4, 1024, 4096]⟩
abbrev S4x256x4096 : Shape := ⟨3, ![4, 256, 4096]⟩
abbrev S4x4x4096x128 : Shape := ⟨4, ![4, 4, 4096, 128]⟩
abbrev S256x1024 : Shape := ⟨2, ![256, 1024]⟩
abbrev S1x1024x256 : Shape := ⟨3, ![1, 1024, 256]⟩
abbrev S1x256x256 : Shape := ⟨3, ![1, 256, 256]⟩
abbrev S1x4x256x128 : Shape := ⟨4, ![1, 4, 256, 128]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S256x128 : Shape := ⟨2, ![256, 128]⟩
abbrev S1x1x256x128 : Shape := ⟨4, ![1, 1, 256, 128]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x512, .f32⟩
  | .hbm, ⟨7, _⟩ => ⟨S512x1024, .f32⟩
  | .hbm, ⟨8, _⟩ => ⟨S512x1024, .bf16⟩
  | .hbm, ⟨9, _⟩ => ⟨S1024x256, .f32⟩
  | .hbm, ⟨10, _⟩ => ⟨S1024x256, .bf16⟩
  | .hbm, ⟨11, _⟩ => ⟨S1x1024, .f32⟩
  | .hbm, ⟨12, _⟩ => ⟨S4x1024x4096, .bf16⟩
  | .hbm, ⟨13, _⟩ => ⟨S4x256x4096, .f32⟩
  | .hbm, ⟨14, _⟩ => ⟨S4x256x4096, .f32⟩
  | .hbm, ⟨15, _⟩ => ⟨S4x4x4096x128, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x4x256x128, .bf16⟩
  | .local _ .vmem, ⟨13, _⟩ => ⟨S1x4x256x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S4x4096x1536 : Shape := ⟨3, ![4, 4096, 1536]⟩
abbrev S4x4096x1024 : Shape := ⟨3, ![4, 4096, 1024]⟩
abbrev S4x4096x256 : Shape := ⟨3, ![4, 4096, 256]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S4x4096x4x64 : Shape := ⟨4, ![4, 4096, 4, 64]⟩
abbrev S4x4x4096x64 : Shape := ⟨4, ![4, 4, 4096, 64]⟩
abbrev S4x4x4096x128 : Shape := ⟨4, ![4, 4, 4096, 128]⟩
abbrev S4x1024x4096 : Shape := ⟨3, ![4, 1024, 4096]⟩
abbrev S4x256x4096 : Shape := ⟨3, ![4, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | .hbm, ⟨20, _⟩ => ⟨S4x4096x1536, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x256, .f32⟩
  | .hbm, ⟨26, _⟩ => ⟨S4x4096x256, .f32⟩
  | .hbm, ⟨27, _⟩ => ⟨S4096, .i32⟩
  | .hbm, ⟨28, _⟩ => ⟨S4096x1, .i32⟩
  | .hbm, ⟨29, _⟩ => ⟨S64, .i32⟩
  | .hbm, ⟨30, _⟩ => ⟨S1x64, .i32⟩
  | .hbm, ⟨31, _⟩ => ⟨S_, .i32⟩
  | .hbm, ⟨32, _⟩ => ⟨S1x64, .i32⟩
  | .hbm, ⟨33, _⟩ => ⟨S1x64, .i1⟩
  | .hbm, ⟨34, _⟩ => ⟨S_, .i32⟩
  | .hbm, ⟨35, _⟩ => ⟨S4096x1, .i32⟩
  | .hbm, ⟨36, _⟩ => ⟨S4096x1, .i32⟩
  | .hbm, ⟨37, _⟩ => ⟨S_, .i32⟩
  | .hbm, ⟨38, _⟩ => ⟨S_, .i32⟩
  | .hbm, ⟨39, _⟩ => ⟨S4096x64, .i1⟩
  | .hbm, ⟨40, _⟩ => ⟨S4096x64, .i32⟩
  | .hbm, ⟨41, _⟩ => ⟨S4096x64, .i32⟩
  | .hbm, ⟨42, _⟩ => ⟨S4096x64, .i32⟩
  | .hbm, ⟨43, _⟩ => ⟨S4096x64, .f32⟩
  | .hbm, ⟨44, _⟩ => ⟨S4x4096x4x64, .f32⟩
  | .hbm, ⟨45, _⟩ => ⟨S4x4x4096x64, .f32⟩
  | .hbm, ⟨46, _⟩ => ⟨S4x4x4096x64, .f32⟩
  | .hbm, ⟨47, _⟩ => ⟨S4x4x4096x128, .f32⟩
  | .hbm, ⟨48, _⟩ => ⟨S4x1024x4096, .f32⟩
  | .hbm, ⟨49, _⟩ => ⟨S4x1024x4096, .bf16⟩
  | .hbm, ⟨50, _⟩ => ⟨S4x256x4096, .f32⟩
  | .hbm, ⟨51, _⟩ => ⟨S4x256x4096, .f32⟩
  | .hbm, ⟨52, _⟩ => ⟨S4x4x4096x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x2608 : Shape := ⟨2, ![1024, 2608]⟩
abbrev S1024x1024 : Shape := ⟨2, ![1024, 1024]⟩
abbrev S1024x1536 : Shape := ⟨2, ![1024, 1536]⟩
abbrev S1536x1024 : Shape := ⟨2, ![1536, 1024]⟩
abbrev S1024x256 : Shape := ⟨2, ![1024, 256]⟩
abbrev S1024x512 : Shape := ⟨2, ![1024, 512]⟩
abbrev S1024x48 : Shape := ⟨2, ![1024, 48]⟩
abbrev S_ : Shape := ⟨0, ![]⟩
abbrev S1024x128 : Shape := ⟨2, ![1024, 128]⟩
abbrev S1x1024 : Shape := ⟨2, ![1, 1024]⟩
abbrev S4x1024x4096 : Shape := ⟨3, ![4, 1024, 4096]⟩
abbrev S4x256x4096 : Shape := ⟨3, ![4, 256, 4096]⟩
abbrev S4x4x4096x128 : Shape := ⟨4, ![4, 4, 4096, 128]⟩
abbrev S16384x128 : Shape := ⟨2, ![16384, 128]⟩
abbrev S256x1024 : Shape := ⟨2, ![256, 1024]⟩
abbrev S1x1024x256 : Shape := ⟨3, ![1, 1024, 256]⟩
abbrev S1x256x256 : Shape := ⟨3, ![1, 256, 256]⟩
abbrev S1x4x256x128 : Shape := ⟨4, ![1, 4, 256, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x64 : Shape := ⟨2, ![256, 64]⟩
abbrev S1x1x256x128 : Shape := ⟨4, ![1, 1, 256, 128]⟩

abbrev nBuf : Space → Nat
  | .hbm => 29
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1536, .f32⟩
  | .hbm, ⟨7, _⟩ => ⟨S1536x1024, .f32⟩
  | .hbm, ⟨8, _⟩ => ⟨S1536x1024, .bf16⟩
  | .hbm, ⟨9, _⟩ => ⟨S1024x256, .f32⟩
  | .hbm, ⟨10, _⟩ => ⟨S1024x256, .f32⟩
  | .hbm, ⟨11, _⟩ => ⟨S1024x512, .f32⟩
  | .hbm, ⟨12, _⟩ => ⟨S1024x512, .bf16⟩
  | .hbm, ⟨13, _⟩ => ⟨S1024x48, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1x1024, .f32⟩
  | .hbm, ⟨19, _⟩ => ⟨S4x1024x4096, .bf16⟩
  | .hbm, ⟨20, _⟩ => ⟨S4x256x4096, .f32⟩
  | .hbm, ⟨21, _⟩ => ⟨S4x256x4096, .f32⟩
  | .hbm, ⟨22, _⟩ => ⟨S4x256x4096, .f32⟩
  | .hbm, ⟨23, _⟩ => ⟨S4x256x4096, .f32⟩
  | .hbm, ⟨24, _⟩ => ⟨S4x256x4096, .f32⟩
  | .hbm, ⟨25, _⟩ => ⟨S4x256x4096, .f32⟩
  | .hbm, ⟨26, _⟩ => ⟨S4x4x4096x128, .bf16⟩
  | .hbm, ⟨27, _⟩ => ⟨S4x4x4096x128, .bf16⟩
  | .hbm, ⟨28, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1536x1024, .bf16⟩
  | .local _ .vmem, ⟨5, _⟩ => ⟨S1024x512, .bf16⟩
  | .local _ .vmem, ⟨6, _⟩ => ⟨S1024x128, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x4x256x128, .bf16⟩
  | .local _ .vmem, ⟨22, _⟩ => ⟨S1x4x256x128, .bf16⟩
  | .local _ .vmem, ⟨23, _⟩ => ⟨S1x4x256x128, .bf16⟩
  | .local _ .vmem, ⟨24, _⟩ => ⟨S1x4x256x128, .bf16⟩
  | .local _ .vmem, ⟨25, _⟩ => ⟨S256x128, .f32⟩
  | .local _ .vmem, ⟨26, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v14_5 : Ref sig .tc := ⟨.hbm, 24, rfl⟩
abbrev main_v14_6 : Ref sig .tc := ⟨.hbm, 25, rfl⟩
abbrev main_v14_7 : Ref sig .tc := ⟨.hbm, 26, rfl⟩
abbrev main_v14_8 : Ref sig .tc := ⟨.hbm, 27, rfl⟩
abbrev main_v14_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S1024 : Shape := ⟨1, ![1024]⟩
abbrev S1024x2608 : Shape := ⟨2, ![1024, 2608]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2608 : Shape := ⟨2, ![16384, 2608]⟩
abbrev S16384x48 : Shape := ⟨2, ![16384, 48]⟩
abbrev S16384x128 : Shape := ⟨2, ![16384, 128]⟩
abbrev S4x4096x2608 : Shape := ⟨3, ![4, 4096, 2608]⟩
abbrev S4x4096x1024 : Shape := ⟨3, ![4, 4096, 1024]⟩
abbrev S4x4096x256 : Shape := ⟨3, ![4, 4096, 256]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S4x1024x4096 : Shape := ⟨3, ![4, 1024, 4096]⟩
abbrev S4x256x4096 : Shape := ⟨3, ![4, 256, 4096]⟩
abbrev S4x4096x4x64 : Shape := ⟨4, ![4, 4096, 4, 64]⟩
abbrev S4x4x4096x64 : Shape := ⟨4, ![4, 4, 4096, 64]⟩
abbrev S4x4x4096x128 : Shape := ⟨4, ![4, 4, 4096, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2608, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2608, .f32⟩
  | .hbm, ⟨20, _⟩ => ⟨S16384x48, .f32⟩
  | .hbm, ⟨21, _⟩ => ⟨S_, .i32⟩
  | .hbm, ⟨22, _⟩ => ⟨S_, .f32⟩
  | .hbm, ⟨23, _⟩ => ⟨S16384x128, .f32⟩
  | .hbm, ⟨24, _⟩ => ⟨S4x4096x2608, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S4x4096x256, .f32⟩
  | .hbm, ⟨30, _⟩ => ⟨S4x4096x256, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S4x4096x256, .f32⟩
  | .hbm, ⟨35, _⟩ => ⟨S4096, .i32⟩
  | .hbm, ⟨36, _⟩ => ⟨S4096x1, .i32⟩
  | .hbm, ⟨37, _⟩ => ⟨S64, .i32⟩
  | .hbm, ⟨38, _⟩ => ⟨S1x64, .i32⟩
  | .hbm, ⟨39, _⟩ => ⟨S_, .i32⟩
  | .hbm, ⟨40, _⟩ => ⟨S1x64, .i32⟩
  | .hbm, ⟨41, _⟩ => ⟨S1x64, .i1⟩
  | .hbm, ⟨42, _⟩ => ⟨S_, .i32⟩
  | .hbm, ⟨43, _⟩ => ⟨S4096x1, .i32⟩
  | .hbm, ⟨44, _⟩ => ⟨S4096x1, .i32⟩
  | .hbm, ⟨45, _⟩ => ⟨S_, .i32⟩
  | .hbm, ⟨46, _⟩ => ⟨S_, .i32⟩
  | .hbm, ⟨47, _⟩ => ⟨S4096x64, .i1⟩
  | .hbm, ⟨48, _⟩ => ⟨S4096x64, .i32⟩
  | .hbm, ⟨49, _⟩ => ⟨S4096x64, .i32⟩
  | .hbm, ⟨50, _⟩ => ⟨S4096x64, .i32⟩
  | .hbm, ⟨51, _⟩ => ⟨S4096x64, .f32⟩
  | .hbm, ⟨52, _⟩ => ⟨S4x1024x4096, .f32⟩
  | .hbm, ⟨53, _⟩ => ⟨S4x1024x4096, .bf16⟩
  | .hbm, ⟨54, _⟩ => ⟨S4x256x4096, .f32⟩
  | .hbm, ⟨55, _⟩ => ⟨S4x256x4096, .f32⟩
  | .hbm, ⟨56, _⟩ => ⟨S4x256x4096, .f32⟩
  | .hbm, ⟨57, _⟩ => ⟨S4x256x4096, .f32⟩
  | .hbm, ⟨58, _⟩ => ⟨S4x256x4096, .f32⟩
  | .hbm, ⟨59, _⟩ => ⟨S4x256x4096, .f32⟩
  | .hbm, ⟨60, _⟩ => ⟨S4x4096x4x64, .f32⟩
  | .hbm, ⟨61, _⟩ => ⟨S4x4x4096x64, .f32⟩
  | .hbm, ⟨62, _⟩ => ⟨S4x4x4096x64, .f32⟩
  | .hbm, ⟨63, _⟩ => ⟨S4x4x4096x128, .f32⟩
  | .hbm, ⟨64, _⟩ => ⟨S4x4x4096x128, .bf16⟩
  | .hbm, ⟨65, _⟩ => ⟨S4x4096x4x64, .f32⟩
  | .hbm, ⟨66, _⟩ => ⟨S4x4x4096x64, .f32⟩
  | .hbm, ⟨67, _⟩ => ⟨S4x4x4096x64, .f32⟩
  | .hbm, ⟨68, _⟩ => ⟨S4x4x4096x128, .f32⟩
  | .hbm, ⟨69, _⟩ => ⟨S4x4x4096x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Kernel6.lean ====
abbrev S16384x1024 : Shape := ⟨2, ![16384, 1024]⟩
abbrev S16384x128 : Shape := ⟨2, ![16384, 128]⟩
abbrev S1024x1024 : Shape := ⟨2, ![1024, 1024]⟩
abbrev S128 : Shape := ⟨1, ![128]⟩
abbrev S1x128x1 : Shape := ⟨3, ![1, 128, 1]⟩
abbrev S1024 : Shape := ⟨1, ![1024]⟩
abbrev S1x1x1024 : Shape := ⟨3, ![1, 1, 1024]⟩
abbrev S_ : Shape := ⟨0, ![]⟩
abbrev S3 : Shape := ⟨1, ![3]⟩
abbrev S3x1x1 : Shape := ⟨3, ![3, 1, 1]⟩
abbrev S3x1x1024 : Shape := ⟨3, ![3, 1, 1024]⟩
abbrev S3x128x1024 : Shape := ⟨3, ![3, 128, 1024]⟩
abbrev S256x1024 : Shape := ⟨2, ![256, 1024]⟩
abbrev S256x128 : Shape := ⟨2, ![256, 128]⟩
abbrev S1x128x1024 : Shape := ⟨3, ![1, 128, 1024]⟩
abbrev S128x1024 : Shape := ⟨2, ![128, 1024]⟩

abbrev nBuf : Space → Nat
  | .hbm => 42
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S128, .i32⟩
  | .hbm, ⟨7, _⟩ => ⟨S1x128x1, .i32⟩
  | .hbm, ⟨8, _⟩ => ⟨S1024, .i32⟩
  | .hbm, ⟨9, _⟩ => ⟨S1x1x1024, .i32⟩
  | .hbm, ⟨10, _⟩ => ⟨S_, .i32⟩
  | .hbm, ⟨11, _⟩ => ⟨S_, .i32⟩
  | .hbm, ⟨12, _⟩ => ⟨S1x1x1024, .i32⟩
  | .hbm, ⟨13, _⟩ => ⟨S1x1x1024, .i32⟩
  | .hbm, ⟨14, _⟩ => ⟨S1x1x1024, .i32⟩
  | .hbm, ⟨15, _⟩ => ⟨S_, .i32⟩
  | .hbm, ⟨16, _⟩ => ⟨S1x1x1024, .i32⟩
  | .hbm, ⟨17, _⟩ => ⟨S1x1x1024, .i1⟩
  | .hbm, ⟨18, _⟩ => ⟨S1x1x1024, .i32⟩
  | .hbm, ⟨19, _⟩ => ⟨S1x1x1024, .i32⟩
  | .hbm, ⟨20, _⟩ => ⟨S_, .i32⟩
  | .hbm, ⟨21, _⟩ => ⟨S1x1x1024, .i32⟩
  | .hbm, ⟨22, _⟩ => ⟨S1x1x1024, .i1⟩
  | .hbm, ⟨23, _⟩ => ⟨S1x1x1024, .i1⟩
  | .hbm, ⟨24, _⟩ => ⟨S_, .i32⟩
  | .hbm, ⟨25, _⟩ => ⟨S1x1x1024, .i32⟩
  | .hbm, ⟨26, _⟩ => ⟨S1x1x1024, .i32⟩
  | .hbm, ⟨27, _⟩ => ⟨S1x1x1024, .i32⟩
  | .hbm, ⟨28, _⟩ => ⟨S_, .i32⟩
  | .hbm, ⟨29, _⟩ => ⟨S1x1x1024, .i32⟩
  | .hbm, ⟨30, _⟩ => ⟨S1x1x1024, .i32⟩
  | .hbm, ⟨31, _⟩ => ⟨S3, .i32⟩
  | .hbm, ⟨32, _⟩ => ⟨S3x1x1, .i32⟩
  | .hbm, ⟨33, _⟩ => ⟨S3x1x1024, .i32⟩
  | .hbm, ⟨34, _⟩ => ⟨S3x1x1024, .i32⟩
  | .hbm, ⟨35, _⟩ => ⟨S3x1x1024, .i32⟩
  | .hbm, ⟨36, _⟩ => ⟨S3x128x1024, .i32⟩
  | .hbm, ⟨37, _⟩ => ⟨S3x128x1024, .i32⟩
  | .hbm, ⟨38, _⟩ => ⟨S3x128x1024, .i1⟩
  | .hbm, ⟨39, _⟩ => ⟨S3x128x1024, .bf16⟩
  | .hbm, ⟨40, _⟩ => ⟨S1024x1024, .bf16⟩
  | .hbm, ⟨41, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S3x128x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S16384x128 : Shape := ⟨2, ![16384, 128]⟩
abbrev S1024x1024 : Shape := ⟨2, ![1024, 1024]⟩
abbrev S16384x48 : Shape := ⟨2, ![16384, 48]⟩
abbrev S_ : Shape := ⟨0, ![]⟩
abbrev S16384x16x3 : Shape := ⟨3, ![16384, 16, 3]⟩
abbrev S16384x16x1 : Shape := ⟨3, ![16384, 16, 1]⟩
abbrev S16384x16x64 : Shape := ⟨3, ![16384, 16, 64]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S16384x48, .f32⟩
  | .hbm, ⟨7, _⟩ => ⟨S16384x48, .f32⟩
  | .hbm, ⟨8, _⟩ => ⟨S16384x48, .f32⟩
  | .hbm, ⟨9, _⟩ => ⟨S_, .f32⟩
  | .hbm, ⟨10, _⟩ => ⟨S16384x48, .f32⟩
  | .hbm, ⟨11, _⟩ => ⟨S16384x48, .f32⟩
  | .hbm, ⟨12, _⟩ => ⟨S_, .f32⟩
  | .hbm, ⟨13, _⟩ => ⟨S16384x48, .f32⟩
  | .hbm, ⟨14, _⟩ => ⟨S16384x48, .f32⟩
  | .hbm, ⟨15, _⟩ => ⟨S16384x16x3, .f32⟩
  | .hbm, ⟨16, _⟩ => ⟨S16384x16x1, .f32⟩
  | .hbm, ⟨17, _⟩ => ⟨S16384x16x64, .f32⟩
  | .hbm, ⟨18, _⟩ => ⟨S16384x16x64, .f32⟩
  | .hbm, ⟨19, _⟩ => ⟨S16384x16x64, .f32⟩
  | .hbm, ⟨20, _⟩ => ⟨S16384x16x1, .f32⟩
  | .hbm, ⟨21, _⟩ => ⟨S16384x16x64, .f32⟩
  | .hbm, ⟨22, _⟩ => ⟨S16384x16x64, .f32⟩
  | .hbm, ⟨23, _⟩ => ⟨S16384x16x64, .f32⟩
  | .hbm, ⟨24, _⟩ => ⟨S16384x16x64, .f32⟩
  | .hbm, ⟨25, _⟩ => ⟨S16384x16x1, .f32⟩
  | .hbm, ⟨26, _⟩ => ⟨S16384x16x64, .f32⟩
  | .hbm, ⟨27, _⟩ => ⟨S16384x16x64, .f32⟩
  | .hbm, ⟨28, _⟩ => ⟨S16384x16x64, .f32⟩
  | .hbm, ⟨29, _⟩ => ⟨S16384x16x64, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S4x1024x4096 : Shape := ⟨3, ![4, 1024, 4096]⟩
abbrev S4x4x4096x64 : Shape := ⟨4, ![4, 4, 4096, 64]⟩
abbrev S4x4x64x4096 : Shape := ⟨4, ![4, 4, 64, 4096]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S_ : Shape := ⟨0, ![]⟩
abbrev S4096x64 : Shape := ⟨2, ![4096, 64]⟩
abbrev S4x4x4096x128 : Shape := ⟨4, ![4, 4, 4096, 128]⟩
abbrev S16 : Shape := ⟨1, ![16]⟩
abbrev S4x4096x1024 : Shape := ⟨3, ![4, 4096, 1024]⟩
abbrev S1x256x128 : Shape := ⟨3, ![1, 256, 128]⟩
abbrev S1x1x4096x128 : Shape := ⟨4, ![1, 1, 4096, 128]⟩
abbrev S1x1x64x4096 : Shape := ⟨4, ![1, 1, 64, 4096]⟩
abbrev S1x128x256 : Shape := ⟨3, ![1, 128, 256]⟩
abbrev S1x512 : Shape := ⟨2, ![1, 512]⟩
abbrev S64x512 : Shape := ⟨2, ![64, 512]⟩
abbrev S1 : Shape := ⟨1, ![1]⟩
abbrev S256x128 : Shape := ⟨2, ![256, 128]⟩
abbrev S64x128 : Shape := ⟨2, ![64, 128]⟩
abbrev S128x512 : Shape := ⟨2, ![128, 512]⟩
abbrev S1x1x128x128 : Shape := ⟨4, ![1, 1, 128, 128]⟩
abbrev S128x128 : Shape := ⟨2, ![128, 128]⟩
abbrev S1x1x64x128 : Shape := ⟨4, ![1, 1, 64, 128]⟩
abbrev S512 : Shape := ⟨1, ![512]⟩
abbrev S128x64 : Shape := ⟨2, ![128, 64]⟩
abbrev S128x256 : Shape := ⟨2, ![128, 256]⟩

abbrev nBuf : Space → Nat
  | .hbm => 39
  | .vmem => 11
  | .smem => 2
  | _ => 0

abbrev bufTy : (tb : Table) → Fin (tcTables nBuf tb) → BufTy
  | .hbm, ⟨0, _⟩ => ⟨S4x1024x4096, .bf16⟩
  | .hbm, ⟨1, _⟩ => ⟨S4x4x4096x64, .bf16⟩
  | .hbm, ⟨2, _⟩ => ⟨S4x4x64x4096, .f32⟩
  | .hbm, ⟨3, _⟩ => ⟨S4096, .i32⟩
  | .hbm, ⟨4, _⟩ => ⟨S4096x1, .i32⟩
  | .hbm, ⟨5, _⟩ => ⟨S64, .i32⟩
  | .hbm, ⟨6, _⟩ => ⟨S1x64, .i32⟩
  | .hbm, ⟨7, _⟩ => ⟨S_, .i32⟩
  | .hbm, ⟨8, _⟩ => ⟨S1x64, .i32⟩
  | .hbm, ⟨9, _⟩ => ⟨S1x64, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S_, .i32⟩
  | .hbm, ⟨14, _⟩ => ⟨S_, .i32⟩
  | .hbm, ⟨15, _⟩ => ⟨S4096x64, .i1⟩
  | .hbm, ⟨16, _⟩ => ⟨S4096x64, .i32⟩
  | .hbm, ⟨17, _⟩ => ⟨S4096x64, .i32⟩
  | .hbm, ⟨18, _⟩ => ⟨S4096x64, .i32⟩
  | .hbm, ⟨19, _⟩ => ⟨S4096x64, .bf16⟩
  | .hbm, ⟨20, _⟩ => ⟨S4x4x4096x64, .bf16⟩
  | .hbm, ⟨21, _⟩ => ⟨S4x4x4096x128, .bf16⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S4x4096x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x64x4096, .f32⟩
  | .local _ .vmem, ⟨5, _⟩ => ⟨S1x1x64x4096, .f32⟩
  | .local _ .vmem, ⟨6, _⟩ => ⟨S1x128x256, .f32⟩
  | .local _ .vmem, ⟨7, _⟩ => ⟨S1x128x256, .f32⟩
  | .local _ .vmem, ⟨8, _⟩ => ⟨S1x512, .f32⟩
  | .local _ .vmem, ⟨9, _⟩ => ⟨S1x512, .f32⟩
  | .local _ .vmem, ⟨10, _⟩ => ⟨S64x512, .f32⟩
  | .local _ .smem, ⟨0, _⟩ => ⟨S16, .f32⟩
  | .local _ .smem, ⟨1, _⟩ => ⟨S16, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 32], ![false, false, false]⟩

def k0_off1 (i : grid0.Coords) (c0_i32 : BitVec 32) : Fin 1 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![v2.toNat]
def k0_cond1 (i : grid0.Coords) : BitVec 1 :=
  let arg2 : BitVec 32 := BitVec.ofNat 32 (i 2).val
  let c4_i32_32 : BitVec 32 := 4#32
  let v108 : BitVec 32 := Scalar.subi arg2 c4_i32_32
  let c0_i32_33 : BitVec 32 := 0#32
  let v109 : BitVec 32 := Scalar.addi v108 c0_i32_33
  let c0_i32_34 : BitVec 32 := 0#32
  let v110 : BitVec 1 := Scalar.cmpi .sge v109 c0_i32_34
  let v111 : BitVec 32 := Scalar.extui v110
  let c0_i32_35 : BitVec 32 := 0#32
  let v112 : BitVec 1 := Scalar.cmpi .ne v111 c0_i32_35
  v112

def k0_mult1 (i : grid0.Coords) : BitVec 32 :=
  let arg2 : BitVec 32 := BitVec.ofNat 32 (i 2).val
  let c4_i32_32 : BitVec 32 := 4#32
  let v108 : BitVec 32 := Scalar.subi arg2 c4_i32_32
  let c0_i32_33 : BitVec 32 := 0#32
  let v109 : BitVec 32 := Scalar.addi v108 c0_i32_33
  let c128_i32 : BitVec 32 := 128#32
  let v149 : BitVec 32 := Scalar.muli v109 c128_i32
  v149
def k0_off2 (i : grid0.Coords) : Fin 4 → Nat :=
  let c0_59 : Index := 0#32
  let c0_60 : Index := 0#32
  let arg2 : BitVec 32 := BitVec.ofNat 32 (i 2).val
  let c4_i32_32 : BitVec 32 := 4#32
  let v108 : BitVec 32 := Scalar.subi arg2 c4_i32_32
  let c0_i32_33 : BitVec 32 := 0#32
  let v109 : BitVec 32 := Scalar.addi v108 c0_i32_33
  let c128_i32 : BitVec 32 := 128#32
  let v149 : BitVec 32 := Scalar.muli v109 c128_i32
  let v150 : BitVec 32 := v149
  let v151 : Index := Scalar.indexCast v150
  let c0_61 : Index := 0#32
  ![0, 0, v151.toNat, 0]
def k0_mult2 (i : grid0.Coords) : BitVec 32 :=
  let arg2 : BitVec 32 := BitVec.ofNat 32 (i 2).val
  let c4_i32_32 : BitVec 32 := 4#32
  let v108 : BitVec 32 := Scalar.subi arg2 c4_i32_32
  let c0_i32_33 : BitVec 32 := 0#32
  let v109 : BitVec 32 := Scalar.addi v108 c0_i32_33
  let c128_i32_65 : BitVec 32 := 128#32
  let v160 : BitVec 32 := Scalar.muli v109 c128_i32_65
  v160
def k0_off3 (i : grid0.Coords) : Fin 4 → Nat :=
  let c0_66 : Index := 0#32
  let c0_67 : Index := 0#32
  let c0_68 : Index := 0#32
  let arg2 : BitVec 32 := BitVec.ofNat 32 (i 2).val
  let c4_i32_32 : BitVec 32 := 4#32
  let v108 : BitVec 32 := Scalar.subi arg2 c4_i32_32
  let c0_i32_33 : BitVec 32 := 0#32
  let v109 : BitVec 32 := Scalar.addi v108 c0_i32_33
  let c128_i32_65 : BitVec 32 := 128#32
  let v160 : BitVec 32 := Scalar.muli v109 c128_i32_65
  let v161 : BitVec 32 := v160
  let v162 : Index := Scalar.indexCast v161
  ![0, 0, 0, v162.toNat]
def k0_cond2 (i : grid0.Coords) : BitVec 1 :=
  let arg2 : BitVec 32 := BitVec.ofNat 32 (i 2).val
  let c4_i32_36 : BitVec 32 := 4#32
  let v113 : BitVec 32 := Scalar.subi arg2 c4_i32_36
  let c1_i32_37 : BitVec 32 := 1#32
  let v114 : BitVec 32 := Scalar.addi v113 c1_i32_37
  let c0_i32_38 : BitVec 32 := 0#32
  let v115 : BitVec 1 := Scalar.cmpi .sge v114 c0_i32_38
  let v116 : BitVec 32 := Scalar.extui v115
  let c0_i32_39 : BitVec 32 := 0#32
  let v117 : BitVec 1 := Scalar.cmpi .ne v116 c0_i32_39
  v117

def k0_mult3 (i : grid0.Coords) : BitVec 32 :=
  let arg2 : BitVec 32 := BitVec.ofNat 32 (i 2).val
  let c4_i32_36 : BitVec 32 := 4#32
  let v113 : BitVec 32 := Scalar.subi arg2 c4_i32_36
  let c1_i32_37 : BitVec 32 := 1#32
  let v114 : BitVec 32 := Scalar.addi v113 c1_i32_37
  let c128_i32 : BitVec 32 := 128#32
  let v149 : BitVec 32 := Scalar.muli v114 c128_i32
  v149
def k0_off4 (i : grid0.Coords) : Fin 4 → Nat :=
  let c0_59 : Index := 0#32
  let c0_60 : Index := 0#32
  let arg2 : BitVec 32 := BitVec.ofNat 32 (i 2).val
  let c4_i32_36 : BitVec 32 := 4#32
  let v113 : BitVec 32 := Scalar.subi arg2 c4_i32_36
  let c1_i32_37 : BitVec 32 := 1#32
  let v114 : BitVec 32 := Scalar.addi v113 c1_i32_37
  let c128_i32 : BitVec 32 := 128#32
  let v149 : BitVec 32 := Scalar.muli v114 c128_i32
  let v150 : BitVec 32 := v149
  let v151 : Index := Scalar.indexCast v150
  let c0_61 : Index := 0#32
  ![0, 0, v151.toNat, 0]
def k0_mult4 (i : grid0.Coords) : BitVec 32 :=
  let arg2 : BitVec 32 := BitVec.ofNat 32 (i 2).val
  let c4_i32_36 : BitVec 32 := 4#32
  let v113 : BitVec 32 := Scalar.subi arg2 c4_i32_36
  let c1_i32_37 : BitVec 32 := 1#32
  let v114 : BitVec 32 := Scalar.addi v113 c1_i32_37
  let c128_i32_64 : BitVec 32 := 128#32
  let v157 : BitVec 32 := Scalar.muli v114 c128_i32_64
  v157
def k0_off5 (i : grid0.Coords) : Fin 4 → Nat :=
  let c0_65 : Index := 0#32
  let c0_66 : Index := 0#32
  let c0_67 : Index := 0#32
  let arg2 : BitVec 32 := BitVec.ofNat 32 (i 2).val
  let c4_i32_36 : BitVec 32 := 4#32
  let v113 : BitVec 32 := Scalar.subi arg2 c4_i32_36
  let c1_i32_37 : BitVec 32 := 1#32
  let v114 : BitVec 32 := Scalar.addi v113 c1_i32_37
  let c128_i32_64 : BitVec 32 := 128#32
  let v157 : BitVec 32 := Scalar.muli v114 c128_i32_64
  let v158 : BitVec 32 := v157
  let v159 : Index := Scalar.indexCast v158
  ![0, 0, 0, v159.toNat]
def k0_cond3 (i : grid0.Coords) : BitVec 1 :=
  let arg2 : BitVec 32 := BitVec.ofNat 32 (i 2).val
  let c4_i32_40 : BitVec 32 := 4#32
  let v118 : BitVec 32 := Scalar.subi arg2 c4_i32_40
  let c2_i32_41 : BitVec 32 := 2#32
  let v119 : BitVec 32 := Scalar.addi v118 c2_i32_41
  let c0_i32_42 : BitVec 32 := 0#32
  let v120 : BitVec 1 := Scalar.cmpi .sge v119 c0_i32_42
  let v121 : BitVec 32 := Scalar.extui v120
  let c0_i32_43 : BitVec 32 := 0#32
  let v122 : BitVec 1 := Scalar.cmpi .ne v121 c0_i32_43
  v122

def k0_mult5 (i : grid0.Coords) : BitVec 32 :=
  let arg2 : BitVec 32 := BitVec.ofNat 32 (i 2).val
  let c4_i32_40 : BitVec 32 := 4#32
  let v118 : BitVec 32 := Scalar.subi arg2 c4_i32_40
  let c2_i32_41 : BitVec 32 := 2#32
  let v119 : BitVec 32 := Scalar.addi v118 c2_i32_41
  let c128_i32 : BitVec 32 := 128#32
  let v149 : BitVec 32 := Scalar.muli v119 c128_i32
  v149
def k0_off6 (i : grid0.Coords) : Fin 4 → Nat :=
  let c0_59 : Index := 0#32
  let c0_60 : Index := 0#32
  let arg2 : BitVec 32 := BitVec.ofNat 32 (i 2).val
  let c4_i32_40 : BitVec 32 := 4#32
  let v118 : BitVec 32 := Scalar.subi arg2 c4_i32_40
  let c2_i32_41 : BitVec 32 := 2#32
  let v119 : BitVec 32 := Scalar.addi v118 c2_i32_41
  let c128_i32 : BitVec 32 := 128#32
  let v149 : BitVec 32 := Scalar.muli v119 c128_i32
  let v150 : BitVec 32 := v149
  let v151 : Index := Scalar.indexCast v150
  let c0_61 : Index := 0#32
  ![0, 0, v151.toNat, 0]
def k0_mult6 (i : grid0.Coords) : BitVec 32 :=
  let arg2 : BitVec 32 := BitVec.ofNat 32 (i 2).val
  let c4_i32_40 : BitVec 32 := 4#32
  let v118 : BitVec 32 := Scalar.subi arg2 c4_i32_40
  let c2_i32_41 : BitVec 32 := 2#32
  let v119 : BitVec 32 := Scalar.addi v118 c2_i32_41
  let c128_i32_64 : BitVec 32 := 128#32
  let v157 : BitVec 32 := Scalar.muli v119 c128_i32_64
  v157
def k0_off7 (i : grid0.Coords) : Fin 4 → Nat :=
  let c0_65 : Index := 0#32
  let c0_66 : Index := 0#32
  let c0_67 : Index := 0#32
  let arg2 : BitVec 32 := BitVec.ofNat 32 (i 2).val
  let c4_i32_40 : BitVec 32 := 4#32
  let v118 : BitVec 32 := Scalar.subi arg2 c4_i32_40
  let c2_i32_41 : BitVec 32 := 2#32
  let v119 : BitVec 32 := Scalar.addi v118 c2_i32_41
  let c128_i32_64 : BitVec 32 := 128#32
  let v157 : BitVec 32 := Scalar.muli v119 c128_i32_64
  let v158 : BitVec 32 := v157
  let v159 : Index := Scalar.indexCast v158
  ![0, 0, 0, v159.toNat]
def k0_cond4 (i : grid0.Coords) : BitVec 1 :=
  let arg2 : BitVec 32 := BitVec.ofNat 32 (i 2).val
  let c4_i32_44 : BitVec 32 := 4#32
  let v123 : BitVec 32 := Scalar.subi arg2 c4_i32_44
  let c3_i32_45 : BitVec 32 := 3#32
  let v124 : BitVec 32 := Scalar.addi v123 c3_i32_45
  let c0_i32_46 : BitVec 32 := 0#32
  let v125 : BitVec 1 := Scalar.cmpi .sge v124 c0_i32_46
  let v126 : BitVec 32 := Scalar.extui v125
  let c0_i32_47 : BitVec 32 := 0#32
  let v127 : BitVec 1 := Scalar.cmpi .ne v126 c0_i32_47
  v127

def k0_mult7 (i : grid0.Coords) : BitVec 32 :=
  let arg2 : BitVec 32 := BitVec.ofNat 32 (i 2).val
  let c4_i32_44 : BitVec 32 := 4#32
  let v123 : BitVec 32 := Scalar.subi arg2 c4_i32_44
  let c3_i32_45 : BitVec 32 := 3#32
  let v124 : BitVec 32 := Scalar.addi v123 c3_i32_45
  let c128_i32 : BitVec 32 := 128#32
  let v149 : BitVec 32 := Scalar.muli v124 c128_i32
  v149
def k0_off8 (i : grid0.Coords) : Fin 4 → Nat :=
  let c0_59 : Index := 0#32
  let c0_60 : Index := 0#32
  let arg2 : BitVec 32 := BitVec.ofNat 32 (i 2).val
  let c4_i32_44 : BitVec 32 := 4#32
  let v123 : BitVec 32 := Scalar.subi arg2 c4_i32_44
  let c3_i32_45 : BitVec 32 := 3#32
  let v124 : BitVec 32 := Scalar.addi v123 c3_i32_45
  let c128_i32 : BitVec 32 := 128#32
  let v149 : BitVec 32 := Scalar.muli v124 c128_i32
  let v150 : BitVec 32 := v149
  let v151 : Index := Scalar.indexCast v150
  let c0_61 : Index := 0#32
  ![0, 0, v151.toNat, 0]
def k0_mult8 (i : grid0.Coords) : BitVec 32 :=
  let arg2 : BitVec 32 := BitVec.ofNat 32 (i 2).val
  let c4_i32_44 : BitVec 32 := 4#32
  let v123 : BitVec 32 := Scalar.subi arg2 c4_i32_44
  let c3_i32_45 : BitVec 32 := 3#32
  let v124 : BitVec 32 := Scalar.addi v123 c3_i32_45
  let c128_i32_64 : BitVec 32 := 128#32
  let v157 : BitVec 32 := Scalar.muli v124 c128_i32_64
  v157
def k0_off9 (i : grid0.Coords) : Fin 4 → Nat :=
  let c0_65 : Index := 0#32
  let c0_66 : Index := 0#32
  let c0_67 : Index := 0#32
  let arg2 : BitVec 32 := BitVec.ofNat 32 (i 2).val
  let c4_i32_44 : BitVec 32 := 4#32
  let v123 : BitVec 32 := Scalar.subi arg2 c4_i32_44
  let c3_i32_45 : BitVec 32 := 3#32
  let v124 : BitVec 32 := Scalar.addi v123 c3_i32_45
  let c128_i32_64 : BitVec 32 := 128#32
  let v157 : BitVec 32 := Scalar.muli v124 c128_i32_64
  let v158 : BitVec 32 := v157
  let v159 : Index := Scalar.indexCast v158
  ![0, 0, 0, v159.toNat]
def k0_cond5 (i : grid0.Coords) : BitVec 1 :=
  let arg2 : BitVec 32 := BitVec.ofNat 32 (i 2).val
  let c4_i32_48 : BitVec 32 := 4#32
  let v128 : BitVec 32 := Scalar.subi arg2 c4_i32_48
  let c4_i32_49 : BitVec 32 := 4#32
  let v129 : BitVec 32 := Scalar.addi v128 c4_i32_49
  let c0_i32_50 : BitVec 32 := 0#32
  let v130 : BitVec 1 := Scalar.cmpi .sge v129 c0_i32_50
  let v131 : BitVec 32 := Scalar.extui v130
  let c0_i32_51 : BitVec 32 := 0#32
  let v132 : BitVec 1 := Scalar.cmpi .ne v131 c0_i32_51
  v132

def k0_mult9 (i : grid0.Coords) : BitVec 32 :=
  let arg2 : BitVec 32 := BitVec.ofNat 32 (i 2).val
  let c4_i32_48 : BitVec 32 := 4#32
  let v128 : BitVec 32 := Scalar.subi arg2 c4_i32_48
  let c4_i32_49 : BitVec 32 := 4#32
  let v129 : BitVec 32 := Scalar.addi v128 c4_i32_49
  let c128_i32 : BitVec 32 := 128#32
  let v149 : BitVec 32 := Scalar.muli v129 c128_i32
  v149
def k0_off10 (i : grid0.Coords) : Fin 4 → Nat :=
  let c0_59 : Index := 0#32
  let c0_60 : Index := 0#32
  let arg2 : BitVec 32 := BitVec.ofNat 32 (i 2).val
  let c4_i32_48 : BitVec 32 := 4#32
  let v128 : BitVec 32 := Scalar.subi arg2 c4_i32_48
  let c4_i32_49 : BitVec 32 := 4#32
  let v129 : BitVec 32 := Scalar.addi v128 c4_i32_49
  let c128_i32 : BitVec 32 := 128#32
  let v149 : BitVec 32 := Scalar.muli v129 c128_i32
  let v150 : BitVec 32 := v149
  let v151 : Index := Scalar.indexCast v150
  let c0_61 : Index := 0#32
  ![0, 0, v151.toNat, 0]
def k0_mult10 (i : grid0.Coords) : BitVec 32 :=
  let arg2 : BitVec 32 := BitVec.ofNat 32 (i 2).val
  let c4_i32_48 : BitVec 32 := 4#32
  let v128 : BitVec 32 := Scalar.subi arg2 c4_i32_48
  let c4_i32_49 : BitVec 32 := 4#32
  let v129 : BitVec 32 := Scalar.addi v128 c4_i32_49
  let c128_i32_65 : BitVec 32 := 128#32
  let v160 : BitVec 32 := Scalar.muli v129 c128_i32_65
  v160
def k0_off11 (i : grid0.Coords) : Fin 4 → Nat :=
  let c0_66 : Index := 0#32
  let c0_67 : Index := 0#32
  let c0_68 : Index := 0#32
  let arg2 : BitVec 32 := BitVec.ofNat 32 (i 2).val
  let c4_i32_48 : BitVec 32 := 4#32
  let v128 : BitVec 32 := Scalar.subi arg2 c4_i32_48
  let c4_i32_49 : BitVec 32 := 4#32
  let v129 : BitVec 32 := Scalar.addi v128 c4_i32_49
  let c128_i32_65 : BitVec 32 := 128#32
  let v160 : BitVec 32 := Scalar.muli v129 c128_i32_65
  let v161 : BitVec 32 := v160
  let v162 : Index := Scalar.indexCast v161
  ![0, 0, 0, v162.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel8Ideal.lean ====
variable {F : FTy → Type} [FloatOps F] [Named F]
def κ : String → Option EReal := fun
  | "masked" => some ⊥
  | _ => none
-- ==== Reference8Ideal.lean ====
abbrev S4x1024x4096 : Shape := ⟨3, ![4, 1024, 4096]⟩
abbrev S4x4x4096x64 : Shape := ⟨4, ![4, 4, 4096, 64]⟩
abbrev S4x4x64x4096 : Shape := ⟨4, ![4, 4, 64, 4096]⟩
abbrev S4x4x4x64x4096 : Shape := ⟨5, ![4, 4, 4, 64, 4096]⟩
abbrev S4x4x4x4096x4096 : Shape := ⟨5, ![4, 4, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16 : Shape := ⟨1, ![16]⟩
abbrev S4x4 : Shape := ⟨2, ![4, 4]⟩
abbrev S4x4x1x1 : Shape := ⟨4, ![4, 4, 1, 1]⟩
abbrev S1x1x4096x4096 : Shape := ⟨4, ![1, 1, 4096, 4096]⟩
abbrev S4x4x4096x4096 : Shape := ⟨4, ![4, 4, 4096, 4096]⟩
abbrev S1x4x4x4096x4096 : Shape := ⟨5, ![1, 4, 4, 4096, 4096]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x4096x4x4x64 : Shape := ⟨5, ![4, 4096, 4, 4, 64]⟩
abbrev S4x4096x4x4 : Shape := ⟨4, ![4, 4096, 4, 4]⟩
abbrev S4x4096x4x4x1 : Shape := ⟨5, ![4, 4096, 4, 4, 1]⟩
abbrev S4x4096x1024 : Shape := ⟨3, ![4, 4096, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x4x4096x64, .bf16⟩
  | .hbm, ⟨2, _⟩ => ⟨S4x4x64x4096, .f32⟩
  | .hbm, ⟨3, _⟩ => ⟨S4x1024x4096, .f32⟩
  | .hbm, ⟨4, _⟩ => ⟨S4x4x4x64x4096, .f32⟩
  | .hbm, ⟨5, _⟩ => ⟨S4x4x4096x64, .f32⟩
  | .hbm, ⟨6, _⟩ => ⟨S4x4x4x4096x4096, .f32⟩
  | .hbm, ⟨7, _⟩ => ⟨S4096, .i32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S4096x4096, .i1⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S4x4, .f32⟩
  | .hbm, ⟨35, _⟩ => ⟨S4x4x1x1, .f32⟩
  | .hbm, ⟨36, _⟩ => ⟨S4096x4096, .f32⟩
  | .hbm, ⟨37, _⟩ => ⟨S1x1x4096x4096, .f32⟩
  | .hbm, ⟨38, _⟩ => ⟨S4x4x4096x4096, .f32⟩
  | .hbm, ⟨39, _⟩ => ⟨S4x4x4096x4096, .f32⟩
  | .hbm, ⟨40, _⟩ => ⟨S4x4x4096x4096, .f32⟩
  | .hbm, ⟨41, _⟩ => ⟨S1x4x4x4096x4096, .f32⟩
  | .hbm, ⟨42, _⟩ => ⟨S4x4x4x4096x4096, .f32⟩
  | .hbm, ⟨43, _⟩ => ⟨S4x4x4x4096x4096, .f32⟩
  | .hbm, ⟨44, _⟩ => ⟨S_, .f32⟩
  | .hbm, ⟨45, _⟩ => ⟨S_, .f32⟩
  | .hbm, ⟨46, _⟩ => ⟨S4x4x4x4096x4096, .i1⟩
  | .hbm, ⟨47, _⟩ => ⟨S4x4x4x4096x4096, .f32⟩
  | .hbm, ⟨48, _⟩ => ⟨S4x4x4x4096x4096, .f32⟩
  | .hbm, ⟨49, _⟩ => ⟨S_, .f32⟩
  | .hbm, ⟨50, _⟩ => ⟨S4x4x4x4096, .f32⟩
  | .hbm, ⟨51, _⟩ => ⟨S4x4x4x4096x1, .f32⟩
  | .hbm, ⟨52, _⟩ => ⟨S4x4x4x4096x4096, .f32⟩
  | .hbm, ⟨53, _⟩ => ⟨S4x4x4x4096x4096, .f32⟩
  | .hbm, ⟨54, _⟩ => ⟨S4x4x4x4096x4096, .f32⟩
  | .hbm, ⟨55, _⟩ => ⟨S4x4x64x4x4096, .f32⟩
  | .hbm, ⟨56, _⟩ => ⟨S4x4096x4x4x64, .f32⟩
  | .hbm, ⟨57, _⟩ => ⟨S_, .f32⟩
  | .hbm, ⟨58, _⟩ => ⟨S4x4x4x4096, .f32⟩
  | .hbm, ⟨59, _⟩ => ⟨S4x4096x4x4, .f32⟩
  | .hbm, ⟨60, _⟩ => ⟨S4x4096x4x4x1, .f32⟩
  | .hbm, ⟨61, _⟩ => ⟨S4x4096x4x4x64, .f32⟩
  | .hbm, ⟨62, _⟩ => ⟨S4x4096x4x4x64, .f32⟩
  | .hbm, ⟨63, _⟩ => ⟨S4x4096x1024, .f32⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel9.lean ====
abbrev S4x1024x4096 : Shape := ⟨3, ![4, 1024, 4096]⟩
abbrev S4x4x4096x64 : Shape := ⟨4, ![4, 4, 4096, 64]⟩
abbrev S4x4x64x4096 : Shape := ⟨4, ![4, 4, 64, 4096]⟩
abbrev S16 : Shape := ⟨1, ![16]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S_ : Shape := ⟨0, ![]⟩
abbrev S4096x64 : Shape := ⟨2, ![4096, 64]⟩
abbrev S4x4x4096x128 : Shape := ⟨4, ![4, 4, 4096, 128]⟩
abbrev S4x4096x1024 : Shape := ⟨3, ![4, 4096, 1024]⟩
abbrev S1x256x128 : Shape := ⟨3, ![1, 256, 128]⟩
abbrev S1x1x4096x128 : Shape := ⟨4, ![1, 1, 4096, 128]⟩
abbrev S1x1x64x4096 : Shape := ⟨4, ![1, 1, 64, 4096]⟩
abbrev S1x128x256 : Shape := ⟨3, ![1, 128, 256]⟩
abbrev S1x512 : Shape := ⟨2, ![1, 512]⟩
abbrev S64x512 : Shape := ⟨2, ![64, 512]⟩
abbrev S1 : Shape := ⟨1, ![1]⟩
abbrev S256x128 : Shape := ⟨2, ![256, 128]⟩
abbrev S64x128 : Shape := ⟨2, ![64, 128]⟩
abbrev S128x512 : Shape := ⟨2, ![128, 512]⟩
abbrev S1x1x128x128 : Shape := ⟨4, ![1, 1, 128, 128]⟩
abbrev S128x128 : Shape := ⟨2, ![128, 128]⟩
abbrev S1x1x64x128 : Shape := ⟨4, ![1, 1, 64, 128]⟩
abbrev S512 : Shape := ⟨1, ![512]⟩
abbrev S128x64 : Shape := ⟨2, ![128, 64]⟩
abbrev S128x256 : Shape := ⟨2, ![128, 256]⟩

abbrev nBuf : Space → Nat
  | .hbm => 38
  | .vmem => 11
  | .smem => 2
  | _ => 0

abbrev bufTy : (tb : Table) → Fin (tcTables nBuf tb) → BufTy
  | .hbm, ⟨0, _⟩ => ⟨S4x1024x4096, .bf16⟩
  | .hbm, ⟨1, _⟩ => ⟨S4x4x4096x64, .bf16⟩
  | .hbm, ⟨2, _⟩ => ⟨S4x4x64x4096, .f32⟩
  | .hbm, ⟨3, _⟩ => ⟨S16, .f32⟩
  | .hbm, ⟨4, _⟩ => ⟨S4096, .i32⟩
  | .hbm, ⟨5, _⟩ => ⟨S4096x1, .i32⟩
  | .hbm, ⟨6, _⟩ => ⟨S64, .i32⟩
  | .hbm, ⟨7, _⟩ => ⟨S1x64, .i32⟩
  | .hbm, ⟨8, _⟩ => ⟨S_, .i32⟩
  | .hbm, ⟨9, _⟩ => ⟨S1x64, .i32⟩
  | .hbm, ⟨10, _⟩ => ⟨S1x64, .i1⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S_, .i32⟩
  | .hbm, ⟨16, _⟩ => ⟨S4096x64, .i1⟩
  | .hbm, ⟨17, _⟩ => ⟨S4096x64, .i32⟩
  | .hbm, ⟨18, _⟩ => ⟨S4096x64, .i32⟩
  | .hbm, ⟨19, _⟩ => ⟨S4096x64, .i32⟩
  | .hbm, ⟨20, _⟩ => ⟨S4096x64, .bf16⟩
  | .hbm, ⟨21, _⟩ => ⟨S4x4x4096x64, .bf16⟩
  | .hbm, ⟨22, _⟩ => ⟨S4x4x4096x128, .bf16⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S4x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x64x4096, .f32⟩
  | .local _ .vmem, ⟨5, _⟩ => ⟨S1x1x64x4096, .f32⟩
  | .local _ .vmem, ⟨6, _⟩ => ⟨S1x128x256, .bf16⟩
  | .local _ .vmem, ⟨7, _⟩ => ⟨S1x128x256, .bf16⟩
  | .local _ .vmem, ⟨8, _⟩ => ⟨S1x512, .f32⟩
  | .local _ .vmem, ⟨9, _⟩ => ⟨S1x512, .f32⟩
  | .local _ .vmem, ⟨10, _⟩ => ⟨S64x512, .f32⟩
  | .local _ .smem, ⟨0, _⟩ => ⟨S16, .f32⟩
  | .local _ .smem, ⟨1, _⟩ => ⟨S16, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 32], ![false, false, false]⟩

def k0_off1 (i : grid0.Coords) (c0_i32 : BitVec 32) : Fin 1 → Nat :=
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![v2.toNat]
def k0_cond1 (i : grid0.Coords) : BitVec 1 :=
  let arg2 : BitVec 32 := BitVec.ofNat 32 (i 2).val
  let c1_i32_44 : BitVec 32 := 1#32
  let v145 : BitVec 32 := Scalar.subi arg2 c1_i32_44
  let c0_i32_45 : BitVec 32 := 0#32
  let v146 : BitVec 32 := Scalar.addi v145 c0_i32_45
  let c0_i32_46 : BitVec 32 := 0#32
  let v147 : BitVec 1 := Scalar.cmpi .sge v146 c0_i32_46
  let v148 : BitVec 32 := Scalar.extui v147
  let c0_i32_47 : BitVec 32 := 0#32
  let v149 : BitVec 1 := Scalar.cmpi .ne v148 c0_i32_47
  v149

def k0_mult1 (i : grid0.Coords) : BitVec 32 :=
  let arg2 : BitVec 32 := BitVec.ofNat 32 (i 2).val
  let c1_i32_44 : BitVec 32 := 1#32
  let v145 : BitVec 32 := Scalar.subi arg2 c1_i32_44
  let c0_i32_45 : BitVec 32 := 0#32
  let v146 : BitVec 32 := Scalar.addi v145 c0_i32_45
  let c128_i32 : BitVec 32 := 128#32
  let v172 : BitVec 32 := Scalar.muli v146 c128_i32
  v172
def k0_off2 (i : grid0.Coords) : Fin 4 → Nat :=
  let c0_59 : Index := 0#32
  let c0_60 : Index := 0#32
  let arg2 : BitVec 32 := BitVec.ofNat 32 (i 2).val
  let c1_i32_44 : BitVec 32 := 1#32
  let v145 : BitVec 32 := Scalar.subi arg2 c1_i32_44
  let c0_i32_45 : BitVec 32 := 0#32
  let v146 : BitVec 32 := Scalar.addi v145 c0_i32_45
  let c128_i32 : BitVec 32 := 128#32
  let v172 : BitVec 32 := Scalar.muli v146 c128_i32
  let v173 : BitVec 32 := v172
  let v174 : Index := Scalar.indexCast v173
  let c0_61 : Index := 0#32
  ![0, 0, v174.toNat, 0]
def k0_mult2 (i : grid0.Coords) : BitVec 32 :=
  let arg2 : BitVec 32 := BitVec.ofNat 32 (i 2).val
  let c1_i32_44 : BitVec 32 := 1#32
  let v145 : BitVec 32 := Scalar.subi arg2 c1_i32_44
  let c0_i32_45 : BitVec 32 := 0#32
  let v146 : BitVec 32 := Scalar.addi v145 c0_i32_45
  let c128_i32_65 : BitVec 32 := 128#32
  let v183 : BitVec 32 := Scalar.muli v146 c128_i32_65
  v183
def k0_off3 (i : grid0.Coords) : Fin 4 → Nat :=
  let c0_66 : Index := 0#32
  let c0_67 : Index := 0#32
  let c0_68 : Index := 0#32
  let arg2 : BitVec 32 := BitVec.ofNat 32 (i 2).val
  let c1_i32_44 : BitVec 32 := 1#32
  let v145 : BitVec 32 := Scalar.subi arg2 c1_i32_44
  let c0_i32_45 : BitVec 32 := 0#32
  let v146 : BitVec 32 := Scalar.addi v145 c0_i32_45
  let c128_i32_65 : BitVec 32 := 128#32
  let v183 : BitVec 32 := Scalar.muli v146 c128_i32_65
  let v184 : BitVec 32 := v183
  let v185 : Index := Scalar.indexCast v184
  ![0, 0, 0, v185.toNat]
def k0_cond2 (i : grid0.Coords) : BitVec 1 :=
  let arg2 : BitVec 32 := BitVec.ofNat 32 (i 2).val
  let c1_i32_48 : BitVec 32 := 1#32
  let v150 : BitVec 32 := Scalar.subi arg2 c1_i32_48
  let c1_i32_49 : BitVec 32 := 1#32
  let v151 : BitVec 32 := Scalar.addi v150 c1_i32_49
  let c0_i32_50 : BitVec 32 := 0#32
  let v152 : BitVec 1 := Scalar.cmpi .sge v151 c0_i32_50
  let v153 : BitVec 32 := Scalar.extui v152
  let c0_i32_51 : BitVec 32 := 0#32
  let v154 : BitVec 1 := Scalar.cmpi .ne v153 c0_i32_51
  v154

def k0_mult3 (i : grid0.Coords) : BitVec 32 :=
  let arg2 : BitVec 32 := BitVec.ofNat 32 (i 2).val
  let c1_i32_48 : BitVec 32 := 1#32
  let v150 : BitVec 32 := Scalar.subi arg2 c1_i32_48
  let c1_i32_49 : BitVec 32 := 1#32
  let v151 : BitVec 32 := Scalar.addi v150 c1_i32_49
  let c128_i32 : BitVec 32 := 128#32
  let v172 : BitVec 32 := Scalar.muli v151 c128_i32
  v172
def k0_off4 (i : grid0.Coords) : Fin 4 → Nat :=
  let c0_59 : Index := 0#32
  let c0_60 : Index := 0#32
  let arg2 : BitVec 32 := BitVec.ofNat 32 (i 2).val
  let c1_i32_48 : BitVec 32 := 1#32
  let v150 : BitVec 32 := Scalar.subi arg2 c1_i32_48
  let c1_i32_49 : BitVec 32 := 1#32
  let v151 : BitVec 32 := Scalar.addi v150 c1_i32_49
  let c128_i32 : BitVec 32 := 128#32
  let v172 : BitVec 32 := Scalar.muli v151 c128_i32
  let v173 : BitVec 32 := v172
  let v174 : Index := Scalar.indexCast v173
  let c0_61 : Index := 0#32
  ![0, 0, v174.toNat, 0]
def k0_mult4 (i : grid0.Coords) : BitVec 32 :=
  let arg2 : BitVec 32 := BitVec.ofNat 32 (i 2).val
  let c1_i32_48 : BitVec 32 := 1#32
  let v150 : BitVec 32 := Scalar.subi arg2 c1_i32_48
  let c1_i32_49 : BitVec 32 := 1#32
  let v151 : BitVec 32 := Scalar.addi v150 c1_i32_49
  let c128_i32_65 : BitVec 32 := 128#32
  let v183 : BitVec 32 := Scalar.muli v151 c128_i32_65
  v183
def k0_off5 (i : grid0.Coords) : Fin 4 → Nat :=
  let c0_66 : Index := 0#32
  let c0_67 : Index := 0#32
  let c0_68 : Index := 0#32
  let arg2 : BitVec 32 := BitVec.ofNat 32 (i 2).val
  let c1_i32_48 : BitVec 32 := 1#32
  let v150 : BitVec 32 := Scalar.subi arg2 c1_i32_48
  let c1_i32_49 : BitVec 32 := 1#32
  let v151 : BitVec 32 := Scalar.addi v150 c1_i32_49
  let c128_i32_65 : BitVec 32 := 128#32
  let v183 : BitVec 32 := Scalar.muli v151 c128_i32_65
  let v184 : BitVec 32 := v183
  let v185 : Index := Scalar.indexCast v184
  ![0, 0, 0, v185.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel9Ideal.lean ====
variable {F : FTy → Type} [FloatOps F] [Named F]
def κ : String → Option EReal := fun
  | "masked" => some ⊥
  | _ => none
-- ==== Reference9Ideal.lean ====
abbrev S4x1024x4096 : Shape := ⟨3, ![4, 1024, 4096]⟩
abbrev S4x4x4096x64 : Shape := ⟨4, ![4, 4, 4096, 64]⟩
abbrev S4x4x64x4096 : Shape := ⟨4, ![4, 4, 64, 4096]⟩
abbrev S16 : Shape := ⟨1, ![16]⟩
abbrev S4x4x4x64x4096 : Shape := ⟨5, ![4, 4, 4, 64, 4096]⟩
abbrev S4x4x4x4096x4096 : Shape := ⟨5, ![4, 4, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4 : Shape := ⟨2, ![4, 4]⟩
abbrev S4x4x1x1 : Shape := ⟨4, ![4, 4, 1, 1]⟩
abbrev S1x1x4096x4096 : Shape := ⟨4, ![1, 1, 4096, 4096]⟩
abbrev S4x4x4096x4096 : Shape := ⟨4, ![4, 4, 4096, 4096]⟩
abbrev S1x4x4x4096x4096 : Shape := ⟨5, ![1, 4, 4, 4096, 4096]⟩
abbrev S4x4x4x4096 : Shape := ⟨4, ![4, 4, 4, 4096]⟩
abbrev S4x4x4x4096x1 : Shape := ⟨5, ![4, 4, 4, 4096, 1]⟩
abbrev S1x4x4x1x1 : Shape := ⟨5, ![1, 4, 4, 1, 1]⟩
abbrev S4x4x64x4x4096 : Shape := ⟨5, ![4, 4, 64, 4, 4096]⟩
abbrev S4x4096x4x4x64 : Shape := ⟨5, ![4, 4096, 4, 4, 64]⟩
abbrev S4x4096x4x4x1 : Shape := ⟨5, ![4, 4096, 4, 4, 1]⟩
abbrev S4x4096x1024 : Shape := ⟨3, ![4, 4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S4x4x4096x64, .bf16⟩
  | .hbm, ⟨2, _⟩ => ⟨S4x4x64x4096, .f32⟩
  | .hbm, ⟨3, _⟩ => ⟨S16, .f32⟩
  | .hbm, ⟨4, _⟩ => ⟨S4x1024x4096, .f32⟩
  | .hbm, ⟨5, _⟩ => ⟨S4x4x4x64x4096, .f32⟩
  | .hbm, ⟨6, _⟩ => ⟨S4x4x4096x64, .f32⟩
  | .hbm, ⟨7, _⟩ => ⟨S4x4x4x4096x4096, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i1⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S4096x4096, .i1⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S4x4, .f32⟩
  | .hbm, ⟨36, _⟩ => ⟨S4x4x1x1, .f32⟩
  | .hbm, ⟨37, _⟩ => ⟨S4096x4096, .f32⟩
  | .hbm, ⟨38, _⟩ => ⟨S1x1x4096x4096, .f32⟩
  | .hbm, ⟨39, _⟩ => ⟨S4x4x4096x4096, .f32⟩
  | .hbm, ⟨40, _⟩ => ⟨S4x4x4096x4096, .f32⟩
  | .hbm, ⟨41, _⟩ => ⟨S4x4x4096x4096, .f32⟩
  | .hbm, ⟨42, _⟩ => ⟨S1x4x4x4096x4096, .f32⟩
  | .hbm, ⟨43, _⟩ => ⟨S4x4x4x4096x4096, .f32⟩
  | .hbm, ⟨44, _⟩ => ⟨S4x4x4x4096x4096, .f32⟩
  | .hbm, ⟨45, _⟩ => ⟨S_, .f32⟩
  | .hbm, ⟨46, _⟩ => ⟨S_, .f32⟩
  | .hbm, ⟨47, _⟩ => ⟨S4x4x4x4096x4096, .i1⟩
  | .hbm, ⟨48, _⟩ => ⟨S4x4x4x4096x4096, .f32⟩
  | .hbm, ⟨49, _⟩ => ⟨S4x4x4x4096x4096, .f32⟩
  | .hbm, ⟨50, _⟩ => ⟨S4x4, .f32⟩
  | .hbm, ⟨51, _⟩ => ⟨S4x4x1x1, .f32⟩
  | .hbm, ⟨52, _⟩ => ⟨S_, .f32⟩
  | .hbm, ⟨53, _⟩ => ⟨S4x4x4x4096, .f32⟩
  | .hbm, ⟨54, _⟩ => ⟨S4x4x4x4096x1, .f32⟩
  | .hbm, ⟨55, _⟩ => ⟨S1x4x4x1x1, .f32⟩
  | .hbm, ⟨56, _⟩ => ⟨S4x4x4x4096x1, .f32⟩
  | .hbm, ⟨57, _⟩ => ⟨S4x4x4x4096x1, .f32⟩
  | .hbm, ⟨58, _⟩ => ⟨S4x4x4x4096x4096, .f32⟩
  | .hbm, ⟨59, _⟩ => ⟨S4x4x4x4096x4096, .f32⟩
  | .hbm, ⟨60, _⟩ => ⟨S4x4x4x4096x4096, .f32⟩
  | .hbm, ⟨61, _⟩ => ⟨S_, .f32⟩
  | .hbm, ⟨62, _⟩ => ⟨S4x4x4x4096, .f32⟩
  | .hbm, ⟨63, _⟩ => ⟨S4x4x4x4096x1, .f32⟩
  | .hbm, ⟨64, _⟩ => ⟨S1x4x4x1x1, .f32⟩
  | .hbm, ⟨65, _⟩ => ⟨S4x4x4x4096x1, .f32⟩
  | .hbm, ⟨66, _⟩ => ⟨S4x4x4x4096x1, .f32⟩
  | .hbm, ⟨67, _⟩ => ⟨S4x4x4x4096x1, .f32⟩
  | .hbm, ⟨68, _⟩ => ⟨S4x4x4x4096x1, .f32⟩
  | .hbm, ⟨69, _⟩ => ⟨S4x4x64x4x4096, .f32⟩
  | .hbm, ⟨70, _⟩ => ⟨S4x4096x4x4x64, .f32⟩
  | .hbm, ⟨71, _⟩ => ⟨S4x4096x4x4x1, .f32⟩
  | .hbm, ⟨72, _⟩ => ⟨S4x4096x4x4x64, .f32⟩
  | .hbm, ⟨73, _⟩ => ⟨S4x4096x4x4x64, .f32⟩
  | .hbm, ⟨74, _⟩ => ⟨S4x4096x1024, .f32⟩
  | .hbm, ⟨75, _⟩ => ⟨S4x4096x1024, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.SbI.Kit.lean ====
/-
  The attention's launch up to its grid: the host operations in front of it leave its three arguments as they were, and
  each input window's staging buffer holds its block of the array at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a core's buffers hold when the grid starts: the launch's contents after the host operations. -/
abbrev V (c : Dev nD) (b : Ref sig .tc) : Buf (Elt F) ((c : Thread nD τ).loc b) := StableHlo.after hostOps0 (fun b => m (c, b)) b

/-- None of the host operations makes a buffer of its own. -/
theorem host_fresh : (hostOps0 : List (HloOp τ sig (Elt F))).Forall fun op => op.fresh = ∅ := by
  simp only [List.Forall]; repeat' constructor

set_option maxHeartbeats 800000 in
/-- The program is its host operations followed by the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- A buffer that is the result of no host operation is found as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_cst ∧ b ≠ main_v7 ∧ b ≠ main_v8 ∧ b ≠ main_v9 ∧ b ≠ main_v10) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6, h7, h8, h9, h10, h11⟩ := hb
    repeat' apply And.intro
    all_goals (apply StableHlo.devRef_ne_of_ne; assumption)))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)

/-- Window `w`'s block at point `t` of the array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The queries' staging buffer holds its block at every point, for proof data that starts from `V` and leaves it there. -/
theorem before_q {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the keys'. -/
theorem before_k {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- So does the values'. -/
theorem before_v {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- So does the triangle's. -/
theorem before_u {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run that ends with the pipeline's arrays as its proof data says leaves the three arguments as they were. -/
theorem args_kept (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

end Cert.Proof.SbI

end
-- ==== Proof.SbI.Loop.lean ====
/-
  The loop of the attention's body. It walks the key tiles before the diagonal one, from the nearest back to the first,
  with two scratch buffers as its state: the running sum of each query's values, and the sum of the log-survivals seen so
  far. `trip` is what one trip makes of the state, `loop` what the trips from tile `k - 1` down make of it, the early stop
  included. The loop is a label that calls itself; its specification is met by induction on the trips to go.
-/
module

public import proofs.«01_k».proof.Proof.SbI.Kit
public import Mathlib.Tactic.IntervalCases

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Labels are entered with a natural number to go down from. -/
abbrev 𝒱₀ : Variants := Variants.nat

/-- The loop's counter when `k` tiles are left: the last of them. -/
abbrev ctr (k : ℕ) : BitVec 32 := Scalar.subi (BitVec.ofNat 32 k) 1#32

theorem ctr_succ (k : ℕ) : ctr (k + 1) = BitVec.ofNat 32 k := by
  simp only [ctr, Scalar.subi, IntOp.subi]
  apply BitVec.eq_of_toNat_eq
  simp [BitVec.toNat_sub, BitVec.toNat_ofNat]
  omega

/-- A tile's offsets are inside the keys' and the values' blocks. -/
theorem chk (k : ℕ) (hk : k < 32) : k0_chk1 (BitVec.ofNat 32 k) := by
  interval_cases k <;> decide

/-- The counter has not run out while a tile is left. -/
theorem more (k : ℕ) (hk : k < 32) : Scalar.cmpi .sge (BitVec.ofNat 32 k) 0#32 = 1#1 := by
  interval_cases k <;> decide

/-- It has when none is. -/
theorem done : ¬Scalar.cmpi .sge (ctr 0) 0#32 = 1#1 := by decide

section

variable (x1 : Vec F S1x1x4096x128 .bf16) (x2 : Vec F S1x1x64x4096 .f32) (qa : FVec F S128x512 .bf16) (ut : FVec F S128x128 .bf16)

/-- The keys' tile `k`. -/
def kTile (k : ℕ) (hk : k < 32) : Vec F S1x1x128x128 .bf16 :=
  View.ld x1 (Rect.unit (s := S1x1x4096x128) (k0_off3 (BitVec.ofNat 32 k)) S1x1x128x128.size (k0_off3_inb _ (chk k hk)))

/-- The values' tile `k`. -/
def vTile (k : ℕ) (hk : k < 32) : Vec F S1x1x64x128 .f32 :=
  View.ld x2 (Rect.unit (s := S1x1x64x4096) (k0_off4 (BitVec.ofNat 32 k)) S1x1x64x128.size (k0_off4_inb _ (chk k hk)))

/-- What the trip of tile `k` makes of the running sum of values `acc` and the running log-survival `cb`. -/
def tripAcc (k : ℕ) (hk : k < 32) (acc : Vec F S64x512 .f32) (cb : Vec F S1x512 .f32) : Vec F S64x512 .f32 :=
  k0_pay4 (k0_pay22 qa ut (kTile x1 k hk) cb) acc (vTile x2 k hk)
def tripCb (k : ℕ) (hk : k < 32) (cb : Vec F S1x512 .f32) : FVec F S1x512 .f32 := k0_pay23 qa (kTile x1 k hk) cb

/-- What the tiles `k - 1`, …, `0` make of the running sum of values, the loop stopping where no query is alive. -/
def loop : (k : ℕ) → k ≤ 32 → F .f32 → Vec F S64x512 .f32 → Vec F S1x512 .f32 → Vec F S64x512 .f32
  | 0, _, _, acc, _ => acc
  | k + 1, hk, live, acc, cb =>
    if Scalar.cmpf .ogt live (Named.named κ "dead" 0xC2D00000#32 : F .f32) = 1#1 then
      loop k (by omega) (k0_pay6 (tripCb x1 qa k (by omega) cb)) (tripAcc x1 x2 qa ut k (by omega) acc cb)
        (k0_pay5 (tripCb x1 qa k (by omega) cb))
    else acc

end

/-! ### The label's specification -/

/-- The whole of either scratch buffer. -/
abbrev rAcc : Rect S64x512 := Rect.unit (s := S64x512) ![0, 0] S64x512.size inb_S64x512_S64x512_0_0
abbrev rCb : Rect S1x512 := Rect.unit (s := S1x512) ![0, 0] S1x512.size inb_S1x512_S1x512_0_0

section Label

variable (c : Dev nD) (i : grid0.Coords)
  (arg4 : Memref sig .tc .vmem S1x1x4096x128 .bf16) (harg4 : arg4.IsWhole)
  (arg5 : Memref sig .tc .vmem S1x1x64x4096 .f32) (harg5 : arg5.IsWhole)
  (x1 : Vec F S1x1x4096x128 .bf16) (x2 : Vec F S1x1x64x4096 .f32) (qa : FVec F S128x512 .bf16) (ut : FVec F S128x128 .bf16)

/-- The keys' and the values' blocks, and the two scratch buffers at `acc` and `cb`. -/
def held (acc : Vec F S64x512 .f32) (cb : Vec F S1x512 .f32) : sProp 𝕄 :=
  iprop(owns (c : Thread nD τ) arg4 fullShare x1 ∗ owns (c : Thread nD τ) arg5 fullShare x2
    ∗ (((c : Thread nD τ).loc cc0_scratch0) ↦{fullShare} (show Buf (Elt F) ((c : Thread nD τ).loc cc0_scratch0) from acc))
    ∗ (((c : Thread nD τ).loc cc0_scratch1) ↦{fullShare} (show Buf (Elt F) ((c : Thread nD τ).loc cc0_scratch1) from cb)))

/-- With `k` tiles left and the state at `acc` and `cb`, the label leaves the running sum at `loop`. -/
def spec (k : ℕ) (hk : k ≤ 32) (live : F .f32) (acc : Vec F S64x512 .f32) (cb : Vec F S1x512 .f32) : sWPT 𝕄 (BitVec 32 × F .f32) := do
  sWPT.consume (held c arg4 arg5 x1 x2 acc cb)
  let r ← sWPT.arbitrary
  sWPT.produce iprop(∃ cb', held c arg4 arg5 x1 x2 (loop x1 x2 qa ut k hk live acc cb) cb')
  pure r

theorem spec_apply (k : ℕ) (hk : k ≤ 32) (live : F .f32) (acc : Vec F S64x512 .f32) (cb : Vec F S1x512 .f32) (K : BitVec 32 × F .f32 → sProp 𝕄) :
    spec c arg4 arg5 x1 x2 qa ut k hk live acc cb K
      = iprop(held c arg4 arg5 x1 x2 acc cb
          ∗ ∀ r : BitVec 32 × F .f32, (iprop(∃ cb', held c arg4 arg5 x1 x2 (loop x1 x2 qa ut k hk live acc cb) cb') -∗ K r)) := rfl

/-- The first scratch buffer stored whole is the stored value. -/
theorem store_acc (f w : Buf (Elt F) ((c : Thread nD τ).loc cc0_scratch0)) :
    ((Memref.whole cc0_scratch0).access (Rect.unit (s := S64x512) ![0, 0] S64x512.size inb_S64x512_S64x512_0_0) : View sig .tc _ _ _).write (Elt F) f w Finset.univ = w :=
  Memref.write_access_unit_zero_univ (Elt F) cc0_scratch0 (funext fun a => by fin_cases a <;> rfl) _ f w
/-- So is the second. -/
theorem store_cb (f w : Buf (Elt F) ((c : Thread nD τ).loc cc0_scratch1)) :
    ((Memref.whole cc0_scratch1).access (Rect.unit (s := S1x512) ![0, 0] S1x512.size inb_S1x512_S1x512_0_0) : View sig .tc _ _ _).write (Elt F) f w Finset.univ = w :=
  Memref.write_access_unit_zero_univ (Elt F) cc0_scratch1 (funext fun a => by fin_cases a <;> rfl) _ f w

/-- Either buffer read whole is its contents. -/
theorem load_acc (f : Buf (Elt F) ((c : Thread nD τ).loc cc0_scratch0)) :
    (Memref.whole cc0_scratch0 : Memref sig .tc _ _ _).view.readAt (Elt F) (Rect.unit (s := S64x512) ![0, 0] S64x512.size inb_S64x512_S64x512_0_0).toLoadRect f = f :=
  Memref.readAt_unit_zero (Elt F) cc0_scratch0 (funext fun a => by fin_cases a <;> rfl) _ f
theorem load_cb (f : Buf (Elt F) ((c : Thread nD τ).loc cc0_scratch1)) :
    (Memref.whole cc0_scratch1 : Memref sig .tc _ _ _).view.readAt (Elt F) (Rect.unit (s := S1x512) ![0, 0] S1x512.size inb_S1x512_S1x512_0_0).toLoadRect f = f :=
  Memref.readAt_unit_zero (Elt F) cc0_scratch1 (funext fun a => by fin_cases a <;> rfl) _ f

/-- The specification is met by the label's body entered with `k` to go down from, by induction on `k`: with no tile left
    the counter's test fails; with one left and no query alive the other test fails; otherwise the body makes one trip and
    calls itself with one tile fewer. -/
theorem spec_le (E : Set ℕ) :
    ∀ k (hk : k ≤ 32) live acc cb K, spec c arg4 arg5 x1 x2 qa ut k hk live acc cb K
      ⊢ wp frame (wpE (defs₀ (F := F)) 𝒱₀ (c : Thread nD τ) (some k)) E
          (defs₀ (F := F) .tc 1 ⟨i, arg4, harg4, qa, Memref.whole cc0_scratch1, Memref.isWhole_whole _, ut,
            Memref.whole cc0_scratch0, Memref.isWhole_whole _, arg5, harg5, ctr k, live⟩) K := by
  intro k
  induction k with
  | zero =>
    intro hk live acc cb K
    rw [spec_apply]
    show _ ⊢ wp frame (wpE (defs₀ (F := F)) 𝒱₀ (c : Thread nD τ) (some 0)) E
      (cc0_while1 i arg4 harg4 qa (Memref.whole cc0_scratch1) (Memref.isWhole_whole _) ut (Memref.whole cc0_scratch0)
        (Memref.isWhole_whole _) arg5 harg5 (ctr 0) live) K
    simp only [cc0_while1_eq_skeleton]; unfold cc0_while1_skel
    have htest : ¬Scalar.andi (Scalar.cmpi .sge (ctr 0) 0#32) (Scalar.cmpf .ogt live (Named.named κ "dead" 0xC2D00000#32 : F .f32)) = 1#1 := by
      rw [show Scalar.cmpi .sge (ctr 0) 0#32 = 0#1 from by decide]
      generalize Scalar.cmpf .ogt live (Named.named κ "dead" 0xC2D00000#32 : F .f32) = b
      revert b; decide
    simp only [htest, ↓reduceIte, Prog.pure_eq_ret]
    iintro ⟨H, Hk⟩
    rw [wp_ret]; imodintro
    iapply Hk
    simp only [loop]
    iexists _
    iexact H
  | succ k ih =>
    intro hk live acc cb K
    have hk' : k < 32 := by omega
    rw [spec_apply]
    show _ ⊢ wp frame (wpE (defs₀ (F := F)) 𝒱₀ (c : Thread nD τ) (some (k + 1))) E
      (cc0_while1 i arg4 harg4 qa (Memref.whole cc0_scratch1) (Memref.isWhole_whole _) ut (Memref.whole cc0_scratch0)
        (Memref.isWhole_whole _) arg5 harg5 (ctr (k + 1)) live) K
    rw [ctr_succ]
    simp only [cc0_while1_eq_skeleton]; unfold cc0_while1_skel
    by_cases hlive : Scalar.cmpf .ogt live (Named.named κ "dead" 0xC2D00000#32 : F .f32) = 1#1
    · have htest : Scalar.andi (Scalar.cmpi .sge (BitVec.ofNat 32 k) 0#32) (Scalar.cmpf .ogt live (Named.named κ "dead" 0xC2D00000#32 : F .f32)) = 1#1 := by
        rw [more k hk', hlive]; rfl
      simp only [htest, ↓reduceIte]
      simp only [k0_part3_eq_skeleton]; unfold k0_part3_skel
      unfold held owns
      iintro ⟨⟨⟨%f1, %h1, H1⟩, ⟨%f2, %h2, H2⟩, Ha, Hc⟩, Hk⟩
      subst h1 h2
      simp only [Prog.lift, Prog.bind_op, Prog.bind_ret, Prog.pure_eq_ret]
      iapply (wp_assume 𝒱₀ (c : Thread nD τ) (some (k + 1)) E (chk k hk'))
      iapply (wp_load 𝒱₀ (c : Thread nD τ) (some (k + 1)) E (m := arg4) (View.setOn_subset_set _ _)) $$ H1; iintro H1
      iapply (wp_load 𝒱₀ (c : Thread nD τ) (some (k + 1)) E (m := Memref.whole cc0_scratch1) (Finset.subset_univ _)) $$ Hc; iintro Hc
      iapply (wp_load 𝒱₀ (c : Thread nD τ) (some (k + 1)) E (m := Memref.whole cc0_scratch0) (Finset.subset_univ _)) $$ Ha; iintro Ha
      iapply (wp_load 𝒱₀ (c : Thread nD τ) (some (k + 1)) E (m := arg5) (View.setOn_subset_set _ _)) $$ H2; iintro H2
      iapply (wp_load 𝒱₀ (c : Thread nD τ) (some (k + 1)) E (m := Memref.whole cc0_scratch0) (Finset.subset_univ _)) $$ Ha; iintro Ha
      iapply (wp_store 𝒱₀ (c : Thread nD τ) (some (k + 1)) E (m := Memref.whole cc0_scratch0) (r := rAcc) (Mk := Finset.univ) (Finset.subset_univ _)) $$ Ha; iintro Ha
      iapply (wp_load 𝒱₀ (c : Thread nD τ) (some (k + 1)) E (m := Memref.whole cc0_scratch1) (Finset.subset_univ _)) $$ Hc; iintro Hc
      iapply (wp_store 𝒱₀ (c : Thread nD τ) (some (k + 1)) E (m := Memref.whole cc0_scratch1) (r := rCb) (Mk := Finset.univ) (Finset.subset_univ _)) $$ Hc; iintro Hc
      rw [store_acc c, store_cb c, load_acc c, load_cb c]
      iapply (wp_call_spec 𝒱₀ (c : Thread nD τ) (some (k + 1)) E
        (spec c arg4 arg5 (arg4.view.read (Elt F) f1) (arg5.view.read (Elt F) f2) qa ut k (by omega)
          (k0_pay6 (tripCb (arg4.view.read (Elt F) f1) qa k hk' cb))
          (tripAcc (arg4.view.read (Elt F) f1) (arg5.view.read (Elt F) f2) qa ut k hk' acc cb)
          (k0_pay5 (tripCb (arg4.view.read (Elt F) f1) qa k hk' cb))) k
        (fun u hu => by cases hu; exact Nat.lt_succ_self k) (fun K => ih (by omega) _ _ _ K))
      rw [spec_apply]; unfold held owns
      isplitl [H1 H2 Ha Hc]
      · isplitl [H1]
        · iexists f1; isplitr; · (ipureintro; rfl)
          iexact H1
        isplitl [H2]
        · iexists f2; isplitr; · (ipureintro; rfl)
          iexact H2
        isplitl [Ha]; · iexact Ha
        iexact Hc
      iintro %r ⟨%cb', H⟩
      rw [wp_ret]; imodintro
      iapply Hk
      iexists cb'
      simp only [loop, hlive, ↓reduceIte]
      iexact H
    · have htest : ¬Scalar.andi (Scalar.cmpi .sge (BitVec.ofNat 32 k) 0#32) (Scalar.cmpf .ogt live (Named.named κ "dead" 0xC2D00000#32 : F .f32)) = 1#1 := by
        rw [more k hk']
        intro h; apply hlive
        generalize Scalar.cmpf .ogt live (Named.named κ "dead" 0xC2D00000#32 : F .f32) = b at h
        revert h; revert b; decide
      simp only [htest, ↓reduceIte, Prog.pure_eq_ret]
      iintro ⟨H, Hk⟩
      rw [wp_ret]; imodintro
      iapply Hk
      simp only [loop, hlive, ↓reduceIte]
      iexists _
      iexact H

end Label

end Cert.Proof.SbI

end
-- ==== Proof.SbI.Body.lean ====
/-
  The attention's body at one grid point: from the four input blocks it leaves in the result's block the value `out`. The
  diagonal tile comes first, on scratch buffers just cleared; the loop then goes over the tiles before it; what the scratch
  buffers held on entry is never read.
-/
module

public import proofs.«01_k».proof.Proof.SbI.Loop
public import Idealize.ShloMosaic.Lib.VecWindow

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Value

variable (i : grid0.Coords) (x0 : Vec F S1x256x128 .bf16) (x1 : Vec F S1x1x4096x128 .bf16)
  (x2 : Vec F S1x1x64x4096 .f32) (x3 : Vec F S128x128 .bf16)

/-- The diagonal tile of the keys and of the values. -/
def kDiag : Vec F S1x1x128x128 .bf16 :=
  View.ld x1 (Rect.unit (s := S1x1x4096x128) (k0_off1 i) S1x1x128x128.size (k0_off1_inb i))
def vDiag : Vec F S1x1x64x128 .f32 :=
  View.ld x2 (Rect.unit (s := S1x1x64x4096) (k0_off2 i) S1x1x64x128.size (k0_off2_inb i))

/-- The two scratch buffers after the diagonal tile. -/
def diagCb : FVec F S1x512 .f32 :=
  k0_pay17 (k0_pay12) k0_pay10 (k0_pay13 x0 (kDiag i x1)) (k0_pay14 x0 (kDiag i x1))
def diagAcc : Vec F S64x512 .f32 :=
  k0_pay18 (k0_pay8 x3) (k0_pay11 x0 (kDiag i x1)) (k0_pay12) k0_pay10 (k0_pay13 x0 (kDiag i x1)) (k0_pay14 x0 (kDiag i x1))
    k0_pay9 (vDiag i x2)

theorem row_le : (i 2).val ≤ 32 := le_of_lt (i 2).isLt

/-- The result's block. -/
def out : Vec F S1x128x256 .bf16 :=
  k0_pay3 (loop x1 x2 (k0_pay7 x0) (k0_pay8 x3) (i 2).val (row_le i) (k0_pay2 (diagCb i x0 x1))
    (diagAcc i x0 x1 x2 x3) (k0_pay1 (diagCb i x0 x1)))

end Value

/-- What a store writes is part of the buffer it is made to. -/
theorem store_sub {s : Shape} {e : EltTy} (M : Memref sig .tc .vmem s e) (r : Rect s) (Mk : Finset r.shape.Idx) :
    (M.access r).setOn Mk ⊆ M.view.set :=
  ((M.access r).setOn_subset_set Mk).trans (by rw [show (M.access r).set = M.view.setOn r.set from View.set_slice _ _]; exact M.view.setOn_subset_set _)

set_option maxHeartbeats 4000000 in
/-- The body of one grid point. -/
theorem body_run (c : Dev nD) (i : grid0.Coords)
    (arg3 : Memref sig .tc .vmem S1x256x128 .bf16) (harg3 : arg3.IsWhole) (arg4 : Memref sig .tc .vmem S1x1x4096x128 .bf16) (harg4 : arg4.IsWhole)
    (arg5 : Memref sig .tc .vmem S1x1x64x4096 .f32) (harg5 : arg5.IsWhole) (arg6 : Memref sig .tc .vmem S128x128 .bf16) (harg6 : arg6.IsWhole)
    (arg7 : Memref sig .tc .vmem S1x128x256 .bf16) (harg7 : arg7.IsWhole)
    (x0 : Vec F S1x256x128 .bf16) (x1 : Vec F S1x1x4096x128 .bf16) (x2 : Vec F S1x1x64x4096 .f32) (x3 : Vec F S128x128 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out i x0 x1 x2 x3)
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)) -∗ K ⟨⟩))
      ⊢ wp frame (wpE (defs₀ (F := F)) 𝒱₀ (c : Thread nD τ) none) E
          (cc0_sb_prompt i arg3 harg3 arg4 harg4 arg5 harg5 arg6 harg6 arg7 harg7 (Memref.whole cc0_scratch0) (Memref.isWhole_whole _)
            (Memref.whole cc0_scratch1) (Memref.isWhole_whole _)) K := by
  simp only [cc0_sb_prompt_eq_skeleton]; unfold cc0_sb_prompt_skel
  simp only [k0_part1_eq_skeleton, k0_part2_eq_skeleton]; unfold k0_part1_skel k0_part2_skel
  iintro ⟨H0, H1, H2, H3, ⟨%d4, H4⟩, ⟨%fa, Ha⟩, ⟨%fc, Hc⟩, Hk⟩
  unfold owns
  icases H0 with ⟨%f0, %h0, H0⟩
  icases H1 with ⟨%f1, %h1, H1⟩
  icases H2 with ⟨%f2, %h2, H2⟩
  icases H3 with ⟨%f3, %h3, H3⟩
  icases H4 with ⟨%f4, -, H4⟩
  subst h0 h1 h2 h3
  simp only [Prog.lift, Prog.bind_op, Prog.bind_ret, Prog.pure_eq_ret]
  iapply (wp_load 𝒱₀ (c : Thread nD τ) none E (m := arg3) (View.setOn_subset_set _ _)) $$ H0; iintro H0
  iapply (wp_load 𝒱₀ (c : Thread nD τ) none E (m := arg6) (View.setOn_subset_set _ _)) $$ H3; iintro H3
  iapply (wp_load 𝒱₀ (c : Thread nD τ) none E (m := Memref.whole cc0_scratch0) (Finset.subset_univ _)) $$ Ha; iintro Ha
  iapply (wp_store 𝒱₀ (c : Thread nD τ) none E (m := Memref.whole cc0_scratch0) (r := rAcc) (Mk := Finset.univ) (Finset.subset_univ _)) $$ Ha; iintro Ha
  iapply (wp_load 𝒱₀ (c : Thread nD τ) none E (m := Memref.whole cc0_scratch1) (Finset.subset_univ _)) $$ Hc; iintro Hc
  iapply (wp_store 𝒱₀ (c : Thread nD τ) none E (m := Memref.whole cc0_scratch1) (r := rCb) (Mk := Finset.univ) (Finset.subset_univ _)) $$ Hc; iintro Hc
  rw [store_acc c, store_cb c]
  iapply (wp_load 𝒱₀ (c : Thread nD τ) none E (m := arg4) (View.setOn_subset_set _ _)) $$ H1; iintro H1
  iapply (wp_load 𝒱₀ (c : Thread nD τ) none E (m := Memref.whole cc0_scratch1) (Finset.subset_univ _)) $$ Hc; iintro Hc
  iapply (wp_load 𝒱₀ (c : Thread nD τ) none E (m := Memref.whole cc0_scratch0) (Finset.subset_univ _)) $$ Ha; iintro Ha
  iapply (wp_load 𝒱₀ (c : Thread nD τ) none E (m := arg5) (View.setOn_subset_set _ _)) $$ H2; iintro H2
  iapply (wp_load 𝒱₀ (c : Thread nD τ) none E (m := Memref.whole cc0_scratch0) (Finset.subset_univ _)) $$ Ha; iintro Ha
  iapply (wp_store 𝒱₀ (c : Thread nD τ) none E (m := Memref.whole cc0_scratch0) (r := rAcc) (Mk := Finset.univ) (Finset.subset_univ _)) $$ Ha; iintro Ha
  iapply (wp_load 𝒱₀ (c : Thread nD τ) none E (m := Memref.whole cc0_scratch1) (Finset.subset_univ _)) $$ Hc; iintro Hc
  iapply (wp_store 𝒱₀ (c : Thread nD τ) none E (m := Memref.whole cc0_scratch1) (r := rCb) (Mk := Finset.univ) (Finset.subset_univ _)) $$ Hc; iintro Hc
  rw [store_acc c, store_cb c, load_acc c, load_cb c]
  rw [show arg3.view.readAt (Elt F) (Rect.unit (s := S1x256x128) ![0, 0, 0] S1x256x128.size inb_S1x256x128_S1x256x128_0_0_0).toLoadRect f0
      = arg3.view.read (Elt F) f0 from View.readAt_full arg3.view f0 _,
    show arg6.view.readAt (Elt F) (Rect.unit (s := S128x128) ![0, 0] S128x128.size inb_S128x128_S128x128_0_0).toLoadRect f3
      = arg6.view.read (Elt F) f3 from View.readAt_full arg6.view f3 _]
  iapply (wp_call_spec 𝒱₀ (c : Thread nD τ) none E
    (spec c arg4 arg5 (arg4.view.read (Elt F) f1) (arg5.view.read (Elt F) f2) (k0_pay7 (arg3.view.read (Elt F) f0)) (k0_pay8 (arg6.view.read (Elt F) f3))
      (i 2).val (row_le i) (k0_pay2 (diagCb i (arg3.view.read (Elt F) f0) (arg4.view.read (Elt F) f1)))
      (diagAcc i (arg3.view.read (Elt F) f0) (arg4.view.read (Elt F) f1) (arg5.view.read (Elt F) f2) (arg6.view.read (Elt F) f3))
      (k0_pay1 (diagCb i (arg3.view.read (Elt F) f0) (arg4.view.read (Elt F) f1)))) (i 2).val
    (fun u hu => nomatch hu) (fun K => spec_le c i arg4 harg4 arg5 harg5 _ _ _ _ E (i 2).val (row_le i) _ _ _ K))
  rw [spec_apply]; unfold held owns
  isplitl [H1 H2 Ha Hc]
  · isplitl [H1]
    · iexists f1; isplitr; · (ipureintro; rfl)
      iexact H1
    isplitl [H2]
    · iexists f2; isplitr; · (ipureintro; rfl)
      iexact H2
    isplitl [Ha]; · iexact Ha
    iexact Hc
  iintro %r ⟨%cb', H1, H2, Ha, Hc⟩
  iapply (wp_load 𝒱₀ (c : Thread nD τ) none E (m := Memref.whole cc0_scratch0) (Finset.subset_univ _)) $$ Ha; iintro Ha
  iapply (wp_load 𝒱₀ (c : Thread nD τ) none E (m := arg7) (View.setOn_subset_set _ _)) $$ H4; iintro H4
  iapply (wp_store 𝒱₀ (c : Thread nD τ) none E (m := arg7)
    (r := Rect.unit (s := S1x128x256) ![0, 0, 0] S1x128x256.size inb_S1x128x256_S1x128x256_0_0_0) (Mk := Finset.univ) (store_sub arg7 _ _)) $$ H4; iintro H4
  rw [load_acc c]
  rw [wp_ret]; imodintro
  iapply Hk
  isplitl [H0]
  · iexists f0; isplitr; · (ipureintro; rfl)
    iexact H0
  isplitl [H1]; · iexact H1
  isplitl [H2]; · iexact H2
  isplitl [H3]
  · iexists f3; isplitr; · (ipureintro; rfl)
    iexact H3
  isplitl [H4]
  · iexists _; isplitr; swap; · iexact H4
    ipureintro
    exact View.read_writes_full arg7.view f4 inb_S1x128x256_S1x128x256_0_0_0 _ []
  isplitl [Ha]
  · iexists _; iexact Ha
  · iexists _; iexact Hc

end Cert.Proof.SbI

end
-- ==== Proof.SbI.Run.lean ====
/-
  The attention's run: the proof data of its one pipeline (each input block in place, the result's block at `outAt`), the
  body's obligation at every point, and from these the run of the whole program with its arguments as they were.
-/
module

public import proofs.«01_k».proof.Proof.SbI.Body

@[expose] public section

set_option maxRecDepth 16384

noncomputable section

namespace Cert.Proof.SbI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the result's staging buffer at point `t`. -/
def outAt (c : Dev nD) (t : Fin (cfg0 (F := F)).N) : Vec F S1x128x256 .bf16 :=
  out (grid0.coords t) (iblk m c 0 t) (iblk m c 1 t) (iblk m c 2 t) (iblk m c 3 t)

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by dsimp only [dats]
theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_u (c : Dev nD) (t : Fin (cfg0 (F := F)).N) : (dats m 0 c).after 3 t = iblk m c 3 t := by dsimp only [dats]; rfl
theorem after_o (c : Dev nD) (t : Fin (cfg0 (F := F)).N) : (dats m 0 c).after 4 t = outAt m c t := by dsimp only [dats]; rfl

theorem before_q' (c : Dev nD) (t : Fin (cfg0 (F := F)).N) (d) : (dats m 0 c).before 0 t d = iblk m c 0 t :=
  before_q m (dats m 0 c) (A_eq m c 0) (after_q m c) t d
theorem before_k' (c : Dev nD) (t : Fin (cfg0 (F := F)).N) (d) : (dats m 0 c).before 1 t d = iblk m c 1 t :=
  before_k m (dats m 0 c) (A_eq m c 1) (after_k m c) t d
theorem before_v' (c : Dev nD) (t : Fin (cfg0 (F := F)).N) (d) : (dats m 0 c).before 2 t d = iblk m c 2 t :=
  before_v m (dats m 0 c) (A_eq m c 2) (after_v m c) t d
theorem before_u' (c : Dev nD) (t : Fin (cfg0 (F := F)).N) (d) : (dats m 0 c).before 3 t d = iblk m c 3 t :=
  before_u m (dats m 0 c) (A_eq m c 3) (after_u m c) t d

set_option maxHeartbeats 1000000 in
/-- The body does at every point what the proof data says; the scratch buffers go in and come out at some contents. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after_q, after_k, after_v, after_u, after_o]
  rw [show (dats m 0 c).Φ t.castSucc = Pipeline.ΦA spec0 c from rfl]
  unfold Pipeline.ΦA
  rw [scopedRest0_eq]
  unfold outAt
  iintro ⟨⟨⟨Ha, Hc⟩, Hr⟩, Ho, ⟨%d0, H0⟩, ⟨%d1, H1⟩, ⟨%d2, H2⟩, ⟨%d3, H3⟩, ⟨%d4, H4⟩⟩
  rw [before_q' m c t d0, before_k' m c t d1, before_v' m c t d2, before_u' m c t d3]
  iapply (body_run c _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [Ha]; · iexact Ha
  isplitl [Hc]; · iexact Hc
  iintro ⟨H0, H1, H2, H3, H4, Ha, Hc⟩
  isplitl [Ha Hc Hr]
  · isplitl [Ha Hc]
    · isplitl [Ha]; · iexact Ha
      iexact Hc
    iexact Hr
  isplitl [Ho]; · iexact Ho
  isplitl [H0]; · iexact H0
  isplitl [H1]; · iexact H1
  isplitl [H2]; · iexact H2
  isplitl [H3]; · iexact H3
  iexact H4

set_option backward.isDefEq.respectTransparency.types false in
/-- Every run of the program ends, with the pipeline's arrays at what the proof data says and every semaphore at zero. -/
theorem run_main : θ_run defs (onTc (τ := τ) (main (F := F))) (s₀ m ρ)
    (fun r => Pipeline.FramePost (cfgs (F := F)) (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- So the three arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (args_kept m ρ (dats m) fun _ _ => rfl) (run_main (F := F) m ρ)

end Cert.Proof.SbI

end
-- ==== Proof.SbV.Scalar.lean ====
/-
  The stick-breaking weights over the extended reals.

  For one query, `z s` is the logit of key `s`. `sp` is the softplus, `lm = 0 - sp` the log of the chance that a key is
  passed over, and `z - sp z` the log of the chance that it is taken. The two programs differ in how they write these
  (`ls` is the reference's log-sigmoid) and in how they sum over the keys between a key and its query.
-/
module

public import Idealize.ShloMosaic.Lib.Claim
public import Idealize.ShloMosaic.Lib.Pipeline.ValueKit

@[expose] public section

noncomputable section

namespace Cert.Proof.SbV

open Idealize.ShloMosaic

/-- The softplus, as the kernel spells it. -/
def sp (z : EReal) : EReal := max z 0 + Ideal.log (1 + Ideal.exp (0 - max z (-z)))
/-- The log of the chance that a key of logit `z` is passed over. -/
def lm (z : EReal) : EReal := 0 - sp z
/-- The log-sigmoid, as the reference spells it. -/
def ls (z : EReal) : EReal := -(max (-z) 0 + Ideal.log (1 + Ideal.exp (-max (-z) (- -z))))

/-- The greater of two reals is the same in the extended reals. -/
theorem max_coe (a b : ℝ) : max (a : EReal) (b : EReal) = ((max a b : ℝ) : EReal) := (EReal.coe_strictMono.monotone.map_max).symm

/-- At a real logit the softplus is real. -/
theorem sp_coe (r : ℝ) : sp (r : EReal) = ((max r 0 + Real.log (1 + Real.exp (-|r|)) : ℝ) : EReal) := by
  have h1 : max (r : EReal) (-(r : EReal)) = ((|r| : ℝ) : EReal) := by
    rw [← EReal.coe_neg, max_coe]; rfl
  have hpos : ¬ (1 + Real.exp (-|r|)) ≤ 0 := by have := Real.exp_pos (-|r|); linarith
  have h2 : Ideal.exp (0 - ((|r| : ℝ) : EReal)) = ((Real.exp (-|r|) : ℝ) : EReal) := by
    rw [zero_sub, ← EReal.coe_neg]; rfl
  have h3 : Ideal.log (1 + ((Real.exp (-|r|) : ℝ) : EReal)) = ((Real.log (1 + Real.exp (-|r|)) : ℝ) : EReal) := by
    rw [← EReal.coe_one, ← EReal.coe_add]
    show (if _ ≤ (0 : ℝ) then (⊥ : EReal) else _) = _
    rw [if_neg hpos]
  unfold sp
  rw [h1, h2, h3, ← EReal.coe_zero, max_coe, ← EReal.coe_add]

theorem sp_top : sp ⊤ = ⊤ := by
  have h : Ideal.log (1 + Ideal.exp (0 - max (⊤ : EReal) (-⊤))) = 0 := by
    have e : (0 : EReal) - max ⊤ (-⊤) = ⊥ := by simp
    rw [e]
    show Ideal.log (1 + 0) = 0
    rw [add_zero, ← EReal.coe_one]
    show (if _ ≤ (0 : ℝ) then (⊥ : EReal) else _) = _
    rw [if_neg (by norm_num)]; simp
  unfold sp
  rw [h]; simp

theorem sp_bot : sp ⊥ = 0 := by
  have h : Ideal.log (1 + Ideal.exp (0 - max (⊥ : EReal) (-⊥))) = 0 := by
    have e : (0 : EReal) - max ⊥ (-⊥) = ⊥ := by simp
    rw [e]
    show Ideal.log (1 + 0) = 0
    rw [add_zero, ← EReal.coe_one]
    show (if _ ≤ (0 : ℝ) then (⊥ : EReal) else _) = _
    rw [if_neg (by norm_num)]; simp
  unfold sp
  rw [h]; simp

/-- The reference's log-sigmoid of the negated logit is the kernel's `lm`. -/
theorem ls_neg (z : EReal) : ls (-z) = lm z := by
  unfold ls lm sp
  rw [zero_sub, zero_sub, neg_neg]

theorem ls_eq (z : EReal) : ls z = -sp (-z) := by
  unfold ls sp
  rw [zero_sub]

/-- At a real logit the log-sigmoid is the logit less the softplus. -/
theorem ls_coe (r : ℝ) : ls (r : EReal) = (r : EReal) - sp r := by
  rw [ls_eq, ← EReal.coe_neg, sp_coe, sp_coe, ← EReal.coe_neg, ← EReal.coe_sub, abs_neg]
  congr 1
  rcases le_total r 0 with h | h
  · rw [max_eq_left (by linarith), max_eq_right h]; ring
  · rw [max_eq_right (by linarith), max_eq_left h]; ring

theorem sp_nonneg (z : EReal) : 0 ≤ sp z := by
  induction z using EReal.rec with
  | bot => rw [sp_bot]
  | top => rw [sp_top]; exact le_top
  | coe r =>
    rw [sp_coe]
    have : 0 ≤ Real.log (1 + Real.exp (-|r|)) := Real.log_nonneg (by have := Real.exp_pos (-|r|); linarith)
    have := le_max_right r 0
    exact_mod_cast (by linarith : (0 : ℝ) ≤ max r 0 + Real.log (1 + Real.exp (-|r|)))

theorem lm_nonpos (z : EReal) : lm z ≤ 0 := by
  unfold lm
  rw [zero_sub, EReal.neg_le, neg_zero]
  exact sp_nonneg z

/-- The reference takes a key's own term off a running sum that holds it; the kernel never adds it. With what is after the
    key at most zero, the two exponents are one. -/
theorem exponent_eq (z R : EReal) (hR : R ≤ 0) : ls z + ((lm z + R) - lm z) = (z - sp z) + R := by
  induction z using EReal.rec with
  | bot =>
    have h : ls ⊥ = ⊥ := by rw [ls_eq]; simp [sp_top]
    rw [h, sp_bot]; simp
  | top =>
    have h : lm ⊤ = ⊥ := by unfold lm; rw [sp_top]; simp
    rw [h, sp_top]; simp
  | coe r =>
    rw [ls_coe]
    congr 1
    have h : lm (r : EReal) = ((-(max r 0 + Real.log (1 + Real.exp (-|r|))) : ℝ) : EReal) := by
      unfold lm; rw [sp_coe, zero_sub, ← EReal.coe_neg]
    rw [h]
    generalize -(max r 0 + Real.log (1 + Real.exp (-|r|))) = a
    induction R using EReal.rec with
    | bot => simp
    | top => simp at hR
    | coe b => rw [← EReal.coe_add, ← EReal.coe_sub]; congr 1; ring

/-- A sum one of whose terms is `-∞` is `-∞`. -/
theorem sum_bot {ι : Type} [DecidableEq ι] (s : Finset ι) (f : ι → EReal) (i : ι) (hi : i ∈ s) (h : f i = ⊥) : ∑ j ∈ s, f j = ⊥ := by
  rw [← Finset.add_sum_erase s f hi, h, EReal.bot_add]

theorem sum_nonpos' {ι : Type} (s : Finset ι) (f : ι → EReal) (hf : ∀ i ∈ s, f i ≤ 0) : ∑ j ∈ s, f j ≤ 0 :=
  Finset.sum_nonpos hf

/-- Rounding off changes no sum: what is left of a term after itself is zero, or the term is `-∞`. -/
theorem sum_split {ι : Type} [DecidableEq ι] (s : Finset ι) (f : ι → EReal) (hf : ∀ i ∈ s, f i ≤ 0) :
    ∑ i ∈ s, f i + ∑ i ∈ s, (f i - f i) = ∑ i ∈ s, f i := by
  rw [← Finset.sum_add_distrib]
  refine Finset.sum_congr rfl fun i hi => ?_
  have h := hf i hi
  generalize f i = a at h
  induction a using EReal.rec with
  | bot => simp
  | top => simp at h
  | coe b => rw [← EReal.coe_sub, ← EReal.coe_add]; congr 1; ring

theorem exp_bot : Ideal.exp ⊥ = 0 := rfl

/-! ### One query's weights -/

variable (z : ℕ → EReal) (v : ℕ → EReal) (T : ℕ)

/-- The log of the chance that key `s` is passed over by the query at `T`; only the keys before it count. -/
def L (s : ℕ) : EReal := if s < T then lm (z s) else 0
/-- The sum of those from key `n` on. -/
def C (n : ℕ) : EReal := ∑ s ∈ Finset.Ico n 4096, L z T s
/-- The weight of key `s`. -/
def W (s : ℕ) : EReal := if s < T then Ideal.exp ((z s - sp (z s)) + C z T (s + 1)) else 0
/-- The weighted sum of values from key `n` on. -/
def A (n : ℕ) : EReal := ∑ s ∈ Finset.Ico n 4096, v s * W z T s

theorem L_nonpos (s : ℕ) : L z T s ≤ 0 := by
  unfold L; split
  · exact lm_nonpos _
  · exact le_rfl

theorem C_nonpos (n : ℕ) : C z T n ≤ 0 := Finset.sum_nonpos fun s _ => L_nonpos z T s

theorem C_zero (n : ℕ) (h : T ≤ n) : C z T n = 0 :=
  Finset.sum_eq_zero fun s hs => by unfold L; rw [if_neg (by have := (Finset.mem_Ico.mp hs).1; omega)]

theorem A_zero (n : ℕ) (h : T ≤ n) : A z v T n = 0 :=
  Finset.sum_eq_zero fun s hs => by unfold W; rw [if_neg (by have := (Finset.mem_Ico.mp hs).1; omega), mul_zero]

/-- The reference's weight is this one. -/
theorem W_reference (s : ℕ) (hs : s < T) (h4 : s < 4096) :
    Ideal.exp (ls (z s) + (C z T s - L z T s)) = W z T s := by
  have e : C z T s = lm (z s) + C z T (s + 1) := by
    unfold C
    rw [Finset.sum_eq_sum_Ico_succ_bot h4]
    unfold L
    rw [if_pos hs]
  have eL : L z T s = lm (z s) := if_pos hs
  unfold W
  rw [if_pos hs, e, eL, exponent_eq _ _ (C_nonpos z T _)]

/-- A tile's sum, by its own 128 keys. -/
theorem sum_tile (f : ℕ → EReal) (k : ℕ) (hk : k < 32) :
    ∑ s ∈ Finset.Ico (k * 128) 4096, f s = ∑ s ∈ Finset.Ico ((k + 1) * 128) 4096, f s + ∑ a : Fin 128, f (k * 128 + a.val) := by
  rw [← Finset.sum_Ico_consecutive f (by omega : k * 128 ≤ (k + 1) * 128) (by omega : (k + 1) * 128 ≤ 4096), add_comm]
  congr 1
  rw [Finset.sum_Ico_eq_sum_range, show (k + 1) * 128 - k * 128 = 128 by omega, ← Fin.sum_univ_eq_sum_range (fun a => f (k * 128 + a))]

theorem C_tile (k : ℕ) (hk : k < 32) :
    C z T (k * 128) = C z T ((k + 1) * 128) + ∑ a : Fin 128, L z T (k * 128 + a.val) := sum_tile _ k hk

theorem A_tile (k : ℕ) (hk : k < 32) :
    A z v T (k * 128) = A z v T ((k + 1) * 128) + ∑ a : Fin 128, v (k * 128 + a.val) * W z T (k * 128 + a.val) := sum_tile _ k hk

/-- The keys after key `a` of its tile, and the tiles after it, are the keys after it. -/
theorem C_inside (k : ℕ) (hk : k < 32) (a : Fin 128) :
    (∑ b : Fin 128, if a.val < b.val then L z T (k * 128 + b.val) else 0) + C z T ((k + 1) * 128) = C z T (k * 128 + a.val + 1) := by
  have ha := a.isLt
  unfold C
  rw [← Finset.sum_Ico_consecutive (L z T) (by omega : k * 128 + a.val + 1 ≤ (k + 1) * 128) (by omega : (k + 1) * 128 ≤ 4096)]
  congr 1
  rw [Fin.sum_univ_eq_sum_range (fun b => if a.val < b then L z T (k * 128 + b) else 0) 128, ← Finset.sum_filter,
    Finset.sum_Ico_eq_sum_range]
  refine Finset.sum_bij' (fun b _ => b - (a.val + 1)) (fun b _ => b + (a.val + 1)) ?_ ?_ ?_ ?_ ?_
  · intro b hb; simp only [Finset.mem_filter, Finset.mem_range] at hb ⊢; omega
  · intro b hb; simp only [Finset.mem_filter, Finset.mem_range] at hb ⊢; omega
  · intro b hb; simp only [Finset.mem_filter, Finset.mem_range] at hb; omega
  · intro b hb; omega
  · intro b hb; simp only [Finset.mem_filter, Finset.mem_range] at hb; congr 1; omega

/-- The kernel's weight is this one: it sums a tile's terms and what rounding leaves of them by a triangle of zeros and
    ones, and adds the tiles after. -/
theorem W_kernel (k : ℕ) (hk : k < 32) (a : Fin 128) (hs : k * 128 + a.val < T) (u : Fin 128 → EReal)
    (hu : ∀ b : Fin 128, u b = if a.val < b.val then 1 else 0) (l : Fin 128 → EReal) (hl : ∀ b : Fin 128, l b = L z T (k * 128 + b.val))
    (z' cb : EReal) (hz : z' = z (k * 128 + a.val)) (hcb : cb = C z T ((k + 1) * 128)) :
    Ideal.exp ((z' - sp z') + (∑ b, u b * l b + ∑ b, u b * (l b - l b)) + cb) = W z T (k * 128 + a.val) := by
  have e1 : ∑ b, u b * l b = ∑ b ∈ Finset.univ.filter (fun b : Fin 128 => a.val < b.val), l b := by
    rw [Finset.sum_filter]
    refine Finset.sum_congr rfl fun b _ => ?_
    rw [hu]; split <;> simp
  have e2 : ∑ b, u b * (l b - l b) = ∑ b ∈ Finset.univ.filter (fun b : Fin 128 => a.val < b.val), (l b - l b) := by
    rw [Finset.sum_filter]
    refine Finset.sum_congr rfl fun b _ => ?_
    rw [hu]; split <;> simp
  unfold W
  rw [e1, e2, sum_split _ _ (fun b _ => by rw [hl]; exact L_nonpos z T _), if_pos hs, hz, hcb, add_assoc, ← C_inside z T k hk a,
    Finset.sum_filter]
  simp only [hl]

/-- Once the log-survivals from key `n` on sum to `-∞`, no earlier key has weight. -/
theorem W_dead (n s : ℕ) (hs : s < n) (h : C z T n = ⊥) : W z T s = 0 := by
  have e : C z T (s + 1) = ⊥ := by
    unfold C at h ⊢
    by_cases hn : n ≤ 4096
    · rw [← Finset.sum_Ico_consecutive (L z T) (by omega : s + 1 ≤ n) hn, h, EReal.add_bot]
    · rw [Finset.Ico_eq_empty (by omega), Finset.sum_empty] at h
      exact absurd h (by simp)
  unfold W
  split
  · rw [e, EReal.add_bot, exp_bot]
  · rfl

theorem A_dead (n : ℕ) (hn : n ≤ 4096) (h : C z T n = ⊥) : A z v T 0 = A z v T n := by
  unfold A
  rw [← Finset.sum_Ico_consecutive _ (Nat.zero_le n) hn, Finset.sum_eq_zero, zero_add]
  intro s hs
  rw [W_dead z T n s (Finset.mem_Ico.mp hs).2 h, mul_zero]

end Cert.Proof.SbV

end
-- ==== Proof.SbV.Tile.lean ====
/-
  One tile of the attention's loop, at one query's lane: what the tile's payloads compute of the logits, read element by
  element. `z` is the query's logits by key, `T` the query's place; `C`, `W` and `A` are the sums and weights of the
  scalar module.
-/
module

public import proofs.«01_k».proof.Proof.SbV.Scalar
public import proofs.«01_k».proof.Proof.SbI.Body
public import Idealize.ShloMosaic.Lib.Pipeline.ReadBack

@[expose] public section

set_option maxRecDepth 16384

noncomputable section

namespace Cert.Proof.SbV

open Cert.KernelIdeal Cert.KernelIdeal.Gen
open Idealize.ShloMosaic Idealize.ShloMosaic.TcCoe Idealize.SL.Sem

variable (qa : FVec Ideal S128x512 .bf16) (ut : FVec Ideal S128x128 .bf16) (kt : Vec Ideal S1x1x128x128 .bf16)

/-- A tile's logits. -/
theorem logit_apply (a : Fin 128) (g : Fin 512) :
    k0_pay19 qa kt (ix2 a g) = ∑ d : Fin 128, kt (ix4 0 0 a d) * qa (ix2 d g) := by
  pointwise [k0_pay19]

/-- The softplus of a logit. -/
theorem softplus_apply (y : S128x512.Idx) : k0_pay20 qa kt y = sp (k0_pay19 qa kt y) := by
  unfold k0_pay20
  generalize k0_pay19 qa kt = Z
  pointwise [sp]
  rfl

/-- The log-survival of a key. -/
theorem survival_apply (y : S128x512.Idx) : k0_pay21 qa kt y = lm (k0_pay19 qa kt y) := by
  unfold k0_pay21 lm
  rw [← softplus_apply qa kt y]
  generalize k0_pay20 qa kt = Z
  pointwise []

/-- The weights of a tile that is before its query as a whole. -/
theorem weight_apply (cb : Vec Ideal S1x512 .f32) (a : Fin 128) (g : Fin 512) :
    k0_pay22 qa ut kt cb (ix2 a g) = Ideal.exp ((k0_pay19 qa kt (ix2 a g) - sp (k0_pay19 qa kt (ix2 a g)))
      + (∑ b : Fin 128, ut (ix2 a b) * k0_pay21 qa kt (ix2 b g)
        + ∑ b : Fin 128, ut (ix2 a b) * (k0_pay21 qa kt (ix2 b g) - k0_pay21 qa kt (ix2 b g))) + cb (ix2 0 g)) := by
  rw [← softplus_apply qa kt (ix2 a g)]
  unfold k0_pay22
  generalize k0_pay19 qa kt = Z
  generalize k0_pay20 qa kt = S
  generalize k0_pay21 qa kt = M
  pointwise []

/-- The log-survival after a tile. -/
theorem bias_apply (cb : Vec Ideal S1x512 .f32) (g : Fin 512) :
    k0_pay23 qa kt cb (ix2 0 g) = cb (ix2 0 g) + ∑ a : Fin 128, k0_pay21 qa kt (ix2 a g) := by
  unfold k0_pay23
  generalize k0_pay21 qa kt = M
  pointwise []

/-- The sum of values after a tile. -/
theorem acc_apply (w : FVec Ideal S128x512 .f32) (acc : Vec Ideal S64x512 .f32) (vt : Vec Ideal S1x1x64x128 .f32) (d : Fin 64) (g : Fin 512) :
    k0_pay4 w acc vt (ix2 d g) = acc (ix2 d g) + ∑ a : Fin 128, vt (ix4 0 0 d a) * w (ix2 a g) := by
  pointwise [k0_pay4]

/-- The greatest log-survival of the lanes is no less than any. -/
theorem le_live (cb : Vec Ideal S1x512 .f32) (g : Fin 512) : cb (ix2 0 g) ≤ k0_pay6 (F := Ideal) cb := by
  pointwise [k0_pay6]
  exact (Finset.le_fold_max _).mpr (.inr ⟨g, Finset.mem_univ g, le_rfl⟩)

/-- The diagonal tile's mask: key `a` is before the query at `g % 128`. -/
theorem mask_apply (a : Fin 128) (g : Fin 512) : k0_pay12 (ix2 a g) = if a.val < g.val % 128 then 1#1 else 0#1 := by
  have ha := a.isLt
  have hg := g.isLt
  pointwise [k0_pay12]
  have e : IntOp.andi (BitVec.ofNat 32 g.val) 127#32 = BitVec.ofNat 32 (g.val % 128) := by
    show BitVec.ofNat 32 g.val &&& 127#32 = _
    apply BitVec.eq_of_toNat_eq
    simp only [BitVec.toNat_and, BitVec.toNat_ofNat]
    have h127 : (127 % 2 ^ 32 : ℕ) = 2 ^ 7 - 1 := by norm_num
    rw [h127, Nat.and_two_pow_sub_one_eq_mod]
    omega
  rw [e]
  simp (disch := omega) only [hlo_ix]
  split
  · next h => rw [decide_eq_true h]; rfl
  · next h => rw [decide_eq_false h]; rfl

/-- The log-survivals of the diagonal tile. -/
theorem masked_apply (x0 : Vec Ideal S1x256x128 .bf16) (a : Fin 128) (g : Fin 512) :
    k0_pay16 k0_pay12 (k0_pay13 x0 kt) (k0_pay14 x0 kt) (ix2 a g)
      = if a.val < g.val % 128 then k0_pay21 (k0_pay7 x0) kt (ix2 a g) else 0 := by
  have e : k0_pay16 k0_pay12 (k0_pay13 x0 kt) (k0_pay14 x0 kt)
      = select k0_pay12 (k0_pay21 (k0_pay7 x0) kt) (broadcast S128x512 (Scalar.ofBits .f32 0x00000000#32)) := rfl
  rw [e]
  have hm := mask_apply a g
  generalize k0_pay12 = M at hm
  generalize k0_pay21 (k0_pay7 x0) kt = X
  pointwise []
  rw [hm]
  split <;> rfl

/-- The log-survival after the diagonal tile. -/
theorem diag_bias_apply (x0 : Vec Ideal S1x256x128 .bf16) (g : Fin 512) :
    k0_pay17 k0_pay12 (k0_pay10 (F := Ideal)) (k0_pay13 x0 kt) (k0_pay14 x0 kt) (ix2 0 g)
      = ∑ a : Fin 128, k0_pay16 k0_pay12 (k0_pay13 x0 kt) (k0_pay14 x0 kt) (ix2 a g) := by
  unfold k0_pay17
  generalize k0_pay16 k0_pay12 (k0_pay13 x0 kt) (k0_pay14 x0 kt) = M
  pointwise [k0_pay10]

/-- The sum of values after the diagonal tile. -/
theorem diag_acc_apply (x0 : Vec Ideal S1x256x128 .bf16) (vt : Vec Ideal S1x1x64x128 .f32) (d : Fin 64) (g : Fin 512) :
    k0_pay18 ut (k0_pay11 x0 kt) k0_pay12 (k0_pay10 (F := Ideal)) (k0_pay13 x0 kt) (k0_pay14 x0 kt) (k0_pay9 (F := Ideal)) vt (ix2 d g)
      = ∑ a : Fin 128, vt (ix4 0 0 d a) * (if a.val < g.val % 128 then
          Ideal.exp ((k0_pay19 (k0_pay7 x0) kt (ix2 a g) - sp (k0_pay19 (k0_pay7 x0) kt (ix2 a g)))
      + (∑ b : Fin 128, ut (ix2 a b) * k0_pay16 k0_pay12 (k0_pay13 x0 kt) (k0_pay14 x0 kt) (ix2 b g)
        + ∑ b : Fin 128, ut (ix2 a b) * (k0_pay16 k0_pay12 (k0_pay13 x0 kt) (k0_pay14 x0 kt) (ix2 b g)
            - k0_pay16 k0_pay12 (k0_pay13 x0 kt) (k0_pay14 x0 kt) (ix2 b g))) + 0) else 0) := by
  have hs := fun a : Fin 128 => softplus_apply (k0_pay7 x0) kt (ix2 a g)
  simp only [← hs]
  have hm := fun a : Fin 128 => mask_apply a g
  have e1 : k0_pay11 x0 kt = k0_pay19 (k0_pay7 x0) kt := rfl
  have e2 : k0_pay15 (k0_pay13 x0 kt) (k0_pay14 x0 kt) = k0_pay20 (k0_pay7 x0) kt := rfl
  unfold k0_pay18
  rw [e1, e2]
  generalize k0_pay16 k0_pay12 (k0_pay13 x0 kt) (k0_pay14 x0 kt) = M
  generalize k0_pay19 (k0_pay7 x0) kt = Z
  generalize k0_pay20 (k0_pay7 x0) kt = S
  generalize k0_pay12 = N at hm
  pointwise [k0_pay9, k0_pay10]
  show (_ : EReal) = _
  refine Finset.sum_congr rfl fun a _ => ?_
  rw [hm]
  split
  · rfl
  · exact (mul_zero _).symm

/-- The stacked queries: lane `g` holds head `g / 128` of the group at row `g % 128`; the lower half is zero. -/
theorem query_apply (x0 : Vec Ideal S1x256x128 .bf16) (d : Fin 128) (g : Fin 512) :
    k0_pay7 x0 (ix2 d g) = if h : d.val < 64 then x0 (ix3 0 ⟨g.val / 128 * 64 + d.val, by omega⟩ ⟨g.val % 128, by omega⟩) else 0 := by
  have hg := g.isLt
  pointwise [k0_pay7]
  by_cases h : d.val < 64
  · simp only [h, ↓reduceDIte]
    split_ifs <;> refine congrArg x0 ?_ <;> congr 1 <;> apply Fin.ext <;> dsimp only <;> omega
  · simp only [h, ↓reduceDIte]

end Cert.Proof.SbV

end
-- ==== Proof.SbV.Loop.lean ====
/-
  The attention's loop at one query's lane: from the diagonal tile down, the running sums are `C` and `A` of the scalar
  module, and an early stop changes nothing, since a query whose log-survival is `-∞` gives no earlier key weight.
-/
module

public import proofs.«01_k».proof.Proof.SbV.Tile

@[expose] public section

set_option maxRecDepth 16384

noncomputable section

namespace Cert.Proof.SbV

open Cert.KernelIdeal Cert.KernelIdeal.Gen Cert.Proof.SbI
open Idealize.ShloMosaic Idealize.ShloMosaic.ValueKit Idealize.ShloMosaic.TcCoe Idealize.SL.Sem

/-- The name of the loop's bound stands for `-∞`. -/
theorem dead_eq : (Named.named κ "dead" 0xC2D00000#32 : Ideal .f32) = ⊥ :=
  IdealRules.named_const.ideal_named_scalar _ _ _ _ rfl

/-- The offsets of tile `k`. -/
theorem off3_eq (k : ℕ) (hk : k < 32) : k0_off3 (BitVec.ofNat 32 k) = ![0, 0, k * 128, 0] := by
  interval_cases k <;> rfl
theorem off4_eq (k : ℕ) (hk : k < 32) : k0_off4 (BitVec.ofNat 32 k) = ![0, 0, 0, k * 128] := by
  interval_cases k <;> rfl

/-- A row block's number. -/
theorem row_lt (i : grid0.Coords) : (i 2).val < 32 := (i 2).isLt

/-- The diagonal tile of row block `i` is tile `i`. -/
theorem off1_eq (i : grid0.Coords) : k0_off1 i = ![0, 0, (i 2).val * 128, 0] := off3_eq (i 2).val (i 2).isLt
theorem off2_eq (i : grid0.Coords) : k0_off2 i = ![0, 0, 0, (i 2).val * 128] := off4_eq (i 2).val (i 2).isLt

section

variable (x1 : Vec Ideal S1x1x4096x128 .bf16) (x2 : Vec Ideal S1x1x64x4096 .f32) (qa : FVec Ideal S128x512 .bf16) (ut : FVec Ideal S128x128 .bf16)

/-- Lane `g`'s logit at key `s`. -/
def zOf (g : Fin 512) (s : ℕ) : EReal := ∑ d : Fin 128, (if h : s < 4096 then x1 (ix4 0 0 ⟨s, h⟩ d) else 0) * qa (ix2 d g)
/-- Coordinate `d` of key `s`'s value. -/
def vOf (d : Fin 64) (s : ℕ) : EReal := if h : s < 4096 then x2 (ix4 0 0 d ⟨s, h⟩) else 0

theorem kTile_apply (k : ℕ) (hk : k < 32) (a d : Fin 128) :
    kTile x1 k hk (ix4 0 0 a d) = x1 (ix4 0 0 ⟨k * 128 + a.val, by omega⟩ d) := by
  refine View.ld_unit_apply_of x1 _ _ _ _ _ fun b => ?_
  refine Eq.trans ?_ (congrArg (· + _) (congrFun (off3_eq k hk) b).symm)
  fin_cases b <;> simp [ix4]

theorem vTile_apply (k : ℕ) (hk : k < 32) (d : Fin 64) (a : Fin 128) :
    vTile x2 k hk (ix4 0 0 d a) = x2 (ix4 0 0 d ⟨k * 128 + a.val, by omega⟩) := by
  refine View.ld_unit_apply_of x2 _ _ _ _ _ fun b => ?_
  refine Eq.trans ?_ (congrArg (· + _) (congrFun (off4_eq k hk) b).symm)
  fin_cases b <;> simp [ix4]

theorem kDiag_eq (i : grid0.Coords) : kDiag i x1 = kTile x1 (i 2).val (row_lt i) := rfl
theorem vDiag_eq (i : grid0.Coords) : vDiag i x2 = vTile x2 (i 2).val (row_lt i) := rfl

theorem logit_tile (k : ℕ) (hk : k < 32) (a : Fin 128) (g : Fin 512) :
    k0_pay19 qa (kTile x1 k hk) (ix2 a g) = zOf x1 qa g (k * 128 + a.val) := by
  rw [logit_apply]
  refine Finset.sum_congr rfl fun d _ => ?_
  rw [kTile_apply, dif_pos (by omega)]

theorem value_tile (k : ℕ) (hk : k < 32) (d : Fin 64) (a : Fin 128) :
    vTile x2 k hk (ix4 0 0 d a) = vOf x2 d (k * 128 + a.val) := by
  rw [vTile_apply, vOf, dif_pos (by omega)]

variable (hut : ∀ a b : Fin 128, ut (ix2 a b) = if a.val < b.val then (1 : EReal) else 0)
include hut

/-- One trip at lane `g`, of a query at `T` after the tile. -/
theorem trip_bias (k : ℕ) (hk : k < 32) (cb : Vec Ideal S1x512 .f32) (g : Fin 512) (T : ℕ) (hT : (k + 1) * 128 ≤ T)
    (hcb : cb (ix2 0 g) = C (zOf x1 qa g) T ((k + 1) * 128)) :
    tripCb x1 qa k hk cb (ix2 0 g) = C (zOf x1 qa g) T (k * 128) := by
  unfold tripCb
  rw [bias_apply, hcb, C_tile _ _ k hk]
  show (_ : EReal) = _
  refine congrArg (_ + ·) (Finset.sum_congr rfl fun a _ => ?_)
  rw [survival_apply, logit_tile, L, if_pos (by omega)]

theorem trip_acc (k : ℕ) (hk : k < 32) (cb : Vec Ideal S1x512 .f32) (acc : Vec Ideal S64x512 .f32) (d : Fin 64) (g : Fin 512) (T : ℕ)
    (hT : (k + 1) * 128 ≤ T) (hcb : cb (ix2 0 g) = C (zOf x1 qa g) T ((k + 1) * 128))
    (hacc : acc (ix2 d g) = A (zOf x1 qa g) (vOf x2 d) T ((k + 1) * 128)) :
    tripAcc x1 x2 qa ut k hk acc cb (ix2 d g) = A (zOf x1 qa g) (vOf x2 d) T (k * 128) := by
  unfold tripAcc
  rw [acc_apply, hacc, A_tile _ _ _ k hk]
  show (_ : EReal) = _
  refine congrArg (_ + ·) (Finset.sum_congr rfl fun a _ => ?_)
  rw [value_tile, weight_apply]
  refine congrArg (_ * ·) (W_kernel _ T k hk a (by omega) (fun b => ut (ix2 a b)) (hut a) (fun b => k0_pay21 qa (kTile x1 k hk) (ix2 b g))
    (fun b => ?_) _ _ (logit_tile x1 qa k hk a g) hcb)
  rw [survival_apply, logit_tile, L, if_pos (by omega)]

/-- The loop at lane `g`: with the running sums right from tile `k` on, it leaves the sum over every key. -/
theorem loop_apply (i : ℕ) (hi : i < 32) (d : Fin 64) (g : Fin 512) :
    ∀ k (hk : k ≤ 32) (hki : k ≤ i) (live : Ideal .f32) (acc : Vec Ideal S64x512 .f32) (cb : Vec Ideal S1x512 .f32),
      (∀ g, cb (ix2 0 g) ≤ live) → (∀ g : Fin 512, cb (ix2 0 g) = C (zOf x1 qa g) (i * 128 + g.val % 128) (k * 128)) →
      acc (ix2 d g) = A (zOf x1 qa g) (vOf x2 d) (i * 128 + g.val % 128) (k * 128) →
      loop x1 x2 qa ut k hk live acc cb (ix2 d g) = A (zOf x1 qa g) (vOf x2 d) (i * 128 + g.val % 128) 0 := by
  intro k
  induction k with
  | zero => intro hk hki live acc cb _ _ hacc; simpa only [loop, Nat.zero_mul] using hacc
  | succ k ih =>
    intro hk hki live acc cb hlive hcb hacc
    unfold loop
    split
    · refine ih _ (by omega) _ _ _ (fun g => ?_) (fun g => ?_) ?_
      · have e : k0_pay5 (tripCb x1 qa k (by omega) cb) = tripCb x1 qa k (by omega) cb := by
          unfold k0_pay5; exact shapeCast_self _ _
        rw [e]
        exact le_live _ g
      · have e : k0_pay5 (tripCb x1 qa k (by omega) cb) = tripCb x1 qa k (by omega) cb := by
          unfold k0_pay5; exact shapeCast_self _ _
        rw [e]
        exact trip_bias x1 qa ut hut k (by omega) cb g _ (by omega) (hcb g)
      · exact trip_acc x1 x2 qa ut hut k (by omega) cb acc d g _ (by omega) (hcb g) hacc
    · next hdead =>
      rw [dead_eq] at hdead
      have hbot : live = ⊥ := by
        by_contra hne
        apply hdead
        simp only [Ideal.scalar_cmpf_def, Ideal.cmp]
        rw [decide_eq_true (bot_lt_iff_ne_bot.mpr hne)]
        rfl
      rw [hacc]
      refine (A_dead _ _ _ _ (by omega) ?_).symm
      rw [← hcb g]
      exact le_bot_iff.mp (hbot ▸ hlive g)

end

end Cert.Proof.SbV

end
-- ==== Proof.SbV.Block.lean ====
/-
  The block one grid point leaves: each entry is one query's sum of values over all the keys before it, weighted as the
  scalar module says, of the logits of that query's 64 lanes.
-/
module

public import proofs.«01_k».proof.Proof.SbV.Loop

@[expose] public section

set_option maxRecDepth 16384

noncomputable section

namespace Cert.Proof.SbV

open Cert.KernelIdeal Cert.KernelIdeal.Gen Cert.Proof.SbI
open Idealize.ShloMosaic Idealize.ShloMosaic.ValueKit Idealize.ShloMosaic.TcCoe Idealize.SL.Sem

/-- The accumulators go out one head after another, each transposed. -/
theorem result_apply (acc : Vec Ideal S64x512 .f32) (t : Fin 128) (e : Fin 256) :
    k0_pay3 acc (ix3 0 t e) = acc (ix2 ⟨e.val % 64, by omega⟩ ⟨e.val / 64 * 128 + t.val, by omega⟩) := by
  have he := e.isLt
  pointwise [k0_pay3]
  split_ifs <;> refine congrArg acc ?_ <;> congr 1 <;> apply Fin.ext <;> dsimp only <;> omega

variable (x0 : Vec Ideal S1x256x128 .bf16) (x1 : Vec Ideal S1x1x4096x128 .bf16) (x2 : Vec Ideal S1x1x64x4096 .f32) (x3 : Vec Ideal S128x128 .bf16)

/-- A logit by the 64 lanes of the query: the lanes the stacked queries fill with zeros add nothing. -/
theorem zOf_apply (g : Fin 512) (s : ℕ) (hs : s < 4096) :
    zOf x1 (k0_pay7 x0) g s = ∑ d : Fin 64, x1 (ix4 0 0 ⟨s, hs⟩ ⟨d.val, by omega⟩)
      * x0 (ix3 0 ⟨g.val / 128 * 64 + d.val, by omega⟩ ⟨g.val % 128, by omega⟩) := by
  unfold zOf
  rw [Fin.sum_univ_add (a := 64) (b := 64)]
  have hz : ∑ d : Fin 64, (if h : s < 4096 then x1 (ix4 0 0 ⟨s, h⟩ (Fin.natAdd 64 d)) else (0 : EReal)) * k0_pay7 x0 (ix2 (Fin.natAdd 64 d) g) = 0 :=
    Finset.sum_eq_zero fun d _ =>
      (congrArg (_ * ·) ((query_apply x0 (Fin.natAdd 64 d) g).trans (dif_neg (by simp)))).trans (mul_zero _)
  refine (congrArg (_ + ·) hz).trans ((add_zero _).trans (Finset.sum_congr rfl fun d _ => ?_))
  rw [dif_pos hs, query_apply, dif_pos (by simp)]
  rfl

section
variable (hut : ∀ a b : Fin 128, x3 (ix2 a b) = if a.val < b.val then (1 : EReal) else 0) (i : grid0.Coords)

theorem masked_tile (a : Fin 128) (g : Fin 512) :
    k0_pay16 k0_pay12 (k0_pay13 x0 (kDiag i x1)) (k0_pay14 x0 (kDiag i x1)) (ix2 a g)
      = L (zOf x1 (k0_pay7 x0) g) ((i 2).val * 128 + g.val % 128) ((i 2).val * 128 + a.val) := by
  rw [masked_apply, survival_apply, kDiag_eq, logit_tile, L]
  refine if_congr ?_ rfl rfl
  omega

/-- After the diagonal tile the running sums are right. -/
theorem diagCb_apply (g : Fin 512) :
    diagCb i x0 x1 (ix2 0 g) = C (zOf x1 (k0_pay7 x0) g) ((i 2).val * 128 + g.val % 128) ((i 2).val * 128) := by
  unfold diagCb
  rw [diag_bias_apply, C_tile _ _ _ (row_lt i), C_zero _ _ _ (by omega), zero_add]
  exact Finset.sum_congr rfl fun a _ => masked_tile x0 x1 i a g

include hut in
theorem diagAcc_apply (d : Fin 64) (g : Fin 512) :
    diagAcc i x0 x1 x2 x3 (ix2 d g)
      = A (zOf x1 (k0_pay7 x0) g) (vOf x2 d) ((i 2).val * 128 + g.val % 128) ((i 2).val * 128) := by
  have e8 : k0_pay8 x3 = x3 := by unfold k0_pay8; exact shapeCast_self _ _
  unfold diagAcc
  rw [e8, diag_acc_apply, A_tile _ _ _ _ (row_lt i), A_zero _ _ _ _ (by omega), zero_add]
  show (_ : EReal) = _
  refine Finset.sum_congr rfl fun a _ => ?_
  rw [vDiag_eq, value_tile]
  refine congrArg (_ * ·) ?_
  by_cases h : a.val < g.val % 128
  · rw [if_pos h]
    refine W_kernel _ _ _ (row_lt i) a (by omega) (fun b => x3 (ix2 a b)) (hut a)
      (fun b => k0_pay16 k0_pay12 (k0_pay13 x0 (kDiag i x1)) (k0_pay14 x0 (kDiag i x1)) (ix2 b g))
      (fun b => masked_tile x0 x1 i b g) _ _ ?_ (C_zero _ _ _ (by omega)).symm
    rw [kDiag_eq, logit_tile]
  · rw [if_neg h, W, if_neg (by omega)]

include hut in
/-- The block, entry by entry. -/
theorem out_apply (t : Fin 128) (e : Fin 256) :
    out i x0 x1 x2 x3 (ix3 0 t e)
      = A (zOf x1 (k0_pay7 x0) ⟨e.val / 64 * 128 + t.val, by omega⟩) (vOf x2 ⟨e.val % 64, by omega⟩) ((i 2).val * 128 + t.val) 0 := by
  have e8 : k0_pay8 x3 = x3 := by unfold k0_pay8; exact shapeCast_self _ _
  have e1 : k0_pay1 (diagCb i x0 x1) = diagCb i x0 x1 := by unfold k0_pay1; exact shapeCast_self _ _
  unfold out
  rw [result_apply, e8, e1]
  have key := loop_apply x1 x2 (k0_pay7 x0) x3 hut (i 2).val (row_lt i) ⟨e.val % 64, by omega⟩ ⟨e.val / 64 * 128 + t.val, by omega⟩
    (i 2).val (row_le i) le_rfl (k0_pay2 (diagCb i x0 x1)) (diagAcc i x0 x1 x2 x3) (diagCb i x0 x1)
    (fun g => le_live _ g) (fun g => diagCb_apply x0 x1 i g) (diagAcc_apply x0 x1 x2 x3 hut i _ _)
  have hm : (e.val / 64 * 128 + t.val) % 128 = t.val := by omega
  simp only [hm] at key
  exact key

end

end Cert.Proof.SbV

end
-- ==== Proof.SbV.Reference.lean ====
/-
  The reference's attention, entry by entry: the mask, the log-sigmoids, the sum over the keys from one on, the weights and
  the weighted sum of values, each stated as the scalar module's function of the query's logits.
-/
module

public import proofs.«01_k».proof.Proof.SbV.Scalar
public import proofs.«01_k».proof.Proof.Gen.ReferenceIdeal.Run
public import Idealize.ShloMosaic.Lib.WordCmp

@[expose] public section

set_option maxRecDepth 16384

noncomputable section

namespace Cert.Proof.SbV

open Cert.ReferenceIdeal Cert.ReferenceIdeal.Gen
open Idealize.ShloMosaic Idealize.ShloMosaic.TcCoe Idealize.SL.Sem

/-- The logits, by batch, key head, head in the group, query and key. -/
def logits (q : FVec Ideal S4x1024x4096 .bf16) (k : FVec Ideal S4x4x4096x128 .bf16) : FVec Ideal S4x4x4x4096x4096 .f32 :=
  Host.dotGeneral dot_S4x4x4x64x4096_S4x4x4096x64_S4x4x4x4096x4096_3_3_24_2_01_01 none
    (shapeCast _ (extf .f32 q bitsLt_bf16_f32) shapeCasts_S4x1024x4096_S4x4x4x64x4096)
    (extf .f32 (extractStridedSlice S4x4x4096x64 ![0, 0, 0, 0] k slices_S4x4x4096x128_S4x4x4096x64_0_0_0_0) bitsLt_bf16_f32)

/-- Which keys are before which queries. -/
def before : IVec S4x4x4x4096x4096 1 :=
  broadcastInDim S4x4x4x4096x4096 ![3, 4] bcast_S4096x4096_S4x4x4x4096x4096_3_4 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- Zeros. -/
abbrev zeros : FVec Ideal S4x4x4x4096x4096 .f32 := broadcastInDim S4x4x4x4096x4096 ![] bcast_S_S4x4x4x4096x4096 (constant S_ .f32 0x00000000#32)
def zeros' : FVec Ideal S4x4x4x4096x4096 .f32 := broadcastInDim S4x4x4x4096x4096 ![] bcast_S_S4x4x4x4096x4096 (id (constant S_ .f32 0x00000000#32))

/-- The log-sigmoid of an array, by the softplus of its negation `x`. -/
def logSigmoid (x : FVec Ideal S4x4x4x4096x4096 .f32) : FVec Ideal S4x4x4x4096x4096 .f32 :=
  Host.negf (select (cmpf .une (subf x zeros) (subf x zeros)) (addf x zeros)
    (addf (maximumf x zeros) (Host.log1p (Host.exp (Host.negf (Host.absf (subf x zeros)))))))

/-- The log-survivals, zero where the key is not before the query. -/
def survivals (z : FVec Ideal S4x4x4x4096x4096 .f32) : FVec Ideal S4x4x4x4096x4096 .f32 :=
  select before (logSigmoid (Host.negf (Host.negf z))) zeros'

/-- The sums of the log-survivals from each key on. -/
def runningSum (l : FVec Ideal S4x4x4x4096x4096 .f32) : FVec Ideal S4x4x4x4096x4096 .f32 :=
  Host.reduceWindowAdd ![1, 1, 1, 1, 4096] ![1, 1, 1, 1, 1] ![0, 0, 0, 0, 0] ![0, 0, 0, 0, 4095] l
    (broadcastInDim S_ ![] bcast_S_S_ (constant S_ .f32 0x00000000#32))
    reduceWindows_S4x4x4x4096x4096_S4x4x4x4096x4096_w1s1p0_0_w1s1p0_0_w1s1p0_0_w1s1p0_0_w4096s1p0_4095 h_S_

/-- The weights. -/
def weights (z : FVec Ideal S4x4x4x4096x4096 .f32) : FVec Ideal S4x4x4x4096x4096 .f32 :=
  select before (Host.exp (addf (logSigmoid (Host.negf z)) (subf (runningSum (survivals z)) (survivals z)))) zeros'

/-- The attention. -/
def attention (q : FVec Ideal S4x1024x4096 .bf16) (k : FVec Ideal S4x4x4096x128 .bf16) (v : FVec Ideal S4x4x64x4096 .f32) :
    FVec Ideal S4x4096x1024 .bf16 :=
  truncf .bf16 (shapeCast _ (transpose S4x4096x4x4x64 [0, 4, 1, 3, 2]
    (Host.dotGeneral dot_S4x4x64x4096_S4x4x4x4096x4096_S4x4x64x4x4096_3_4_2_23_01_01 none v (weights (logits q k)))
    transposes_S4x4x64x4x4096_S4x4096x4x4x64_0_4_1_3_2) shapeCasts_S4x4096x4x4x64_S4x4096x1024) bitsLt_bf16_f32

/-- It is what the reference's run leaves. -/
theorem res_eq (m : (ℓ : Loc nD τ sig) → Buf (Elt Ideal) ℓ) (c : Dev nD) : Cert.ReferenceIdeal.Value.res_main_v23 m c
    = attention (m ((c.tc : Thread nD τ).loc main_arg0)) (m ((c.tc : Thread nD τ).loc main_arg1)) (m ((c.tc : Thread nD τ).loc main_arg2)) := by
  unfold Cert.ReferenceIdeal.Value.res_main_v23
  rfl

theorem zeros'_apply (y : S4x4x4x4096x4096.Idx) : zeros' y = 0 := by
  have e : zeros' = zeros := rfl
  rw [e]
  pointwise []

theorem before_apply (b kk g : Fin 4) (t s : Fin 4096) : before (ix5 b kk g t s) = if s.val < t.val then 1#1 else 0#1 := by
  have hs := s.isLt
  have ht := t.isLt
  pointwise [before]
  simp (disch := omega) only [hlo_ix]
  split
  · next h => rw [decide_eq_true h]; rfl
  · next h => rw [decide_eq_false h]; rfl

theorem logSigmoid_apply (x z : FVec Ideal S4x4x4x4096x4096 .f32) (y : S4x4x4x4096x4096.Idx) (h : x y = -z y) :
    logSigmoid x y = ls (z y) := by
  pointwise [logSigmoid, ls]
  rw [h, if_neg (by simp)]
  rfl

theorem logits_apply (q : FVec Ideal S4x1024x4096 .bf16) (k : FVec Ideal S4x4x4096x128 .bf16) (b kk g : Fin 4) (t s : Fin 4096) :
    logits q k (ix5 b kk g t s) = ∑ d : Fin 64, q (ix3 b ⟨kk.val * 256 + g.val * 64 + d.val, by omega⟩ t) * k (ix4 b kk s ⟨d.val, by omega⟩) := by
  pointwise [logits]

/-- A left fold of additions is the start plus the sum. -/
theorem foldl_add {α : Type} (l : List α) (G : α → EReal) (v : EReal) : l.foldl (fun r n => r + G n) v = v + (l.map G).sum := by
  induction l generalizing v with
  | nil => simp
  | cons x l ih => rw [List.foldl_cons, ih, List.map_cons, List.sum_cons, add_assoc]

/-- The indices of a window of `N` places on the last of five axes. -/
def windowEquiv (N : ℕ) : (⟨5, ![1, 1, 1, 1, N]⟩ : Shape).Idx ≃ Fin N where
  toFun w := w 4
  invFun n := ix5 0 0 0 0 n
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  right_inv n := rfl

/-- A sum over windows reaching from a place to the end of the last axis, and past it into zeros. -/
theorem window_sum {A B C D N M : ℕ} (x : (⟨5, ![A, B, C, D, N]⟩ : Shape).Idx → EReal)
    (h : (⟨5, ![A, B, C, D, N]⟩ : Shape).ReduceWindows (![1, 1, 1, 1, N] : Fin 5 → ℕ) ![1, 1, 1, 1, 1] ![0, 0, 0, 0, 0] ![0, 0, 0, 0, M] ⟨5, ![A, B, C, D, N]⟩)
    (u : Shape) (hu : 0 < u.numel) (a : Fin A) (b : Fin B) (c : Fin C) (d : Fin D) (s : Fin N) (f : ℕ → EReal)
    (hf : ∀ s : Fin N, x (ix5 a b c d s) = f s.val) (v : EReal) (hv : v = 0) :
    Host.reduceWindow (· + ·) ![1, 1, 1, 1, N] ![1, 1, 1, 1, 1] ![0, 0, 0, 0, 0] ![0, 0, 0, 0, M] x (fun _ : u.Idx => v) h hu (ix5 a b c d s)
      = ∑ n ∈ Finset.Ico s.val N, f n := by
  have hs := s.isLt
  subst hv
  unfold Host.reduceWindow
  dsimp only
  rw [foldl_add, ← Fin.sum_univ_def, zero_add]
  refine (Fintype.sum_equiv ((Shape.rowMajor ⟨5, ![1, 1, 1, 1, N]⟩).symm.trans (windowEquiv N)) _
    (fun n : Fin N => if s.val + n.val < N then f (s.val + n.val) else 0) fun n => ?_).trans ?_
  · show _ = if s.val + ((Shape.rowMajor ⟨5, ![1, 1, 1, 1, N]⟩).symm n 4).val < N then f (s.val + ((Shape.rowMajor ⟨5, ![1, 1, 1, 1, N]⟩).symm n 4).val) else 0
    have h0 : ((Shape.rowMajor ⟨5, ![1, 1, 1, 1, N]⟩).symm n 0).val = 0 := Nat.lt_one_iff.mp ((Shape.rowMajor ⟨5, ![1, 1, 1, 1, N]⟩).symm n 0).isLt
    have h1 : ((Shape.rowMajor ⟨5, ![1, 1, 1, 1, N]⟩).symm n 1).val = 0 := Nat.lt_one_iff.mp ((Shape.rowMajor ⟨5, ![1, 1, 1, 1, N]⟩).symm n 1).isLt
    have h2 : ((Shape.rowMajor ⟨5, ![1, 1, 1, 1, N]⟩).symm n 2).val = 0 := Nat.lt_one_iff.mp ((Shape.rowMajor ⟨5, ![1, 1, 1, 1, N]⟩).symm n 2).isLt
    have h3 : ((Shape.rowMajor ⟨5, ![1, 1, 1, 1, N]⟩).symm n 3).val = 0 := Nat.lt_one_iff.mp ((Shape.rowMajor ⟨5, ![1, 1, 1, 1, N]⟩).symm n 3).isLt
    split
    · next hin =>
      have h4 : s.val * 1 + ((Shape.rowMajor ⟨5, ![1, 1, 1, 1, N]⟩).symm n 4).val - 0 < N := (hin 4).2
      rw [if_pos (by omega)]
      refine (congrArg x (funext fun e => Fin.ext ?_)).trans (hf ⟨s.val + ((Shape.rowMajor ⟨5, ![1, 1, 1, 1, N]⟩).symm n 4).val, by omega⟩)
      match e with
      | ⟨0, _⟩ => exact (congrArg (fun r => a.val * 1 + r - 0) h0).trans (by show a.val * 1 + 0 - 0 = a.val; omega)
      | ⟨1, _⟩ => exact (congrArg (fun r => b.val * 1 + r - 0) h1).trans (by show b.val * 1 + 0 - 0 = b.val; omega)
      | ⟨2, _⟩ => exact (congrArg (fun r => c.val * 1 + r - 0) h2).trans (by show c.val * 1 + 0 - 0 = c.val; omega)
      | ⟨3, _⟩ => exact (congrArg (fun r => d.val * 1 + r - 0) h3).trans (by show d.val * 1 + 0 - 0 = d.val; omega)
      | ⟨4, _⟩ =>
        show s.val * 1 + ((Shape.rowMajor ⟨5, ![1, 1, 1, 1, N]⟩).symm n 4).val - 0 = s.val + ((Shape.rowMajor ⟨5, ![1, 1, 1, 1, N]⟩).symm n 4).val
        omega
    · next hin =>
      rw [if_neg]
      intro hlt
      refine hin fun e => ⟨?_, ?_⟩
      · match e with
        | ⟨0, _⟩ => exact Nat.zero_le _
        | ⟨1, _⟩ => exact Nat.zero_le _
        | ⟨2, _⟩ => exact Nat.zero_le _
        | ⟨3, _⟩ => exact Nat.zero_le _
        | ⟨4, _⟩ => exact Nat.zero_le _
      · match e with
        | ⟨0, _⟩ => exact lt_of_eq_of_lt (congrArg (fun r => a.val * 1 + r - 0) h0) (by show a.val * 1 + 0 - 0 < A; have := a.isLt; omega)
        | ⟨1, _⟩ => exact lt_of_eq_of_lt (congrArg (fun r => b.val * 1 + r - 0) h1) (by show b.val * 1 + 0 - 0 < B; have := b.isLt; omega)
        | ⟨2, _⟩ => exact lt_of_eq_of_lt (congrArg (fun r => c.val * 1 + r - 0) h2) (by show c.val * 1 + 0 - 0 < C; have := c.isLt; omega)
        | ⟨3, _⟩ => exact lt_of_eq_of_lt (congrArg (fun r => d.val * 1 + r - 0) h3) (by show d.val * 1 + 0 - 0 < D; have := d.isLt; omega)
        | ⟨4, _⟩ =>
          show s.val * 1 + ((Shape.rowMajor ⟨5, ![1, 1, 1, 1, N]⟩).symm n 4).val - 0 < N
          omega
  · rw [Fin.sum_univ_eq_sum_range (fun n => if s.val + n < N then f (s.val + n) else 0) N, ← Finset.sum_filter, Finset.sum_Ico_eq_sum_range]
    refine Finset.sum_congr (Finset.ext fun n => ?_) fun _ _ => rfl
    simp only [Finset.mem_filter, Finset.mem_range]
    omega

/-- So is the host's window sum, started from zero. -/
theorem hostWindow_sum {A B C D N M : ℕ} (x : FVec Ideal (⟨5, ![A, B, C, D, N]⟩ : Shape) .f32)
    (h : (⟨5, ![A, B, C, D, N]⟩ : Shape).ReduceWindows (![1, 1, 1, 1, N] : Fin 5 → ℕ) ![1, 1, 1, 1, 1] ![0, 0, 0, 0, 0] ![0, 0, 0, 0, M] ⟨5, ![A, B, C, D, N]⟩)
    (u : Shape) (hu : 0 < u.numel) (init : FVec Ideal u .f32) (hv : init (Shape.Idx.first hu) = (0 : EReal))
    (a : Fin A) (b : Fin B) (c : Fin C) (d : Fin D) (s : Fin N) (f : ℕ → EReal) (hf : ∀ s : Fin N, x (ix5 a b c d s) = f s.val) :
    Host.reduceWindowAdd ![1, 1, 1, 1, N] ![1, 1, 1, 1, 1] ![0, 0, 0, 0, 0] ![0, 0, 0, 0, M] x init h hu (ix5 a b c d s)
      = ∑ n ∈ Finset.Ico s.val N, f n :=
  window_sum x h ⟨0, ![]⟩ (by decide) a b c d s f hf _ hv

/-- The sum from a key on. -/
theorem runningSum_apply (l : FVec Ideal S4x4x4x4096x4096 .f32) (b kk g : Fin 4) (t s : Fin 4096) (f : ℕ → EReal)
    (hf : ∀ s : Fin 4096, l (ix5 b kk g t s) = f s.val) :
    runningSum l (ix5 b kk g t s) = ∑ n ∈ Finset.Ico s.val 4096, f n := by
  have hv : (broadcastInDim S_ ![] bcast_S_S_ (constant (F := Ideal) S_ .f32 0x00000000#32)) (Shape.Idx.first h_S_) = (0 : EReal) := by
    pointwise []
  unfold runningSum
  exact hostWindow_sum l _ _ _ _ hv b kk g t s f hf

theorem attention_apply (q : FVec Ideal S4x1024x4096 .bf16) (k : FVec Ideal S4x4x4096x128 .bf16) (v : FVec Ideal S4x4x64x4096 .f32)
    (b : Fin 4) (t : Fin 4096) (e : Fin 1024) :
    attention q k v (ix3 b t e) = ∑ s : Fin 4096, v (ix4 b ⟨e.val / 256, by omega⟩ ⟨e.val % 64, by omega⟩ s)
      * weights (logits q k) (ix5 b ⟨e.val / 256, by omega⟩ ⟨e.val / 64 % 4, by omega⟩ t s) := by
  unfold attention
  generalize weights (logits q k) = w
  pointwise []

/-! ### By one query's logits -/

section
variable (z : FVec Ideal S4x4x4x4096x4096 .f32) (b kk g : Fin 4) (t : Fin 4096) (zr : ℕ → EReal)
  (hz : ∀ s : Fin 4096, z (ix5 b kk g t s) = zr s.val)
include hz

theorem survivals_apply (s : Fin 4096) : survivals z (ix5 b kk g t s) = L zr t.val s.val := by
  have hb := before_apply b kk g t s
  have hl := logSigmoid_apply (Host.negf (Host.negf z)) (fun y => -z y) (ix5 b kk g t s) rfl
  have h0 := zeros'_apply (ix5 b kk g t s)
  unfold survivals L
  generalize zeros' = o at h0
  generalize before = m at hb
  generalize logSigmoid (Host.negf (Host.negf z)) = l at hl
  pointwise []
  rw [hb, hl, h0, ls_neg, hz]
  split <;> rfl

/-- The reference's weights are the scalar module's. -/
theorem weights_apply (s : Fin 4096) : weights z (ix5 b kk g t s) = W zr t.val s.val := by
  have hb := before_apply b kk g t s
  have hl := logSigmoid_apply (Host.negf z) z (ix5 b kk g t s) rfl
  have hs := survivals_apply z b kk g t zr hz
  have hr : runningSum (survivals z) (ix5 b kk g t s) = C zr t.val s.val := runningSum_apply (survivals z) b kk g t s _ hs
  have hs' := hs s
  have h0 := zeros'_apply (ix5 b kk g t s)
  unfold weights
  generalize zeros' = o at h0
  generalize before = m at hb
  generalize logSigmoid (Host.negf z) = l at hl
  generalize runningSum (survivals z) = r at hr
  generalize survivals z = v at hs'
  pointwise []
  rw [hb, hl, hr, hs', h0, hz]
  by_cases h : s.val < t.val
  · rw [if_pos h]
    exact W_reference zr t.val s.val h s.isLt
  · rw [if_neg h, W, if_neg h]
    rfl
end

/-- The attention, entry by entry, is the scalar module's sum. -/
theorem attention_eq (q : FVec Ideal S4x1024x4096 .bf16) (k : FVec Ideal S4x4x4096x128 .bf16) (v : FVec Ideal S4x4x64x4096 .f32)
    (b : Fin 4) (t : Fin 4096) (e : Fin 1024) (zr vr : ℕ → EReal)
    (hz : ∀ s : Fin 4096, logits q k (ix5 b ⟨e.val / 256, by omega⟩ ⟨e.val / 64 % 4, by omega⟩ t s) = zr s.val)
    (hv : ∀ s : Fin 4096, v (ix4 b ⟨e.val / 256, by omega⟩ ⟨e.val % 64, by omega⟩ s) = vr s.val) :
    attention q k v (ix3 b t e) = A zr vr t.val 0 := by
  rw [attention_apply]
  unfold A
  show (_ : EReal) = _
  rw [← Finset.range_eq_Ico, ← Fin.sum_univ_eq_sum_range (fun s => vr s * W zr t.val s) 4096]
  refine Finset.sum_congr rfl fun s _ => ?_
  rw [hv, weights_apply _ _ _ _ _ zr hz]

end Cert.Proof.SbV

end
-- ==== Proof.SbV.Value.lean ====
/-
  The attention (program `KernelIdeal`): its result array is the reference's attention of the arguments.
-/
module

public import proofs.«01_k».proof.Defs
public import proofs.«01_k».proof.Proof.SbV.Block
public import proofs.«01_k».proof.Proof.SbV.Reference
public import proofs.«01_k».proof.Proof.SbI.Run
public import Idealize.ShloMosaic.Lib.WordCmp

@[expose] public section

set_option maxRecDepth 16384

noncomputable section

namespace Cert.Proof.SbV

open Cert.KernelIdeal Cert.KernelIdeal.Gen Cert.Proof.SbI
open Idealize.ShloMosaic Idealize.ShloMosaic.ValueKit Idealize.ShloMosaic.TcCoe Idealize.SL.Sem
open Idealize.ShloMosaic.Pipeline (Dat)

variable (m : (ℓ : Loc nD τ sig) → Buf (Elt Ideal) ℓ)

/-- Point `t` works on batch `t / 128`, key head `t / 32 % 4` and row block `t % 32`. -/
theorem index_at : ∀ t : Fin (cfg0 (F := Ideal)).N, win0_0.index t = ![t.val / 128, t.val / 32 % 4, t.val % 32]
    ∧ win0_1.index t = ![t.val / 128, t.val / 32 % 4, 0, 0] ∧ win0_2.index t = ![t.val / 128, t.val / 32 % 4, 0, 0]
    ∧ win0_3.index t = ![0, 0] ∧ win0_4.index t = ![t.val / 128, t.val % 32, t.val / 32 % 4] :=
  (by decide +kernel : ∀ t : Fin grid0.N, _)

theorem row_at : ∀ t : Fin (cfg0 (F := Ideal)).N, (grid0.coords t 2).val = t.val % 32 := (by decide +kernel : ∀ t : Fin grid0.N, _)

/-- The triangle of ones the host makes: which key comes after which. -/
def triangle : FVec Ideal S128x128 .bf16 :=
  transpose S128x128 [1, 0] (extractStridedSlice S128x128 ![0, 0] (concatenate S128x256 1 [⟨S128x128, uitofp .bf16 (cmpi .sgt
    (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))⟩,
    ⟨S128x128, broadcastInDim S128x128 ![] bcast_S_S128x128 (constant S_ .bf16 0x3F80#16)⟩]
    concatenates_S128x128_S128x128_S128x256_d1) slices_S128x256_S128x128_0_0) transposes_S128x128_S128x128_1_0

theorem V_triangle (c : Dev nD) : V m c main_v10 = triangle := by
  unfold V triangle
  after_results_simp <;> rfl

theorem triangle_at (a b : Fin 128) : triangle (ix2 a b) = if a.val < b.val then (1 : EReal) else 0 := by
  have ha := a.isLt
  have hb := b.isLt
  pointwise [triangle]
  simp (disch := omega) only [hlo_ix]
  show ((((BitVec.ofBool (decide (a.val < b.val))).toNat : ℝ)) : EReal) = _
  split
  · next h => simp [h]
  · next h => simp [h]

/-- The block of it that a point reads. -/
theorem triangle_apply (c : Dev nD) (t : Fin (cfg0 (F := Ideal)).N) (a b : Fin 128) :
    iblk m c 3 t (ix2 a b) = if a.val < b.val then (1 : EReal) else 0 := by
  rw [← triangle_at, ← V_triangle m c]
  refine congrArg (V m c main_v10) (funext fun d => Fin.ext ?_)
  match d with
  | ⟨0, _⟩ => blk_simp [index_at t]
  | ⟨1, _⟩ => blk_simp [index_at t]

variable (c : Dev nD) (t : Fin (cfg0 (F := Ideal)).N)

/-- The block of queries at point `t`. -/
theorem query_at (e : Fin 256) (r : Fin 128) (j : Cert.ReferenceIdeal.S4x1024x4096.Idx) (h0 : (j 0).val = t.val / 128)
    (h1 : (j 1).val = t.val / 32 % 4 * 256 + e.val) (h2 : (j 2).val = t.val % 32 * 128 + r.val) :
    iblk m c 0 t (ix3 0 e r) = m ((c : Thread nD τ).loc main_arg0) j := by
  blk_point [iblk, V, index_at t]

/-- The block of keys. -/
theorem key_at (s : Fin 4096) (d : Fin 128) (j : Cert.ReferenceIdeal.S4x4x4096x128.Idx) (h0 : (j 0).val = t.val / 128)
    (h1 : (j 1).val = t.val / 32 % 4) (h2 : (j 2).val = s.val) (h3 : (j 3).val = d.val) :
    iblk m c 1 t (ix4 0 0 s d) = m ((c : Thread nD τ).loc main_arg1) j := by
  blk_point [iblk, V, index_at t]

/-- The block of values. -/
theorem value_at (d : Fin 64) (s : Fin 4096) (j : Cert.ReferenceIdeal.S4x4x64x4096.Idx) (h0 : (j 0).val = t.val / 128)
    (h1 : (j 1).val = t.val / 32 % 4) (h2 : (j 2).val = d.val) (h3 : (j 3).val = s.val) :
    iblk m c 2 t (ix4 0 0 d s) = m ((c : Thread nD τ).loc main_arg2) j := by
  blk_point [iblk, V, index_at t]

/-- An entry of the block that point `t` writes is the reference's entry there. -/
theorem entry_eq (r : Fin 128) (e : Fin 256) (b : Fin 4) (T : Fin 4096) (E : Fin 1024) (hb : b.val = t.val / 128)
    (hT : T.val = t.val % 32 * 128 + r.val) (hE : E.val = t.val / 32 % 4 * 256 + e.val) :
    outAt m c t (ix3 0 r e) = attention (m ((c : Thread nD τ).loc main_arg0)) (m ((c : Thread nD τ).loc main_arg1))
      (m ((c : Thread nD τ).loc main_arg2)) (ix3 b T E) := by
  unfold outAt
  rw [out_apply (hut := triangle_apply m c t)]
  rw [attention_eq _ _ _ b T E (zOf (iblk m c 1 t) (k0_pay7 (iblk m c 0 t)) ⟨e.val / 64 * 128 + r.val, by omega⟩)
    (vOf (iblk m c 2 t) ⟨e.val % 64, by omega⟩) (fun s => ?_) (fun s => ?_), row_at t, hT]
  · rw [logits_apply, zOf_apply _ _ _ _ s.isLt]
    show (_ : EReal) = _
    refine Finset.sum_congr rfl fun d _ => (mul_comm _ _).trans (congrArg₂ (· * ·) ?_ ?_)
    · exact (key_at m c t s _ _ hb (by dsimp [ix4]; omega) rfl rfl).symm
    · exact (query_at m c t _ _ _ hb (by dsimp [ix3]; omega) (by dsimp [ix3]; omega)).symm
  · unfold vOf
    rw [dif_pos s.isLt]
    exact (value_at m c t _ s _ hb (by dsimp [ix4]; omega) (by dsimp [ix4]; omega) rfl).symm

/-- The result's array. -/
theorem array_eq : (dats m 0 c).arrAt 4 (cfg0 (F := Ideal)).N = attention (m ((c : Thread nD τ).loc main_arg0))
    (m ((c : Thread nD τ).loc main_arg1)) (m ((c : Thread nD τ).loc main_arg2)) := by
  refine (dats m 0 c).arrAt_eq_of_covers 4 _ (by decide +kernel) fun t hf y => ?_
  have e0 : ((((cfg0.win 4).blk t).view.emb y) 0).val = t.val / 128 := by blk_simp [index_at t]
  have e1 : ((((cfg0.win 4).blk t).view.emb y) 1).val = t.val % 32 * 128 + (y 1).val := by blk_simp [index_at t]
  have e2 : ((((cfg0.win 4).blk t).view.emb y) 2).val = t.val / 32 % 4 * 256 + (y 2).val := by blk_simp [index_at t]
  have key := fun b T E => entry_eq m c t (y 1) (y 2) b T E
  have hy : (ix3 0 (y 1) (y 2) : S1x128x256.Idx) = y := by
    refine funext fun d => Fin.ext ?_
    match d with
    | ⟨0, _⟩ => exact (Nat.lt_one_iff.mp (y 0).isLt).symm
    | ⟨1, _⟩ => rfl
    | ⟨2, _⟩ => rfl
  rw [hy] at key
  blk_simp
  rw [after_o]
  generalize attention (m ((c : Thread nD τ).loc main_arg0)) (m ((c : Thread nD τ).loc main_arg1))
    (m ((c : Thread nD τ).loc main_arg2)) = R at key ⊢
  generalize (((View.whole main_v11).slice (win0_4.rect t)).emb y) = j at e0 e1 e2 ⊢
  refine (key (j 0) (j 1) (j 2) e0 e1 e2).trans (congrArg R (funext fun d => ?_))
  match d with
  | ⟨0, _⟩ => rfl
  | ⟨1, _⟩ => rfl
  | ⟨2, _⟩ => rfl

/-- The attention's idealization computes the reference's function of the arguments. -/
theorem algebraic : Cert.algebraic_KernelIdeal_ReferenceIdeal := fun m g m' g' _ hagree =>
  ⟨fun c => attention (m ((c : Thread nD τ).loc main_arg0)) (m ((c : Thread nD τ).loc main_arg1)) (m ((c : Thread nD τ).loc main_arg2)),
    (θ_run defs _ _).mono (fun _ h c => ⟨((h.1 c).1 4).trans (array_eq m c),
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c))⟩) (run_main m g),
    (θ_run Cert.ReferenceIdeal.defs _ _).mono (fun _ h c => by
      obtain ⟨a0, a1, a2⟩ := hagree c
      obtain ⟨r0, kept⟩ := h c
      refine ⟨r0.trans ?_, kept⟩
      rw [res_eq, a0, a1, a2])
      (Cert.ReferenceIdeal.Value.run m' g')⟩

end Cert.Proof.SbV

end
-- ==== Proof.References.lean ====
/-
  The references' frames. A reference is a list of host operations: it declares no semaphore, so its counters end at
  zero because there are none, and its run is the generated one.
-/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Quiescent

@[expose] public section

noncomputable section

namespace Cert.Proof.References

open Idealize.ShloMosaic Idealize.SL.Sem

theorem attention : Cert.quiescent_ReferenceIdeal := fun m g _ =>
  (θ_run _ _ _).mono (fun r h => ⟨fun c => (h c).2, sem_eq_zero_of_no_sems rfl r.2⟩)
    (Cert.ReferenceIdeal.Value.run m g)

theorem ffn : Cert.quiescent_Reference2Ideal := fun m g _ =>
  (θ_run _ _ _).mono (fun r h => ⟨fun c => (h c).2, sem_eq_zero_of_no_sems rfl r.2⟩)
    (Cert.Reference2Ideal.Value.run m g)

theorem outProj : Cert.quiescent_Reference3Ideal := fun m g _ =>
  (θ_run _ _ _).mono (fun r h => ⟨fun c => (h c).2, sem_eq_zero_of_no_sems rfl r.2⟩)
    (Cert.Reference3Ideal.Value.run m g)

theorem normProj : Cert.quiescent_Reference4Ideal := fun m g _ =>
  (θ_run _ _ _).mono (fun r h => ⟨fun c => (h c).2.2.2.2, sem_eq_zero_of_no_sems rfl r.2⟩)
    (Cert.Reference4Ideal.Value.run m g)

theorem nsaProj : Cert.quiescent_Reference5Ideal := fun m g _ =>
  (θ_run _ _ _).mono (fun r h => ⟨fun c => (h c).2.2.2.2.2.2.2.2.2.2, sem_eq_zero_of_no_sems rfl r.2⟩)
    (Cert.Reference5Ideal.Value.run m g)

theorem nsaOutProj : Cert.quiescent_Reference6Ideal := fun m g _ =>
  (θ_run _ _ _).mono (fun r h => ⟨fun c => (h c).2, sem_eq_zero_of_no_sems rfl r.2⟩)
    (Cert.Reference6Ideal.Value.run m g)

theorem finalNorm : Cert.quiescent_Reference7Ideal := fun m g _ =>
  (θ_run _ _ _).mono (fun r h => ⟨fun c => (h c).2, sem_eq_zero_of_no_sems rfl r.2⟩)
    (Cert.Reference7Ideal.Value.run m g)

theorem band : Cert.quiescent_Reference8Ideal := fun m g _ =>
  (θ_run _ _ _).mono (fun r h => ⟨fun c => (h c).2, sem_eq_zero_of_no_sems rfl r.2⟩)
    (Cert.Reference8Ideal.Value.run m g)

theorem sink : Cert.quiescent_Reference9Ideal := fun m g _ =>
  (θ_run _ _ _).mono (fun r h => ⟨fun c => (h c).2, sem_eq_zero_of_no_sems rfl r.2⟩)
    (Cert.Reference9Ideal.Value.run m g)

end Cert.Proof.References

end
-- ==== Proof.OutProj.lean ====
/-
  The output projection (program `Kernel3Ideal`): its result array is the reference's term of the arguments.

  Every grid point stages 256 rows of the residual and of the attention output, and the whole weight matrix, which one
  host operation has rounded to bfloat16 (at the ideal instance a rounding changes nothing). It writes the rows'
  residual plus their product with the weights. The reference is one product over all 16384 rows plus the residual; row
  by row both are the same sum.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Proof.OutProj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's term: the residual plus the attention output times the weights. -/
abbrev ref (x : FVec Ideal S16384x1024 .f32) (o : FVec Ideal S16384x1024 .bf16) (w : FVec Ideal S1024x1024 .f32) :
    FVec Ideal S16384x1024 .f32 :=
  addf x (Host.dotGeneral Cert.Reference3Ideal.dot_S16384x1024_S1024x1024_S16384x1024_1_0_0_1_n_n none
    (extf .f32 o Cert.Reference3Ideal.Gen.bitsLt_bf16_f32) w)

/-- Point `t` stages row block `t` of the residual, of the attention output and of the result, and all the weights. -/
theorem index_at : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- What point `t` computes at index `y` of its block is the reference's term where that index lies in the array. -/
theorem block_eq (c : Dev nD) (t : Fin cfg0.N) (y : S256x1024.Idx) :
    k0_pay1 (iblk m c 0 t) (iblk m c 1 t) (iblk m c 2 t) y
      = ref (m ((c : Thread nD τ).loc main_arg0)) (m ((c : Thread nD τ).loc main_arg1))
          (m ((c : Thread nD τ).loc main_arg2)) (((cfg0.win 3).blk t).view.emb y) := by
  pointwise [k0_pay1, ref]
  blk_point [iblk, V, index_at t]

/-- The result array after the run. -/
theorem result_eq (c : Dev nD) : (dats m 0 c).arrAt 3 cfg0.N
    = ref (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact block_eq m c t y

/-- Kernel and reference end with equal results, whatever the arguments. -/
theorem algebraic : Cert.algebraic_Kernel3Ideal_Reference3Ideal := fun m g m' g' _ hagree =>
  ⟨fun c => ref (m ((c : Thread nD τ).loc main_arg0)) (m ((c : Thread nD τ).loc main_arg1))
      (m ((c : Thread nD τ).loc main_arg2)),
    (θ_run defs _ _).mono (fun _ h c => ⟨(h c).1.trans (result_eq m c), (h c).2⟩)
      (Cert.Kernel3Ideal.Value.run_blocks m g),
    (θ_run Cert.Reference3Ideal.defs _ _).mono
      (fun _ h c => ⟨(h c).1.trans (by rw [(hagree c).1, (hagree c).2.1, (hagree c).2.2]), (h c).2⟩)
      (Cert.Reference3Ideal.Value.run m' g')⟩

end Cert.Proof.OutProj

end
-- ==== Proof.Ffn.lean ====
/-
  The feed-forward block (program `Kernel2Ideal`): its result array is the reference's term of the arguments.

  The grid is 32 row blocks by 8 slices of the hidden dimension. At a row block's first point the body normalises the
  rows into one scratch and zeroes the other; at every point it adds the slice's contribution, the square of the rectified
  product with the slice's columns of the up projection times the slice's rows of the down projection; at the last point
  it writes the residual plus the sum. So after a row block's eight points the second scratch holds the sum over all
  4096 hidden units, taken slice by slice.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pipeline.ReadBack

@[expose] public section

set_option maxRecDepth 16384

noncomputable section

namespace Cert.Proof.Ffn

open Idealize.ShloMosaic Idealize.ShloMosaic.TcCoe Idealize.SL.Sem
open Idealize.ShloMosaic.Pipeline (Dat)

/-! ## The reference's term, in two pieces -/

section Reference
open Cert.Reference2Ideal Cert.Reference2Ideal.Gen

/-- The rows, each divided by its root mean square and scaled by the weights. -/
abbrev normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The residual plus the squared rectified product with the up projection times the down projection. -/
abbrev mlp (x h : FVec Ideal S16384x1024 .f32) (u : FVec Ideal S1024x4096 .f32) (d : FVec Ideal S4096x1024 .f32) :
    FVec Ideal S16384x1024 .f32 :=
  addf x (Host.dotGeneral dot_S16384x4096_S4096x1024_S16384x1024_1_0_0_1_n_n none
    (mulf (maximumf (Host.dotGeneral dot_S16384x1024_S1024x4096_S16384x4096_1_0_0_1_n_n none h u)
        (broadcastInDim S16384x4096 ![] bcast_S_S16384x4096 (constant S_ .f32 0x00000000#32)))
      (maximumf (Host.dotGeneral dot_S16384x1024_S1024x4096_S16384x4096_1_0_0_1_n_n none h u)
        (broadcastInDim S16384x4096 ![] bcast_S_S16384x4096 (constant S_ .f32 0x00000000#32)))) d)

end Reference

open Cert.Kernel2Ideal Cert.Kernel2Ideal.Gen

variable (m : (ℓ : Loc nD τ sig) → Buf (Elt Ideal) ℓ)

/-- Point `t` works on row block `t / 8` and on slice `t % 8` of the hidden dimension. -/
theorem index_at : ∀ t : Fin cfg0.N, win0_0.index t = ![t.val / 8, 0] ∧ win0_1.index t = ![0, 0]
    ∧ win0_2.index t = ![0, t.val % 8] ∧ win0_3.index t = ![t.val % 8, 0] ∧ win0_4.index t = ![t.val / 8, 0] :=
  (by decide +kernel : ∀ t : Fin grid0.N, _)

/-! ## The first scratch: the row block, normalised -/

/-- The normalised rows of point `t`'s block, as the body computes them. -/
abbrev rows (c : Dev nD) (t : Fin cfg0.N) : FVec Ideal S512x1024 .bf16 := k0_pay1 (iblk m c 0 t) (iblk m c 1 t)

/-- They are the reference's, at the rows the block covers. -/
theorem rows_eq (c : Dev nD) (t : Fin cfg0.N) (r : Fin 512) (d : Fin 1024) (R : Fin 16384)
    (hR : R.val = t.val / 8 * 512 + r.val) :
    rows m c t (ix2 r d)
      = normed (m ((c : Thread nD τ).loc main_arg0)) (m ((c : Thread nD τ).loc main_arg1)) (ix2 R d) := by
  pointwise [rows, k0_pay1, normed]
  blk_point [iblk, V, index_at t]

/-- Within a row block the rows staged do not change from one point to the next. -/
theorem rows_prev (c : Dev nD) (t t' : Fin cfg0.N) (h : t'.val / 8 = t.val / 8) : rows m c t' = rows m c t := by
  have e0 : iblk m c 0 t' = iblk m c 0 t := by
    funext y
    blk_ext [iblk, V, index_at t, index_at t']
  have e1 : iblk m c 1 t' = iblk m c 1 t := by
    funext y
    blk_ext [iblk, V, index_at t, index_at t']
  unfold rows
  rw [e0, e1]

/-- The first scratch holds them after every point. -/
theorem scratch_rows (c : Dev nD) : ∀ (n : ℕ) (h : n < cfg0.N), (outsAt0 m c n h).2.1 = rows m c ⟨n, h⟩ := by
  intro n
  induction n with
  | zero => intro h; rw [outsAt0_A m c ⟨0, h⟩ (by simp) (by simp)]; frame_out
  | succ n ih =>
    intro h
    have ih := ih (Nat.lt_of_succ_lt h)
    by_cases h0 : (n + 1) % 8 = 0
    · rw [outsAt0_A m c ⟨n + 1, h⟩ h0 (by dsimp only; omega)]; frame_out
    · by_cases h1 : (n + 1) % 8 = 7
      · rw [outsAt0_C m c ⟨n + 1, h⟩ h0 h1]; frame_out
        exact ih.trans (rows_prev m c _ _ (by dsimp only; omega))
      · rw [outsAt0_B m c ⟨n + 1, h⟩ h0 h1]; frame_out
        exact ih.trans (rows_prev m c _ _ (by dsimp only; omega))

/-! ## The second scratch: the sum over the slices so far -/

/-- One slice's contribution at an index of the block. -/
def part (h : FVec Ideal S512x1024 .bf16) (u : FVec Ideal S1024x512 .bf16) (d : FVec Ideal S512x1024 .bf16)
    (j : S512x1024.Idx) : EReal :=
  ∑ k : Fin 512, (max (∑ e : Fin 1024, h (ix2 (j 0) e) * u (ix2 e k)) 0 * max (∑ e : Fin 1024, h (ix2 (j 0) e) * u (ix2 e k)) 0)
    * d (ix2 k (j 1))

theorem zero_apply (j : S512x1024.Idx) : k0_pay2 (F := Ideal) j = 0 := by pointwise [k0_pay2]

theorem step_apply (h : FVec Ideal S512x1024 .bf16) (u : FVec Ideal S1024x512 .bf16) (a : FVec Ideal S512x1024 .f32)
    (d : FVec Ideal S512x1024 .bf16) (j : S512x1024.Idx) : k0_pay3 h u a d j = a j + part h u d j := by
  pointwise [k0_pay3, part]

theorem out_apply (x a : FVec Ideal S512x1024 .f32) (j : S512x1024.Idx) : k0_pay4 x a j = x j + a j := by
  pointwise [k0_pay4]

/-- What point `t` adds. -/
abbrev term (c : Dev nD) (t : Fin cfg0.N) (j : S512x1024.Idx) : EReal := part (rows m c t) (iblk m c 2 t) (iblk m c 3 t) j

theorem scratch_first (c : Dev nD) (t : Fin cfg0.N) (h : t.val % 8 = 0) (j : S512x1024.Idx) :
    (outsAt0 m c t.val t.isLt).2.2 j = 0 + term m c t j := by
  rw [outsAt0_A m c t h (by omega)]; frame_out
  rw [step_apply, zero_apply]

theorem scratch_next (c : Dev nD) (t : Fin cfg0.N) (h : ¬t.val % 8 = 0) (j : S512x1024.Idx) :
    (outsAt0 m c t.val t.isLt).2.2 j
      = (outsAt0 m c (t.val - 1) (Nat.lt_of_le_of_lt (Nat.sub_le _ _) t.isLt)).2.2 j + term m c t j := by
  have e : (outsAt0 m c (t.val - 1) (Nat.lt_of_le_of_lt (Nat.sub_le _ _) t.isLt)).2.1 = rows m c t :=
    (scratch_rows m c _ _).trans (rows_prev m c _ _ (by dsimp only; omega))
  by_cases h1 : t.val % 8 = 7
  · rw [outsAt0_C m c t h h1]; frame_out
    rw [step_apply, e]; simp only [read_unread_whole]
  · rw [outsAt0_B m c t h h1]; frame_out
    rw [step_apply, e]; simp only [read_unread_whole]

/-- At a row block's last point the result's buffer holds the residual plus the second scratch. -/
theorem last_out (c : Dev nD) (t : Fin cfg0.N) (h : t.val % 8 = 7) (j : S512x1024.Idx) :
    (outsAt0 m c t.val t.isLt).1 j = (show FVec Ideal S512x1024 .f32 from iblk m c 0 t) j + (outsAt0 m c t.val t.isLt).2.2 j := by
  rw [outsAt0_C m c t (by omega) h]; frame_out
  rw [out_apply]

/-! ## The result array -/

/-- What a row block's last point leaves at index `y` is the reference's term where that index lies in the array. -/
theorem block_eq (c : Dev nD) (t : Fin cfg0.N) (h : t.val % 8 = 7) (y : S512x1024.Idx) :
    (outsAt0 m c t.val t.isLt).1 y
      = mlp (m ((c : Thread nD τ).loc main_arg0))
          (normed (m ((c : Thread nD τ).loc main_arg0)) (m ((c : Thread nD τ).loc main_arg1)))
          (m ((c : Thread nD τ).loc main_arg2)) (m ((c : Thread nD τ).loc main_arg3)) (((cfg0.win 4).blk t).view.emb y) := by
  rw [last_out m c t h y, Pipeline.eq_sum_fin_of_reset_step_apply_of_flush (fun n h => (outsAt0 m c n h).2.2) 8
    (fun _ => 0) (fun t j => term m c t j) (scratch_first m c) (scratch_next m c) t h y, zero_add]
  generalize hH : normed (m ((c : Thread nD τ).loc main_arg0)) (m ((c : Thread nD τ).loc main_arg1)) = H
  have hrow : ((((cfg0.win 4).blk t).view.emb y) 0).val = t.val / 8 * 512 + (y 0).val := by
    blk_simp [index_at t]
  have hpre : ∀ (s : Fin (7 + 1)) (e : Fin 1024), rows m c ⟨_, Pipeline.run_point_lt_of_flush t h s⟩ (ix2 (y 0) e)
      = H (ix2 ((((cfg0.win 4).blk t).view.emb y) 0) e) := fun s e =>
    (rows_eq m c _ (y 0) e _ (hrow.trans (by dsimp only; omega))).trans (by rw [hH])
  have hup : ∀ (s : Fin (7 + 1)) (e : Fin 1024) (k : Fin 512) (hl : s.val * 512 + k.val < 4096),
      iblk m c 2 ⟨_, Pipeline.run_point_lt_of_flush t h s⟩ (ix2 e k)
        = m ((c : Thread nD τ).loc main_arg2) (ix2 e ⟨s.val * 512 + k.val, hl⟩) := fun s e k hl => by
    blk_point [iblk, V, index_at ⟨_, Pipeline.run_point_lt_of_flush t h s⟩]
  have hdown : ∀ (s : Fin (7 + 1)) (k : Fin 512) (hl : s.val * 512 + k.val < 4096),
      iblk m c 3 ⟨_, Pipeline.run_point_lt_of_flush t h s⟩ (ix2 k (y 1))
        = m ((c : Thread nD τ).loc main_arg3) (ix2 ⟨s.val * 512 + k.val, hl⟩ ((((cfg0.win 4).blk t).view.emb y) 1)) := fun s k hl => by
    blk_point [iblk, V, index_at ⟨_, Pipeline.run_point_lt_of_flush t h s⟩, index_at t]
  have hres : iblk m c 0 t y = m ((c : Thread nD τ).loc main_arg0) (((cfg0.win 4).blk t).view.emb y) := by
    blk_point [iblk, V, index_at t]
  pointwise [mlp, part]
  refine congrArg₂ (· + ·) hres (Fin.sum_mul_add_congr fun s k hl => ?_)
  simp only [hpre, hup s _ k hl, hdown s k hl]

/-- The result array is the reference's term of the arguments. -/
theorem result_eq (c : Dev nD) : (dats m 0 c).arrAt 4 cfg0.N
    = mlp (m ((c : Thread nD τ).loc main_arg0))
        (normed (m ((c : Thread nD τ).loc main_arg0)) (m ((c : Thread nD τ).loc main_arg1)))
        (m ((c : Thread nD τ).loc main_arg2)) (m ((c : Thread nD τ).loc main_arg3)) := by
  refine (dats m 0 c).arrAt_eq_of_covers 4 _ (by decide +kernel) fun t hf y => ?_
  blk_simp
  rw [after0_4]
  exact block_eq m c t ((flush0_4 t).mp hf) y

/-- The block's idealization computes the reference's function of the arguments. -/
theorem algebraic : Cert.algebraic_Kernel2Ideal_Reference2Ideal := fun m g m' g' _ hagree =>
  ⟨fun c => mlp (m ((c : Thread nD τ).loc main_arg0))
      (normed (m ((c : Thread nD τ).loc main_arg0)) (m ((c : Thread nD τ).loc main_arg1)))
      (m ((c : Thread nD τ).loc main_arg2)) (m ((c : Thread nD τ).loc main_arg3)),
    (θ_run defs _ _).mono (fun _ h c => ⟨(h c).1.trans (result_eq m c), (h c).2⟩) (Cert.Kernel2Ideal.Value.run_blocks m g),
    (θ_run Cert.Reference2Ideal.defs _ _).mono
      (fun _ h c => ⟨(h c).1.trans (by rw [(hagree c).1, (hagree c).2.1, (hagree c).2.2.1, (hagree c).2.2.2]), (h c).2⟩)
      (Cert.Reference2Ideal.Value.run m' g')⟩

end Cert.Proof.Ffn

end
-- ==== Proof.NormProj.lean ====
/-
  The normalised projection (program `Kernel4Ideal`): its four result arrays are the reference's terms of the arguments.

  Each of the 64 points takes 256 rows, divides them by their root mean square, and multiplies them with the query
  columns (transposed, scaled), the key and value columns (transposed), and the key columns once more by rows, each
  head's 64 lanes followed by 64 lanes holding the row's place in its tile of 128.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Proof.NormProj

open Idealize.ShloMosaic Idealize.ShloMosaic.TcCoe Idealize.SL.Sem
open Idealize.ShloMosaic.Pipeline (Dat)

/-! ## The reference's terms -/

section Reference
open Cert.Reference4Ideal Cert.Reference4Ideal.Gen

/-- The rows, each divided by its root mean square and scaled by the weights. -/
abbrev normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The projection, by batch, row and column. -/
abbrev proj (h : FVec Ideal S16384x1024 .f32) (w : FVec Ideal S1024x1536 .f32) : FVec Ideal S4x4096x1536 .f32 :=
  shapeCast _ (Host.dotGeneral dot_S16384x1024_S1024x1536_S16384x1536_1_0_0_1_n_n none h w) shapeCasts_S16384x1536_S4x4096x1536

/-- The scaled queries, transposed. -/
abbrev queries (h : FVec Ideal S16384x1024 .f32) (w : FVec Ideal S1024x1536 .f32) : FVec Ideal S4x1024x4096 .bf16 :=
  truncf .bf16 (transpose S4x1024x4096 [0, 2, 1] (mulf
    (extractStridedSlice S4x4096x1024 ![0, 0, 0] (proj h w) slices_S4x4096x1536_S4x4096x1024_0_0_0)
    (broadcastInDim S4x4096x1024 ![] bcast_S_S4x4096x1024 (constant S_ .f32 0x3E000000#32)))
    transposes_S4x4096x1024_S4x1024x4096_0_2_1) bitsLt_bf16_f32

/-- The keys, transposed. -/
abbrev keys (h : FVec Ideal S16384x1024 .f32) (w : FVec Ideal S1024x1536 .f32) : FVec Ideal S4x256x4096 .f32 :=
  transpose S4x256x4096 [0, 2, 1]
    (extractStridedSlice S4x4096x256 ![0, 0, 1024] (proj h w) slices_S4x4096x1536_S4x4096x256_0_0_1024)
    transposes_S4x4096x256_S4x256x4096_0_2_1

/-- The values, transposed. -/
abbrev values (h : FVec Ideal S16384x1024 .f32) (w : FVec Ideal S1024x1536 .f32) : FVec Ideal S4x256x4096 .f32 :=
  transpose S4x256x4096 [0, 2, 1]
    (extractStridedSlice S4x4096x256 ![0, 0, 1280] (proj h w) slices_S4x4096x1536_S4x4096x256_0_0_1280)
    transposes_S4x4096x256_S4x256x4096_0_2_1

/-- A row's place in its tile, in the first lanes. -/
def place : FVec Ideal S4x4x4096x64 .f32 :=
  broadcastInDim S4x4x4096x64 ![2, 3] bcast_S4096x64_S4x4x4096x64_2_3 (sitofp .f32 (select
    (broadcastInDim S4096x64 ![0, 1] bcast_S1x64_S4096x64_0_1 (cmpi .slt
      (broadcastInDim S1x64 ![1] bcast_S64_S1x64_1 (iotaInDim S64 32 0))
      (broadcastInDim S1x64 ![] bcast_S_S1x64 (constantI S_ 32 3#32))))
    (broadcastInDim S4096x64 ![0, 1] bcast_S4096x1_S4096x64_0_1 (andi
      (broadcastInDim S4096x1 ![0] bcast_S4096_S4096x1_0 (iotaInDim S4096 32 0))
      (broadcastInDim S4096x1 ![] bcast_S_S4096x1 (constantI S_ 32 127#32))))
    (broadcastInDim S4096x64 ![] bcast_S_S4096x64 (id (constantI S_ 32 0#32)))))

/-- The keys by head and row, each row's place after them. -/
abbrev byRows (p : FVec Ideal S4x4096x1536 .f32) : FVec Ideal S4x4x4096x128 .bf16 :=
  truncf .bf16 (concatenate S4x4x4096x128 3 [⟨S4x4x4096x64, transpose S4x4x4096x64 [0, 2, 1, 3] (shapeCast _
      (extractStridedSlice S4x4096x256 ![0, 0, 1024] p slices_S4x4096x1536_S4x4096x256_0_0_1024)
      shapeCasts_S4x4096x256_S4x4096x4x64) transposes_S4x4096x4x64_S4x4x4096x64_0_2_1_3⟩, ⟨S4x4x4096x64, place⟩]
    concatenates_S4x4x4096x64_S4x4x4096x64_S4x4x4096x128_d3) bitsLt_bf16_f32

/-- The same of the projection. -/
abbrev keyRows (h : FVec Ideal S16384x1024 .f32) (w : FVec Ideal S1024x1536 .f32) : FVec Ideal S4x4x4096x128 .bf16 :=
  byRows (proj h w)

end Reference

open Cert.Kernel4Ideal Cert.Kernel4Ideal.Gen

variable (m : (ℓ : Loc nD τ sig) → Buf (Elt Ideal) ℓ)

/-- Point `t` works on rows `256 t` to `256 t + 255`: batch `t / 16`, row block `t % 16`. -/
theorem index_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val / 16, 0, t.val % 16]
    ∧ win0_6.index t = ![t.val / 16, 0, t.val % 16] ∧ win0_7.index t = ![t.val / 16, 0, t.val % 16]
    ∧ win0_8.index t = ![t.val / 16, 0, t.val % 16, 0] :=
  (by decide +kernel : ∀ t : Fin grid0.N, _)

/-- The rows of the whole array, normalised. -/
abbrev H (c : Dev nD) : FVec Ideal Reference4Ideal.S16384x1024 .f32 :=
  normed (m ((c : Thread nD τ).loc main_arg0)) (m ((c : Thread nD τ).loc main_arg1))

/-- The normalised rows of point `t`'s block, as the body computes them. -/
def rows (c : Dev nD) (t : Fin cfg0.N) : FVec Ideal S256x1024 .bf16 := k0_pay2 (iblk m c 0 t) (iblk m c 1 t)

/-- They are the reference's, at the rows the block covers. -/
theorem rows_eq (c : Dev nD) (t : Fin cfg0.N) (r : Fin 256) (d : Fin 1024) (R : Fin 16384)
    (hR : R.val = t.val * 256 + r.val) : rows m c t (ix2 r d) = H m c (ix2 R d) := by
  pointwise [rows, k0_pay2, normed]
  blk_point [iblk, V, index_at t]

/-- The rows read in the contraction of a window whose block sits at batch `t / 16` and row block `t % 16`. -/
theorem rows_at (c : Dev nD) (t : Fin cfg0.N) (r : Fin 256) (d : Fin 1024) (b s : ℕ) (hb : b = t.val / 16)
    (hs : s = t.val % 16 * 256 + r.val) (hlt : b * 4096 + s < 16384) :
    rows m c t (ix2 r d) = H m c (ix2 ⟨b * 4096 + s, hlt⟩ d) :=
  rows_eq m c t r d _ (by dsimp only; omega)

/-- The queries' array. -/
theorem queries_eq (c : Dev nD) : (dats m 0 c).arrAt 5 cfg0.N
    = queries (H m c) (m ((c : Thread nD τ).loc main_arg2)) := by
  refine (dats m 0 c).arrAt_eq_of_covers 5 _ (by decide +kernel) fun t hf y => ?_
  blk_simp
  rw [after0_5]
  frame_out
  have hr : k0_pay2 (iblk m c 0 t) (iblk m c 1 t) = rows m c t := rfl
  have hrow := fun (d : Fin 1024) (b s : ℕ) (hb hs hlt) => rows_at m c t (y 2) d b s hb hs hlt
  generalize H m c = h at hrow ⊢
  pointwise [k0_pay3, queries]
  rw [hr]
  refine congrArg (· * _) (Finset.sum_congr rfl fun d _ => (mul_comm _ _).trans (congrArg₂ (· * ·) (hrow d _ _ ?_ ?_ _) ?_))
  · blk_simp [index_at t]
  · blk_simp [index_at t]
  · blk_point [iblk, V, index_at t]

/-- The keys' array. -/
theorem keys_eq (c : Dev nD) : (dats m 0 c).arrAt 6 cfg0.N
    = keys (H m c) (m ((c : Thread nD τ).loc main_arg2)) := by
  refine (dats m 0 c).arrAt_eq_of_covers 6 _ (by decide +kernel) fun t hf y => ?_
  blk_simp
  rw [after0_6]
  frame_out
  have hr : k0_pay2 (iblk m c 0 t) (iblk m c 1 t) = rows m c t := rfl
  have hrow := fun (d : Fin 1024) (b s : ℕ) (hb hs hlt) => rows_at m c t (y 2) d b s hb hs hlt
  generalize H m c = h at hrow ⊢
  pointwise [k0_pay4, keys]
  rw [hr]
  show (_ : EReal) = _
  refine Finset.sum_congr rfl fun d _ => (mul_comm _ _).trans (congrArg₂ (· * ·) (hrow d _ _ ?_ ?_ _) ?_)
  · blk_simp [index_at t]
  · blk_simp [index_at t]
  · blk_point [iblk, V, index_at t]

/-- The values' array. -/
theorem values_eq (c : Dev nD) : (dats m 0 c).arrAt 7 cfg0.N
    = values (H m c) (m ((c : Thread nD τ).loc main_arg2)) := by
  refine (dats m 0 c).arrAt_eq_of_covers 7 _ (by decide +kernel) fun t hf y => ?_
  blk_simp
  rw [after0_7]
  frame_out
  have hr : k0_pay2 (iblk m c 0 t) (iblk m c 1 t) = rows m c t := rfl
  have hrow := fun (d : Fin 1024) (b s : ℕ) (hb hs hlt) => rows_at m c t (y 2) d b s hb hs hlt
  generalize H m c = h at hrow ⊢
  pointwise [k0_pay6, k0_pay5, values]
  rw [hr]
  show (_ : EReal) = _
  refine Finset.sum_congr rfl fun d _ => (mul_comm _ _).trans (congrArg₂ (· * ·) (hrow d _ _ ?_ ?_ _) ?_)
  · blk_simp [index_at t]
  · blk_simp [index_at t]
  · blk_point [iblk, V, index_at t]

/-- A row's place in its tile, as the body computes it from the row's place in its block. -/
theorem place_eq (r : Fin 256) (l : Fin 64) (i : Reference4Ideal.S4x4x4096x64.Idx) (q : ℕ) (hs : (i 2).val = q * 256 + r.val)
    (hl : (i 3).val = l.val) : k0_pay7 (F := Ideal) (ix2 r l) = place i := by
  pointwise [k0_pay7, place]
  have e : IntOp.andi (BitVec.ofNat 32 r.val) 127#32 = IntOp.andi (BitVec.ofNat 32 (i 2).val) 127#32 := by
    rw [hs]
    show BitVec.ofNat 32 r.val &&& 127#32 = BitVec.ofNat 32 (q * 256 + r.val) &&& 127#32
    apply BitVec.eq_of_toNat_eq
    simp only [BitVec.toNat_and, BitVec.toNat_ofNat]
    have h127 : (127 % 2 ^ 32 : ℕ) = 2 ^ 7 - 1 := by norm_num
    rw [h127, Nat.and_two_pow_sub_one_eq_mod, Nat.and_two_pow_sub_one_eq_mod]
    omega
  rw [e, hl]
  rfl

/-- The product with the key columns. -/
theorem keyCols_eq (c : Dev nD) (t : Fin cfg0.N) (r l : Fin 256) (i : Reference4Ideal.S4x4096x1536.Idx) (hb : (i 0).val = t.val / 16)
    (hs : (i 1).val = t.val % 16 * 256 + r.val) (hl : (i 2).val = 1024 + l.val) :
    k0_pay8 (rows m c t) (iblk m c 4 t) (ix2 r l) = proj (H m c) (m ((c : Thread nD τ).loc main_arg2)) i := by
  have hrow := fun (d : Fin 1024) (b s : ℕ) (hb hs hlt) => rows_at m c t r d b s hb hs hlt
  generalize H m c = h at hrow ⊢
  pointwise [k0_pay8, proj]
  show (_ : EReal) = _
  refine Finset.sum_congr rfl fun d _ => congrArg₂ (· * ·) (hrow d _ _ hb hs _) ?_
  blk_point [iblk, V, index_at t, hl]

/-- One lane of one head's row: a key's lane, or the row's place. -/
theorem lane_eq (c : Dev nD) (t : Fin cfg0.N) (r : Fin 256) (l : Fin 128) (j : Reference4Ideal.S4x4x4096x128.Idx)
    (e0 : (j 0).val = t.val / 16) (e2 : (j 2).val = t.val % 16 * 256 + r.val) (e3 : (j 3).val = l.val) (k : ℕ)
    (hk : (j 1).val = k) (C : l.val < 64 → Fin 256) (hC : ∀ h, (C h).val = k * 64 + l.val) (D : ¬l.val < 64 → Fin 64)
    (hD : ∀ h, (D h).val = l.val - 64) :
    (if h : l.val < 64 then k0_pay8 (rows m c t) (iblk m c 4 t) (ix2 r (C h)) else k0_pay7 (F := Ideal) (ix2 r (D h)))
      = keyRows (H m c) (m ((c : Thread nD τ).loc main_arg2)) j := by
  have key := keyCols_eq m c t r
  show _ = byRows _ j
  generalize proj (H m c) (m ((c : Thread nD τ).loc main_arg2)) = P at key
  pointwise [byRows]
  by_cases h : l.val < 64
  · rw [dif_pos h, dif_pos (e3.trans_lt h)]
    exact key _ _ e0 e2 (by have := hC h; dsimp only [ix3]; simp; omega)
  · rw [dif_neg h, dif_neg (by rw [e3]; exact h)]
    exact place_eq r _ _ (t.val % 16) e2 (by
      show (j 3).val - 64 = _
      rw [hD h]
      omega)

/-- The array of the keys' rows. -/
theorem keyRows_eq (c : Dev nD) : (dats m 0 c).arrAt 8 cfg0.N
    = keyRows (H m c) (m ((c : Thread nD τ).loc main_arg2)) := by
  refine (dats m 0 c).arrAt_eq_of_covers 8 _ (by decide +kernel) fun t hf y => ?_
  have e0 : ((((cfg0.win 8).blk t).view.emb y) 0).val = t.val / 16 := by blk_simp [index_at t]
  have e1 : ((((cfg0.win 8).blk t).view.emb y) 1).val = (y 1).val := by blk_simp [index_at t]
  have e2 : ((((cfg0.win 8).blk t).view.emb y) 2).val = t.val % 16 * 256 + (y 2).val := by blk_simp [index_at t]
  have e3 : ((((cfg0.win 8).blk t).view.emb y) 3).val = (y 3).val := by blk_simp [index_at t]
  blk_simp
  rw [after0_8]
  have part := fun r l j e0 e2 e3 => lane_eq m c t r l j e0 e2 e3
  generalize keyRows (H m c) (m ((c : Thread nD τ).loc main_arg2)) = R at part ⊢
  generalize (((View.whole main_v9_3).slice (win0_8.rect t)).emb y) = j at e0 e1 e2 e3 ⊢
  frame_out
  have rowsEq : k0_pay13 (iblk m c 0 t) (iblk m c 1 t) (iblk m c 2 t) (iblk m c 3 t) (iblk m c 4 t) = rows m c t := by
    unfold k0_pay13 rows
    frame_out
  rw [rowsEq]
  canon_tiles y h
  case piece0 =>
    pointwise [k0_pay1, k0_pay12]
    refine part _ _ j e0 (e2.trans ?_) (e3.trans h3) 3 ?_ _ (fun _ => ?_) _ (fun _ => ?_) <;> simp <;> omega
  case piece1 =>
    pointwise [k0_pay11]
    refine part _ _ j e0 (e2.trans ?_) (e3.trans h3) 2 ?_ _ (fun _ => ?_) _ (fun _ => ?_) <;> simp <;> omega
  case piece2 =>
    pointwise [k0_pay10]
    refine part _ _ j e0 (e2.trans ?_) (e3.trans h3) 1 ?_ _ (fun _ => ?_) _ (fun _ => ?_) <;> simp <;> omega
  case piece3 =>
    pointwise [k0_pay9]
    refine part _ _ j e0 (e2.trans ?_) (e3.trans h3) 0 ?_ _ (fun _ => ?_) _ (fun _ => ?_) <;> simp <;> omega

/-- The projection's idealization computes the reference's functions of the arguments. -/
theorem algebraic : Cert.algebraic_Kernel4Ideal_Reference4Ideal := fun m g m' g' _ hagree =>
  ⟨fun c => queries (H m c) (m ((c : Thread nD τ).loc main_arg2)), fun c => keys (H m c) (m ((c : Thread nD τ).loc main_arg2)),
    fun c => values (H m c) (m ((c : Thread nD τ).loc main_arg2)), fun c => keyRows (H m c) (m ((c : Thread nD τ).loc main_arg2)),
    (θ_run defs _ _).mono (fun _ h c => ⟨(h c).1.trans (queries_eq m c), (h c).2.1.trans (keys_eq m c),
      (h c).2.2.1.trans (values_eq m c), (h c).2.2.2.1.trans (keyRows_eq m c), (h c).2.2.2.2⟩)
      (Cert.Kernel4Ideal.Value.run_blocks m g),
    (θ_run Cert.Reference4Ideal.defs _ _).mono (fun _ h c => by
      obtain ⟨a0, a1, a2⟩ := hagree c
      obtain ⟨r0, r1, r2, r3, kept⟩ := h c
      refine ⟨r0.trans ?_, r1.trans ?_, r2.trans ?_, r3.trans ?_, kept⟩
      all_goals rw [a0, a1, a2]
      all_goals rfl)
      (Cert.Reference4Ideal.Value.run m' g')⟩

end Cert.Proof.NormProj

end
-- ==== Proof.NsaProj.lean ====
/-
  The sparse layer's normalised projection (program `Kernel5Ideal`): its ten result arrays are the reference's terms of
  the arguments.

  Each of the 64 points takes 256 rows, divides them by their root mean square, and multiplies them with the query
  columns (transposed, scaled), the six streams of key and value columns (transposed), two of the key streams once more
  by rows, each head's 64 lanes followed by 64 lanes holding the row's place in its tile of 128, and the gates' columns,
  which zero columns fill up to 128.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Proof.NsaProj

open Idealize.ShloMosaic Idealize.ShloMosaic.TcCoe Idealize.SL.Sem
open Idealize.ShloMosaic.Pipeline (Dat)

/-! ## The reference's terms -/

section Reference
open Cert.Reference5Ideal Cert.Reference5Ideal.Gen

/-- The rows, each divided by its root mean square and scaled by the weights. -/
abbrev normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The projection, by row and column. -/
abbrev flat (h : FVec Ideal S16384x1024 .f32) (w : FVec Ideal S1024x2608 .f32) : FVec Ideal S16384x2608 .f32 :=
  Host.dotGeneral dot_S16384x1024_S1024x2608_S16384x2608_1_0_0_1_n_n none h w

/-- The projection, by batch, row and column. -/
abbrev proj (h : FVec Ideal S16384x1024 .f32) (w : FVec Ideal S1024x2608 .f32) : FVec Ideal S4x4096x2608 .f32 :=
  shapeCast _ (flat h w) shapeCasts_S16384x2608_S4x4096x2608

/-- The scaled queries, transposed. -/
abbrev queries (h : FVec Ideal S16384x1024 .f32) (w : FVec Ideal S1024x2608 .f32) : FVec Ideal S4x1024x4096 .bf16 :=
  truncf .bf16 (transpose S4x1024x4096 [0, 2, 1] (mulf
    (extractStridedSlice S4x4096x1024 ![0, 0, 0] (proj h w) slices_S4x4096x2608_S4x4096x1024_0_0_0)
    (broadcastInDim S4x4096x1024 ![] bcast_S_S4x4096x1024 (constant S_ .f32 0x3E000000#32)))
    transposes_S4x4096x1024_S4x1024x4096_0_2_1) bitsLt_bf16_f32

/-- The stream of keys or values that starts at column `o`, transposed. -/
abbrev stream (o : ℕ) (hs : S4x4096x2608.Slices ![0, 0, o] S4x4096x256) (p : FVec Ideal S4x4096x2608 .f32) :
    FVec Ideal S4x256x4096 .f32 :=
  transpose S4x256x4096 [0, 2, 1] (extractStridedSlice S4x4096x256 ![0, 0, o] p hs) transposes_S4x4096x256_S4x256x4096_0_2_1

/-- A row's place in its tile, in the first lanes. -/
def place : FVec Ideal S4x4x4096x64 .f32 :=
  broadcastInDim S4x4x4096x64 ![2, 3] bcast_S4096x64_S4x4x4096x64_2_3 (sitofp .f32 (select
    (broadcastInDim S4096x64 ![0, 1] bcast_S1x64_S4096x64_0_1 (cmpi .slt
      (broadcastInDim S1x64 ![1] bcast_S64_S1x64_1 (iotaInDim S64 32 0))
      (broadcastInDim S1x64 ![] bcast_S_S1x64 (constantI S_ 32 3#32))))
    (broadcastInDim S4096x64 ![0, 1] bcast_S4096x1_S4096x64_0_1 (andi
      (broadcastInDim S4096x1 ![0] bcast_S4096_S4096x1_0 (iotaInDim S4096 32 0))
      (broadcastInDim S4096x1 ![] bcast_S_S4096x1 (constantI S_ 32 127#32))))
    (broadcastInDim S4096x64 ![] bcast_S_S4096x64 (id (constantI S_ 32 0#32)))))

/-- The keys that start at column `o` by head and row, each row's place after them. -/
abbrev byRows (o : ℕ) (hs : S4x4096x2608.Slices ![0, 0, o] S4x4096x256) (p : FVec Ideal S4x4096x2608 .f32) :
    FVec Ideal S4x4x4096x128 .bf16 :=
  truncf .bf16 (concatenate S4x4x4096x128 3 [⟨S4x4x4096x64, transpose S4x4x4096x64 [0, 2, 1, 3] (shapeCast _
      (extractStridedSlice S4x4096x256 ![0, 0, o] p hs)
      shapeCasts_S4x4096x256_S4x4096x4x64) transposes_S4x4096x4x64_S4x4x4096x64_0_2_1_3⟩, ⟨S4x4x4096x64, place⟩]
    concatenates_S4x4x4096x64_S4x4x4096x64_S4x4x4096x128_d3) bitsLt_bf16_f32

/-- The gates' logits, zeros after them. -/
abbrev gates (p : FVec Ideal S16384x2608 .f32) : FVec Ideal S16384x128 .f32 :=
  pad S16384x128 ![0, 0] ![0, 80] ![0, 0] (extractStridedSlice S16384x48 ![0, 2560] p slices_S16384x2608_S16384x48_0_2560)
    (sitofp .f32 (constantI S_ 32 0#32)) pads_S16384x48_S16384x128_000_0800 h_S_

end Reference

open Cert.Kernel5Ideal Cert.Kernel5Ideal.Gen

variable (m : (ℓ : Loc nD τ sig) → Buf (Elt Ideal) ℓ)

/-- Point `t` works on rows `256 t` to `256 t + 255`: batch `t / 16`, row block `t % 16`. -/
theorem index_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val / 16, 0, t.val % 16]
    ∧ win0_7.index t = ![t.val / 16, 0, t.val % 16] ∧ win0_8.index t = ![t.val / 16, 0, t.val % 16]
    ∧ win0_9.index t = ![t.val / 16, 0, t.val % 16] ∧ win0_10.index t = ![t.val / 16, 0, t.val % 16]
    ∧ win0_11.index t = ![t.val / 16, 0, t.val % 16] ∧ win0_12.index t = ![t.val / 16, 0, t.val % 16]
    ∧ win0_13.index t = ![t.val / 16, 0, t.val % 16, 0] ∧ win0_14.index t = ![t.val / 16, 0, t.val % 16, 0]
    ∧ win0_15.index t = ![t.val, 0] :=
  (by decide +kernel : ∀ t : Fin grid0.N, _)

/-- The rows of the whole array, normalised. -/
abbrev H (c : Dev nD) : FVec Ideal Reference5Ideal.S16384x1024 .f32 :=
  normed (m ((c : Thread nD τ).loc main_arg0)) (m ((c : Thread nD τ).loc main_arg1))

/-- The weights. -/
abbrev Wt (c : Dev nD) : FVec Ideal Reference5Ideal.S1024x2608 .f32 := m ((c : Thread nD τ).loc main_arg2)

/-! ## The arrays the host makes of the weights, and the blocks of them -/

/-- The scale as one row. -/
def scale (g : FVec Ideal S1024 .f32) : FVec Ideal S1x1024 .f32 := shapeCast S1x1024 g shapeCasts_S1024_S1x1024

/-- The query columns as rows. -/
def queryRows (w : FVec Ideal S1024x2608 .f32) : FVec Ideal S1024x1024 .bf16 :=
  truncf .bf16 (transpose S1024x1024 [1, 0] (extractStridedSlice S1024x1024 ![0, 0] w slices_S1024x2608_S1024x1024_0_0)
    transposes_S1024x1024_S1024x1024_1_0) bitsLt_bf16_f32

/-- The six streams' columns as rows. -/
def streamRows (w : FVec Ideal S1024x2608 .f32) : FVec Ideal S1536x1024 .bf16 :=
  truncf .bf16 (transpose S1536x1024 [1, 0] (extractStridedSlice S1024x1536 ![0, 1024] w slices_S1024x2608_S1024x1536_0_1024)
    transposes_S1024x1536_S1536x1024_1_0) bitsLt_bf16_f32

/-- The columns of two key streams, side by side. -/
def keyColumns (w : FVec Ideal S1024x2608 .f32) : FVec Ideal S1024x512 .bf16 :=
  truncf .bf16 (concatenate S1024x512 1 [⟨S1024x256, extractStridedSlice S1024x256 ![0, 1536] w slices_S1024x2608_S1024x256_0_1536⟩,
    ⟨S1024x256, extractStridedSlice S1024x256 ![0, 2048] w slices_S1024x2608_S1024x256_0_2048⟩]
    concatenates_S1024x256_S1024x256_S1024x512_d1) bitsLt_bf16_f32

/-- The gates' columns, zero columns after them. -/
def gateColumns (w : FVec Ideal S1024x2608 .f32) : FVec Ideal S1024x128 .bf16 :=
  truncf .bf16 (pad S1024x128 ![0, 0] ![0, 80] ![0, 0]
    (extractStridedSlice S1024x48 ![0, 2560] w slices_S1024x2608_S1024x48_0_2560) (sitofp .f32 (constantI S_ 32 0#32))
    pads_S1024x48_S1024x128_000_0800 h_S_) bitsLt_bf16_f32

theorem V_scale (c : Dev nD) : V m c main_v13 = scale (m ((c : Thread nD τ).loc main_arg1)) := by
  unfold V scale
  simp only [List.flatten, List.append, hostOps0, hostOps0_1, hostOps0_2]
  after_results_simp <;> rfl

theorem V_queryRows (c : Dev nD) : V m c main_v2 = queryRows (Wt m c) := by
  unfold V queryRows
  simp only [List.flatten, List.append, hostOps0, hostOps0_1, hostOps0_2]
  after_results_simp <;> rfl

theorem V_streamRows (c : Dev nD) : V m c main_v5 = streamRows (Wt m c) := by
  unfold V streamRows
  simp only [List.flatten, List.append, hostOps0, hostOps0_1, hostOps0_2]
  after_results_simp <;> rfl

theorem V_keyColumns (c : Dev nD) : V m c main_v9 = keyColumns (Wt m c) := by
  unfold V keyColumns
  simp only [List.flatten, List.append, hostOps0, hostOps0_1, hostOps0_2]
  after_results_simp <;> rfl

theorem V_gateColumns (c : Dev nD) : V m c main_v12 = gateColumns (Wt m c) := by
  unfold V gateColumns
  simp only [List.flatten, List.append, hostOps0, hostOps0_1, hostOps0_2]
  after_results_simp <;> rfl

section Blocks

variable (c : Dev nD) (t : Fin cfg0.N)

theorem scale_at (i : S1x1024.Idx) : iblk m c 1 t i = m ((c : Thread nD τ).loc main_arg1) (ix1 (i 1)) := by
  have e : ∀ j, scale (m ((c : Thread nD τ).loc main_arg1)) j = m ((c : Thread nD τ).loc main_arg1) (ix1 (j 1)) := fun j => by
    pointwise [scale]
  rw [← e, ← V_scale m c]
  refine congrArg (V m c main_v13) (funext fun d => Fin.ext ?_)
  match d with
  | ⟨0, _⟩ => blk_simp [index_at t]
  | ⟨1, _⟩ => blk_simp [index_at t]

theorem queryRows_at (l d : Fin 1024) (L : Fin 2608) (hL : L.val = l.val) : iblk m c 2 t (ix2 l d) = Wt m c (ix2 d L) := by
  have e : queryRows (Wt m c) (ix2 l d) = Wt m c (ix2 d L) := by
    pointwise [queryRows]
    exact congrArg (Wt m c) (by ext a; match a with | ⟨0, _⟩ => rfl | ⟨1, _⟩ => simp [hL])
  rw [← e, ← V_queryRows m c]
  refine congrArg (V m c main_v2) (funext fun d => Fin.ext ?_)
  match d with
  | ⟨0, _⟩ => blk_simp [index_at t]
  | ⟨1, _⟩ => blk_simp [index_at t]

theorem streamRows_at (l : Fin 1536) (d : Fin 1024) (L : Fin 2608) (hL : L.val = 1024 + l.val) :
    iblk m c 3 t (ix2 l d) = Wt m c (ix2 d L) := by
  have e : streamRows (Wt m c) (ix2 l d) = Wt m c (ix2 d L) := by
    pointwise [streamRows]
    exact congrArg (Wt m c) (by ext a; match a with | ⟨0, _⟩ => rfl | ⟨1, _⟩ => simp [hL])
  rw [← e, ← V_streamRows m c]
  refine congrArg (V m c main_v5) (funext fun d => Fin.ext ?_)
  match d with
  | ⟨0, _⟩ => blk_simp [index_at t]
  | ⟨1, _⟩ => blk_simp [index_at t]

theorem keyColumns_at (d : Fin 1024) (l : Fin 512) (L : Fin 2608)
    (hL : L.val = if l.val < 256 then 1536 + l.val else 2048 + (l.val - 256)) : iblk m c 4 t (ix2 d l) = Wt m c (ix2 d L) := by
  have e : keyColumns (Wt m c) (ix2 d l) = Wt m c (ix2 d L) := by
    pointwise [keyColumns]
    by_cases h : l.val < 256
    · rw [dif_pos h]
      rw [if_pos h] at hL
      exact congrArg (Wt m c) (by ext a; match a with | ⟨0, _⟩ => rfl | ⟨1, _⟩ => simp [hL])
    · rw [dif_neg h]
      rw [if_neg h] at hL
      exact congrArg (Wt m c) (by ext a; match a with | ⟨0, _⟩ => rfl | ⟨1, _⟩ => simp [hL])
  rw [← e, ← V_keyColumns m c]
  refine congrArg (V m c main_v9) (funext fun d => Fin.ext ?_)
  match d with
  | ⟨0, _⟩ => blk_simp [index_at t]
  | ⟨1, _⟩ => blk_simp [index_at t]

theorem gateColumns_at (d : Fin 1024) (l : Fin 128) : iblk m c 5 t (ix2 d l)
    = if h : l.val < 48 then Wt m c (ix2 d ⟨2560 + l.val, by omega⟩) else 0 := by
  have e : gateColumns (Wt m c) (ix2 d l) = if h : l.val < 48 then Wt m c (ix2 d ⟨2560 + l.val, by omega⟩) else 0 := by
    pointwise [gateColumns]
    refine congrArg (fun z : EReal => if h : l.val < 48 then Wt m c (ix2 d ⟨2560 + l.val, by omega⟩) else z) ?_
    show (((0#32 : BitVec 32).toInt : ℝ) : EReal) = 0
    simp
  rw [← e, ← V_gateColumns m c]
  refine congrArg (V m c main_v12) (funext fun d => Fin.ext ?_)
  match d with
  | ⟨0, _⟩ => blk_simp [index_at t]
  | ⟨1, _⟩ => blk_simp [index_at t]

end Blocks

/-! ## The blocks the body writes -/

/-- The normalised rows of point `t`'s block, as the body computes them. -/
def rows (c : Dev nD) (t : Fin cfg0.N) : FVec Ideal S256x1024 .bf16 := k0_pay1 (iblk m c 0 t) (iblk m c 1 t)

/-- They are the reference's, at the rows the block covers. -/
theorem rows_eq (c : Dev nD) (t : Fin cfg0.N) (r : Fin 256) (d : Fin 1024) (R : Fin 16384)
    (hR : R.val = t.val * 256 + r.val) : rows m c t (ix2 r d) = H m c (ix2 R d) := by
  have hs := scale_at m c t
  have e : ∀ b : Fin 1024, iblk m c 0 t (ix2 r b) = m ((c : Thread nD τ).loc main_arg0) (ix2 R b) := fun b => by
    blk_point [iblk, V, index_at t]
  pointwise [rows, k0_pay1, normed]
  rw [hs, e]
  simp only [e]
  rfl

/-- The rows read in the contraction of a window whose block sits at batch `t / 16` and row block `t % 16`. -/
theorem rows_at (c : Dev nD) (t : Fin cfg0.N) (r : Fin 256) (d : Fin 1024) (b s : ℕ) (hb : b = t.val / 16)
    (hs : s = t.val % 16 * 256 + r.val) (hlt : b * 4096 + s < 16384) :
    rows m c t (ix2 r d) = H m c (ix2 ⟨b * 4096 + s, hlt⟩ d) :=
  rows_eq m c t r d _ (by dsimp only; omega)

/-- The queries' array. -/
theorem queries_eq (c : Dev nD) : (dats m 0 c).arrAt 6 cfg0.N = queries (H m c) (Wt m c) := by
  refine (dats m 0 c).arrAt_eq_of_covers 6 _ (by decide +kernel) fun t hf y => ?_
  blk_simp
  rw [after0_6]
  frame_out
  have hr : k0_pay1 (iblk m c 0 t) (iblk m c 1 t) = rows m c t := rfl
  have hrow := fun (d : Fin 1024) (b s : ℕ) (hb hs hlt) => rows_at m c t (y 2) d b s hb hs hlt
  generalize H m c = h at hrow ⊢
  pointwise [k0_pay2, queries]
  rw [hr]
  refine congrArg (· * _) (Finset.sum_congr rfl fun d _ => (mul_comm _ _).trans (congrArg₂ (· * ·) (hrow d _ _ ?_ ?_ _) ?_))
  · blk_simp [index_at t]
  · blk_simp [index_at t]
  · exact queryRows_at m c t _ d _ (by blk_simp [index_at t])

/-- The product with one stream's columns, whose rows the block `x` holds, is the reference's stream. -/
theorem stream_at (c : Dev nD) (t : Fin cfg0.N) (x : FVec Ideal S256x1024 .bf16) (o : ℕ) (hs : Reference5Ideal.S4x4096x2608.Slices ![0, 0, o] Reference5Ideal.S4x4096x256)
    (hx : ∀ (l : Fin 256) (d : Fin 1024) (L : Fin 2608), L.val = o + l.val → x (ix2 l d) = Wt m c (ix2 d L)) (y : S1x256x256.Idx)
    (j : Reference5Ideal.S4x256x4096.Idx) (e0 : (j 0).val = t.val / 16) (e1 : (j 1).val = (y 1).val)
    (e2 : (j 2).val = t.val % 16 * 256 + (y 2).val) :
    k0_pay6 (rows m c t) x y = stream o hs (proj (H m c) (Wt m c)) j := by
  have hrow := fun (d : Fin 1024) (b s : ℕ) (hb hs hlt) => rows_at m c t (y 2) d b s hb hs hlt
  generalize H m c = h at hrow ⊢
  pointwise [k0_pay6, stream]
  show (_ : EReal) = _
  refine Finset.sum_congr rfl fun d _ => (mul_comm _ _).trans (congrArg₂ (· * ·) (hrow d _ _ e0 e2 _) (hx _ d _ ?_))
  simp [e1]

/-- The same of the block loaded from row `q` of the streams' rows. -/
theorem stream_loaded (c : Dev nD) (t : Fin cfg0.N) (q : ℕ) (hq : ∀ a, (![q, 0] : Fin 2 → ℕ) a + S256x1024.size a ≤ S1536x1024.size a)
    (o : ℕ) (ho : o = 1024 + q) (hs : Reference5Ideal.S4x4096x2608.Slices ![0, 0, o] Reference5Ideal.S4x4096x256) (y : S1x256x256.Idx)
    (j : Reference5Ideal.S4x256x4096.Idx) (e0 : (j 0).val = t.val / 16) (e1 : (j 1).val = (y 1).val)
    (e2 : (j 2).val = t.val % 16 * 256 + (y 2).val) :
    k0_pay6 (rows m c t) (View.ld (iblk m c 3 t) (Rect.unit (s := S1536x1024) ![q, 0] S256x1024.size hq)) y
      = stream o hs (proj (H m c) (Wt m c)) j := by
  have hb : q + 256 ≤ 1536 := hq 0
  refine stream_at m c t _ o hs (fun l d L hL => ?_) y j e0 e1 e2
  refine (View.ld_unit_apply_of _ _ _ _ _ (ix2 (⟨q + l.val, by omega⟩ : Fin 1536) d) fun a => ?_).trans
    (streamRows_at m c t _ d L (by dsimp only; omega))
  match a with
  | ⟨0, _⟩ => rfl
  | ⟨1, _⟩ => exact (Nat.zero_add _).symm

/-- The rows, as the later pieces read them. -/
theorem rows_loaded (c : Dev nD) (t : Fin cfg0.N) :
    k0_pay22 (iblk m c 0 t) (iblk m c 1 t) (iblk m c 2 t) (iblk m c 3 t) (iblk m c 4 t) (iblk m c 5 t) = rows m c t := by
  unfold k0_pay22 rows
  frame_out

/-- The first stream's array. -/
theorem first_eq (c : Dev nD) : (dats m 0 c).arrAt 7 cfg0.N
    = stream 1024 Reference5Ideal.Gen.slices_S4x4096x2608_S4x4096x256_0_0_1024 (proj (H m c) (Wt m c)) := by
  refine (dats m 0 c).arrAt_eq_of_covers 7 _ (by decide +kernel) fun t hf y => ?_
  have e0 : ((((cfg0.win 7).blk t).view.emb y) 0).val = t.val / 16 := by blk_simp [index_at t]
  have e1 : ((((cfg0.win 7).blk t).view.emb y) 1).val = (y 1).val := by blk_simp [index_at t]
  have e2 : ((((cfg0.win 7).blk t).view.emb y) 2).val = t.val % 16 * 256 + (y 2).val := by blk_simp [index_at t]
  have part := fun j => stream_loaded m c t 0 inb_S1536x1024_S256x1024_0_0 1024 rfl Reference5Ideal.Gen.slices_S4x4096x2608_S4x4096x256_0_0_1024 y j
  blk_simp
  generalize stream 1024 _ _ = R at part ⊢
  generalize (((View.whole main_v14_1).slice (win0_7.rect t)).emb y) = j at e0 e1 e2 ⊢
  rw [after0_7]
  frame_out
  exact part j e0 e1 e2

/-- The second stream's array. -/
theorem second_eq (c : Dev nD) : (dats m 0 c).arrAt 8 cfg0.N
    = stream 1280 Reference5Ideal.Gen.slices_S4x4096x2608_S4x4096x256_0_0_1280 (proj (H m c) (Wt m c)) := by
  refine (dats m 0 c).arrAt_eq_of_covers 8 _ (by decide +kernel) fun t hf y => ?_
  have e0 : ((((cfg0.win 8).blk t).view.emb y) 0).val = t.val / 16 := by blk_simp [index_at t]
  have e1 : ((((cfg0.win 8).blk t).view.emb y) 1).val = (y 1).val := by blk_simp [index_at t]
  have e2 : ((((cfg0.win 8).blk t).view.emb y) 2).val = t.val % 16 * 256 + (y 2).val := by blk_simp [index_at t]
  have part := fun j => stream_loaded m c t 256 inb_S1536x1024_S256x1024_256_0 1280 rfl Reference5Ideal.Gen.slices_S4x4096x2608_S4x4096x256_0_0_1280 y j
  blk_simp
  generalize stream 1280 _ _ = R at part ⊢
  generalize (((View.whole main_v14_2).slice (win0_8.rect t)).emb y) = j at e0 e1 e2 ⊢
  rw [after0_8]
  frame_out
  exact part j e0 e1 e2

/-- The third stream's array. -/
theorem third_eq (c : Dev nD) : (dats m 0 c).arrAt 9 cfg0.N
    = stream 1536 Reference5Ideal.Gen.slices_S4x4096x2608_S4x4096x256_0_0_1536 (proj (H m c) (Wt m c)) := by
  refine (dats m 0 c).arrAt_eq_of_covers 9 _ (by decide +kernel) fun t hf y => ?_
  have e0 : ((((cfg0.win 9).blk t).view.emb y) 0).val = t.val / 16 := by blk_simp [index_at t]
  have e1 : ((((cfg0.win 9).blk t).view.emb y) 1).val = (y 1).val := by blk_simp [index_at t]
  have e2 : ((((cfg0.win 9).blk t).view.emb y) 2).val = t.val % 16 * 256 + (y 2).val := by blk_simp [index_at t]
  have part := fun j => stream_loaded m c t 512 inb_S1536x1024_S256x1024_512_0 1536 rfl Reference5Ideal.Gen.slices_S4x4096x2608_S4x4096x256_0_0_1536 y j
  blk_simp
  generalize stream 1536 _ _ = R at part ⊢
  generalize (((View.whole main_v14_3).slice (win0_9.rect t)).emb y) = j at e0 e1 e2 ⊢
  rw [after0_9]
  frame_out
  rw [rows_loaded]
  exact part j e0 e1 e2

/-- The fourth stream's array. -/
theorem fourth_eq (c : Dev nD) : (dats m 0 c).arrAt 10 cfg0.N
    = stream 1792 Reference5Ideal.Gen.slices_S4x4096x2608_S4x4096x256_0_0_1792 (proj (H m c) (Wt m c)) := by
  refine (dats m 0 c).arrAt_eq_of_covers 10 _ (by decide +kernel) fun t hf y => ?_
  have e0 : ((((cfg0.win 10).blk t).view.emb y) 0).val = t.val / 16 := by blk_simp [index_at t]
  have e1 : ((((cfg0.win 10).blk t).view.emb y) 1).val = (y 1).val := by blk_simp [index_at t]
  have e2 : ((((cfg0.win 10).blk t).view.emb y) 2).val = t.val % 16 * 256 + (y 2).val := by blk_simp [index_at t]
  have part := fun j => stream_loaded m c t 768 inb_S1536x1024_S256x1024_768_0 1792 rfl Reference5Ideal.Gen.slices_S4x4096x2608_S4x4096x256_0_0_1792 y j
  blk_simp
  generalize stream 1792 _ _ = R at part ⊢
  generalize (((View.whole main_v14_4).slice (win0_10.rect t)).emb y) = j at e0 e1 e2 ⊢
  rw [after0_10]
  frame_out
  rw [rows_loaded]
  exact part j e0 e1 e2

/-- The fifth stream's array. -/
theorem fifth_eq (c : Dev nD) : (dats m 0 c).arrAt 11 cfg0.N
    = stream 2048 Reference5Ideal.Gen.slices_S4x4096x2608_S4x4096x256_0_0_2048 (proj (H m c) (Wt m c)) := by
  refine (dats m 0 c).arrAt_eq_of_covers 11 _ (by decide +kernel) fun t hf y => ?_
  have e0 : ((((cfg0.win 11).blk t).view.emb y) 0).val = t.val / 16 := by blk_simp [index_at t]
  have e1 : ((((cfg0.win 11).blk t).view.emb y) 1).val = (y 1).val := by blk_simp [index_at t]
  have e2 : ((((cfg0.win 11).blk t).view.emb y) 2).val = t.val % 16 * 256 + (y 2).val := by blk_simp [index_at t]
  have part := fun j => stream_loaded m c t 1024 inb_S1536x1024_S256x1024_1024_0 2048 rfl Reference5Ideal.Gen.slices_S4x4096x2608_S4x4096x256_0_0_2048 y j
  blk_simp
  generalize stream 2048 _ _ = R at part ⊢
  generalize (((View.whole main_v14_5).slice (win0_11.rect t)).emb y) = j at e0 e1 e2 ⊢
  rw [after0_11]
  frame_out
  rw [rows_loaded]
  exact part j e0 e1 e2

/-- The sixth stream's array. -/
theorem sixth_eq (c : Dev nD) : (dats m 0 c).arrAt 12 cfg0.N
    = stream 2304 Reference5Ideal.Gen.slices_S4x4096x2608_S4x4096x256_0_0_2304 (proj (H m c) (Wt m c)) := by
  refine (dats m 0 c).arrAt_eq_of_covers 12 _ (by decide +kernel) fun t hf y => ?_
  have e0 : ((((cfg0.win 12).blk t).view.emb y) 0).val = t.val / 16 := by blk_simp [index_at t]
  have e1 : ((((cfg0.win 12).blk t).view.emb y) 1).val = (y 1).val := by blk_simp [index_at t]
  have e2 : ((((cfg0.win 12).blk t).view.emb y) 2).val = t.val % 16 * 256 + (y 2).val := by blk_simp [index_at t]
  have part := fun j => stream_loaded m c t 1280 inb_S1536x1024_S256x1024_1280_0 2304 rfl Reference5Ideal.Gen.slices_S4x4096x2608_S4x4096x256_0_0_2304 y j
  blk_simp
  generalize stream 2304 _ _ = R at part ⊢
  generalize (((View.whole main_v14_6).slice (win0_12.rect t)).emb y) = j at e0 e1 e2 ⊢
  rw [after0_12]
  frame_out
  rw [rows_loaded]
  exact part j e0 e1 e2

/-! ## The key rows -/

/-- The lane numbers the body makes. -/
abbrev lanes : IVec S256x64 32 := iota .tc S256x64 32 [1] iota_S256x64_d1_w32

theorem place_eq (r : Fin 256) (l : Fin 64) (i : Reference5Ideal.S4x4x4096x64.Idx) (q : ℕ) (hs : (i 2).val = q * 256 + r.val)
    (hl : (i 3).val = l.val) : k0_pay10 (F := Ideal) lanes (ix2 r l) = place i := by
  pointwise [k0_pay10, place]
  have e : IntOp.andi (BitVec.ofNat 32 r.val) 127#32 = IntOp.andi (BitVec.ofNat 32 (i 2).val) 127#32 := by
    rw [hs]
    show BitVec.ofNat 32 r.val &&& 127#32 = BitVec.ofNat 32 (q * 256 + r.val) &&& 127#32
    apply BitVec.eq_of_toNat_eq
    simp only [BitVec.toNat_and, BitVec.toNat_ofNat]
    have h127 : (127 % 2 ^ 32 : ℕ) = 2 ^ 7 - 1 := by norm_num
    rw [h127, Nat.and_two_pow_sub_one_eq_mod, Nat.and_two_pow_sub_one_eq_mod]
    omega
  rw [e, hl]
  rfl

/-- The product with the key columns loaded from column `q` on. -/
theorem keyCols_eq (c : Dev nD) (t : Fin cfg0.N) (q : ℕ) (hq : ∀ a, (![0, q] : Fin 2 → ℕ) a + S1024x256.size a ≤ S1024x512.size a) (o : ℕ)
    (ho : q = 0 ∧ o = 1536 ∨ q = 256 ∧ o = 2048) (r l : Fin 256) (i : Reference5Ideal.S4x4096x2608.Idx) (hb : (i 0).val = t.val / 16)
    (hs : (i 1).val = t.val % 16 * 256 + r.val) (hl : (i 2).val = o + l.val) :
    k0_pay11 (rows m c t) (View.ld (iblk m c 4 t) (Rect.unit (s := S1024x512) ![0, q] S1024x256.size hq)) (ix2 r l)
      = proj (H m c) (Wt m c) i := by
  have hrow := fun (d : Fin 1024) (b s : ℕ) (hb hs hlt) => rows_at m c t r d b s hb hs hlt
  have hcol : ∀ (d : Fin 1024) (L : Fin 2608), L.val = o + l.val →
      View.ld (iblk m c 4 t) (Rect.unit (s := S1024x512) ![0, q] S1024x256.size hq) (ix2 d l) = Wt m c (ix2 d L) := fun d L hL => by
    have hb : q + 256 ≤ 512 := hq 1
    refine (View.ld_unit_apply_of _ _ _ _ _ (ix2 d (⟨q + l.val, by omega⟩ : Fin 512)) fun a => ?_).trans
      (keyColumns_at m c t d _ L (by dsimp only; split <;> omega))
    match a with
    | ⟨0, _⟩ => exact (Nat.zero_add _).symm
    | ⟨1, _⟩ => rfl
  generalize View.ld (iblk m c 4 t) _ = x at hcol ⊢
  generalize H m c = h at hrow ⊢
  pointwise [k0_pay11, proj]
  show (_ : EReal) = _
  refine Finset.sum_congr rfl fun d _ => congrArg₂ (· * ·) (hrow d _ _ hb hs _) (hcol d _ ?_)
  simp [hl]

/-- One lane of one head's row, of columns `X` and lanes `Z` after them: a key's lane, or the row's place. -/
theorem lane_eq (t : Fin cfg0.N) (o : ℕ) (hs : Reference5Ideal.S4x4096x2608.Slices ![0, 0, o] Reference5Ideal.S4x4096x256)
    (P : FVec Ideal Reference5Ideal.S4x4096x2608 .f32) (X : FVec Ideal S256x256 .f32) (Z : FVec Ideal S256x64 .f32)
    (hX : ∀ (r l : Fin 256) (i : Reference5Ideal.S4x4096x2608.Idx), (i 0).val = t.val / 16 → (i 1).val = t.val % 16 * 256 + r.val →
      (i 2).val = o + l.val → X (ix2 r l) = P i) (hZ : Z = k0_pay10 (F := Ideal) lanes) (r : Fin 256) (l : Fin 128)
    (j : Reference5Ideal.S4x4x4096x128.Idx) (e0 : (j 0).val = t.val / 16) (e2 : (j 2).val = t.val % 16 * 256 + r.val)
    (e3 : (j 3).val = l.val) (k : ℕ) (hk : (j 1).val = k) (C : l.val < 64 → Fin 256) (hC : ∀ h, (C h).val = k * 64 + l.val)
    (D : ¬l.val < 64 → Fin 64) (hD : ∀ h, (D h).val = l.val - 64) :
    (if h : l.val < 64 then X (ix2 r (C h)) else Z (ix2 r (D h))) = byRows o hs P j := by
  subst hZ
  pointwise [byRows]
  by_cases h : l.val < 64
  · rw [dif_pos h, dif_pos (e3.trans_lt h)]
    exact hX r _ _ e0 e2 (by have := hC h; dsimp only [ix3]; simp; omega)
  · rw [dif_neg h, dif_neg (by rw [e3]; exact h)]
    exact place_eq r _ _ (t.val % 16) e2 (by
      show (j 3).val - 64 = _
      rw [hD h]
      omega)

/-- The place block, as the later pieces read it. -/
theorem lanes_loaded (c : Dev nD) (t : Fin cfg0.N) :
    k0_pay23 (iblk m c 0 t) (iblk m c 1 t) (iblk m c 2 t) (iblk m c 3 t) (iblk m c 4 t) (iblk m c 5 t) = lanes := rfl

theorem places_loaded (c : Dev nD) (t : Fin cfg0.N) :
    k0_pay24 (iblk m c 0 t) (iblk m c 1 t) (iblk m c 2 t) (iblk m c 3 t) (iblk m c 4 t) (iblk m c 5 t) = k0_pay10 (F := Ideal) lanes := rfl

/-- The array of the third stream's key rows. -/
theorem keyRowsThird_eq (c : Dev nD) : (dats m 0 c).arrAt 13 cfg0.N
    = byRows 1536 Reference5Ideal.Gen.slices_S4x4096x2608_S4x4096x256_0_0_1536 (proj (H m c) (Wt m c)) := by
  refine (dats m 0 c).arrAt_eq_of_covers 13 _ (by decide +kernel) fun t hf y => ?_
  have e0 : ((((cfg0.win 13).blk t).view.emb y) 0).val = t.val / 16 := by blk_simp [index_at t]
  have e1 : ((((cfg0.win 13).blk t).view.emb y) 1).val = (y 1).val := by blk_simp [index_at t]
  have e2 : ((((cfg0.win 13).blk t).view.emb y) 2).val = t.val % 16 * 256 + (y 2).val := by blk_simp [index_at t]
  have e3 : ((((cfg0.win 13).blk t).view.emb y) 3).val = (y 3).val := by blk_simp [index_at t]
  blk_simp
  have part := lane_eq t 1536 Reference5Ideal.Gen.slices_S4x4096x2608_S4x4096x256_0_0_1536 _ _ _
    (keyCols_eq m c t 0 inb_S1024x512_S1024x256_0_0 1536 (by omega)) rfl
  rw [after0_13]
  generalize byRows 1536 _ _ = R at part ⊢
  generalize (((View.whole main_v14_7).slice (win0_13.rect t)).emb y) = j at e0 e1 e2 e3 ⊢
  frame_out
  rw [rows_loaded, lanes_loaded]
  generalize View.ld (iblk m c 4 t) _ = x at part ⊢
  canon_tiles y h
  case piece0 =>
    pointwise [k0_pay15]
    refine part _ _ j e0 (e2.trans ?_) (e3.trans h3) 3 ?_ _ (fun _ => ?_) _ (fun _ => ?_) <;> simp <;> omega
  case piece1 =>
    pointwise [k0_pay14]
    refine part _ _ j e0 (e2.trans ?_) (e3.trans h3) 2 ?_ _ (fun _ => ?_) _ (fun _ => ?_) <;> simp <;> omega
  case piece2 =>
    pointwise [k0_pay13]
    refine part _ _ j e0 (e2.trans ?_) (e3.trans h3) 1 ?_ _ (fun _ => ?_) _ (fun _ => ?_) <;> simp <;> omega
  case piece3 =>
    pointwise [k0_pay12]
    refine part _ _ j e0 (e2.trans ?_) (e3.trans h3) 0 ?_ _ (fun _ => ?_) _ (fun _ => ?_) <;> simp <;> omega

/-- The array of the fifth stream's key rows. -/
theorem keyRowsFifth_eq (c : Dev nD) : (dats m 0 c).arrAt 14 cfg0.N
    = byRows 2048 Reference5Ideal.Gen.slices_S4x4096x2608_S4x4096x256_0_0_2048 (proj (H m c) (Wt m c)) := by
  refine (dats m 0 c).arrAt_eq_of_covers 14 _ (by decide +kernel) fun t hf y => ?_
  have e0 : ((((cfg0.win 14).blk t).view.emb y) 0).val = t.val / 16 := by blk_simp [index_at t]
  have e1 : ((((cfg0.win 14).blk t).view.emb y) 1).val = (y 1).val := by blk_simp [index_at t]
  have e2 : ((((cfg0.win 14).blk t).view.emb y) 2).val = t.val % 16 * 256 + (y 2).val := by blk_simp [index_at t]
  have e3 : ((((cfg0.win 14).blk t).view.emb y) 3).val = (y 3).val := by blk_simp [index_at t]
  blk_simp
  have part := lane_eq t 2048 Reference5Ideal.Gen.slices_S4x4096x2608_S4x4096x256_0_0_2048 _ _ _
    (keyCols_eq m c t 256 inb_S1024x512_S1024x256_0_256 2048 (by omega)) rfl
  rw [after0_14]
  generalize byRows 2048 _ _ = R at part ⊢
  generalize (((View.whole main_v14_8).slice (win0_14.rect t)).emb y) = j at e0 e1 e2 e3 ⊢
  frame_out
  rw [rows_loaded, places_loaded]
  generalize View.ld (iblk m c 4 t) _ = x at part ⊢
  generalize k0_pay10 (F := Ideal) lanes = Z at part ⊢
  canon_tiles y h
  case piece0 =>
    pointwise [k0_pay20]
    refine part _ _ j e0 (e2.trans ?_) (e3.trans h3) 3 ?_ _ (fun _ => ?_) _ (fun _ => ?_) <;> simp <;> omega
  case piece1 =>
    pointwise [k0_pay19]
    refine part _ _ j e0 (e2.trans ?_) (e3.trans h3) 2 ?_ _ (fun _ => ?_) _ (fun _ => ?_) <;> simp <;> omega
  case piece2 =>
    pointwise [k0_pay18]
    refine part _ _ j e0 (e2.trans ?_) (e3.trans h3) 1 ?_ _ (fun _ => ?_) _ (fun _ => ?_) <;> simp <;> omega
  case piece3 =>
    pointwise [k0_pay17]
    refine part _ _ j e0 (e2.trans ?_) (e3.trans h3) 0 ?_ _ (fun _ => ?_) _ (fun _ => ?_) <;> simp <;> omega

/-! ## The gates -/

/-- The gates' array: the columns past the 48 gates are products with zeros. -/
theorem gates_eq (c : Dev nD) : (dats m 0 c).arrAt 15 cfg0.N = gates (flat (H m c) (Wt m c)) := by
  refine (dats m 0 c).arrAt_eq_of_covers 15 _ (by decide +kernel) fun t hf y => ?_
  have e0 : ((((cfg0.win 15).blk t).view.emb y) 0).val = t.val * 256 + (y 0).val := by blk_simp [index_at t]
  have e1 : ((((cfg0.win 15).blk t).view.emb y) 1).val = (y 1).val := by blk_simp [index_at t]
  blk_simp
  have hrow := fun (d : Fin 1024) R hR => rows_eq m c t (y 0) d R hR
  have hcol := fun d => gateColumns_at m c t d (y 1)
  generalize H m c = h at hrow ⊢
  generalize Wt m c = w at hcol ⊢
  generalize (((View.whole main_v14_9).slice (win0_15.rect t)).emb y) = j at e0 e1 ⊢
  rw [after0_15]
  frame_out
  rw [rows_loaded]
  generalize iblk m c 5 t = x at hcol ⊢
  pointwise [k0_pay21, gates]
  by_cases hl : (y 1).val < 48
  · rw [dif_pos (e1.trans_lt hl)]
    show (_ : EReal) = _
    refine Finset.sum_congr rfl fun d _ => congrArg₂ (· * ·) (hrow d _ e0) ?_
    rw [hcol, dif_pos hl]
    exact congrArg (fun L => w (ix2 d L)) (Fin.ext (by simp [e1]))
  · rw [dif_neg (by rw [e1]; exact hl)]
    have z : (FloatOps.sitofp FTy.f32 0#32 : Ideal .f32) = (0 : EReal) := by
      show (((0#32 : BitVec 32).toInt : ℝ) : EReal) = 0
      simp
    rw [z]
    show (_ : EReal) = _
    refine Finset.sum_eq_zero fun d _ => ?_
    rw [hcol, dif_neg hl]
    exact mul_zero _

/-- The projection's idealization computes the reference's functions of the arguments. -/
theorem algebraic : Cert.algebraic_Kernel5Ideal_Reference5Ideal := fun m g m' g' _ hagree =>
  ⟨_, _, _, _, _, _, _, _, _, _,
    (θ_run defs _ _).mono (fun _ h c => by
      obtain ⟨h0, h1, h2, h3, h4, h5, h6, h7, h8, h9, kept⟩ := h c
      exact ⟨h0.trans (queries_eq m c), h1.trans (first_eq m c), h2.trans (second_eq m c), h3.trans (third_eq m c),
        h4.trans (fourth_eq m c), h5.trans (fifth_eq m c), h6.trans (sixth_eq m c), h7.trans (keyRowsThird_eq m c),
        h8.trans (keyRowsFifth_eq m c), h9.trans (gates_eq m c), kept⟩)
      (Cert.Kernel5Ideal.Value.run_blocks m g),
    (θ_run Cert.Reference5Ideal.defs _ _).mono (fun _ h c => by
      obtain ⟨a0, a1, a2⟩ := hagree c
      obtain ⟨r0, r1, r2, r3, r4, r5, r6, r7, r8, r9, kept⟩ := h c
      refine ⟨r0.trans ?_, r1.trans ?_, r2.trans ?_, r3.trans ?_, r4.trans ?_, r5.trans ?_, r6.trans ?_, r7.trans ?_, r8.trans ?_,
        r9.trans ?_, kept⟩
      all_goals rw [a0, a1, a2]
      all_goals rfl)
      (Cert.Reference5Ideal.Value.run m' g')⟩

end Cert.Proof.NsaProj

end
-- ==== Proof.NsaOut.lean ====
/-
  The sparse layer's output projection (program `Kernel6Ideal`): its result array is the reference's term of the arguments.

  Each of the 64 points takes 256 rows of the residual, the gates' logits and the three branches. The host has made, for
  each branch, a matrix of zeros and ones with a one where a gate belongs to a column's head, so that a product with it
  spreads the 16 heads' gates over the 1024 columns. The body takes the logits' logistic function, spreads it, and spreads
  the part of it that a rounding to bfloat16 would lose, which at the ideal instance is zero. The gated branches' sum times
  the weights, plus the residual, is the result.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.WordCmp
public import Idealize.ShloMosaic.Lib.Claim

@[expose] public section

set_option maxRecDepth 16384

noncomputable section

namespace Cert.Proof.NsaOut

open Idealize.ShloMosaic Idealize.ShloMosaic.TcCoe Idealize.SL.Sem
open Idealize.ShloMosaic.Pipeline (Dat)

/-! ## The reference's term -/

section Reference
open Cert.Reference6Ideal Cert.Reference6Ideal.Gen

/-- The gates, by row, head and branch. -/
abbrev gates (gl : FVec Ideal S16384x128 .f32) : FVec Ideal S16384x16x3 .f32 :=
  shapeCast _ (Host.divf (broadcastInDim S16384x48 ![] bcast_S_S16384x48 (constant S_ .f32 0x3F800000#32))
    (addf (broadcastInDim S16384x48 ![] bcast_S_S16384x48 (constant S_ .f32 0x3F800000#32))
      (Host.exp (Host.negf (extractStridedSlice S16384x48 ![0, 0] gl slices_S16384x128_S16384x48_0_0)))))
    shapeCasts_S16384x48_S16384x16x3

/-- One branch, each head scaled by its gate `j`. -/
abbrev gated (j : ℕ) (hj : S16384x16x3.Slices ![0, 0, j] S16384x16x1) (G : FVec Ideal S16384x16x3 .f32)
    (o : FVec Ideal S16384x1024 .f32) : FVec Ideal S16384x16x64 .f32 :=
  mulf (broadcastInDim S16384x16x64 ![0, 1, 2] bcast_S16384x16x1_S16384x16x64_0_1_2 (extractStridedSlice S16384x16x1 ![0, 0, j] G hj))
    (shapeCast _ o shapeCasts_S16384x1024_S16384x16x64)

/-- The three gated branches' sum, by row and column. -/
abbrev mixed (gl : FVec Ideal S16384x128 .f32) (o0 o1 o2 : FVec Ideal S16384x1024 .f32) : FVec Ideal S16384x1024 .f32 :=
  shapeCast _ (addf (addf (gated 0 slices_S16384x16x3_S16384x16x1_0_0_0 (gates gl) o0)
    (gated 1 slices_S16384x16x3_S16384x16x1_0_0_1 (gates gl) o1)) (gated 2 slices_S16384x16x3_S16384x16x1_0_0_2 (gates gl) o2))
    shapeCasts_S16384x16x64_S16384x1024

/-- The residual plus the gated branches' sum times the weights. -/
abbrev ref (x : FVec Ideal S16384x1024 .f32) (gl : FVec Ideal S16384x128 .f32) (o0 o1 o2 : FVec Ideal S16384x1024 .f32)
    (w : FVec Ideal S1024x1024 .f32) : FVec Ideal S16384x1024 .f32 :=
  addf x (Host.dotGeneral dot_S16384x1024_S1024x1024_S16384x1024_1_0_0_1_n_n none (mixed gl o0 o1 o2) w)

/-- A row's mix at a column: each branch's entry times the head's gate. -/
theorem mixed_at (gl : FVec Ideal S16384x128 .f32) (o0 o1 o2 : FVec Ideal S16384x1024 .f32) (R : Fin 16384) (C : Fin 1024)
    (k : Fin 3 → Fin 128) (hk : ∀ j, (k j).val = 3 * (C.val / 64) + j.val) :
    mixed gl o0 o1 o2 (ix2 R C) = (Ideal.logistic (gl (ix2 R (k 0))) * o0 (ix2 R C) + Ideal.logistic (gl (ix2 R (k 1))) * o1 (ix2 R C))
      + Ideal.logistic (gl (ix2 R (k 2))) * o2 (ix2 R C) := by
  pointwise [mixed]
  have e0 : (⟨C.val / 64 * 3, by omega⟩ : Fin 128) = k 0 := Fin.ext (by have h := hk 0; simp only [] at h ⊢; simp at h ⊢; omega)
  have e1 : (⟨C.val / 64 * 3 + 1, by omega⟩ : Fin 128) = k 1 := Fin.ext (by have h := hk 1; simp only [] at h ⊢; simp at h ⊢; omega)
  have e2 : (⟨C.val / 64 * 3 + 2, by omega⟩ : Fin 128) = k 2 := Fin.ext (by have h := hk 2; simp only [] at h ⊢; simp at h ⊢; omega)
  rw [e0, e1, e2]
  rfl

/-- The reference's row at a column. -/
theorem ref_at (x : FVec Ideal S16384x1024 .f32) (gl : FVec Ideal S16384x128 .f32) (o0 o1 o2 : FVec Ideal S16384x1024 .f32)
    (w : FVec Ideal S1024x1024 .f32) (R : Fin 16384) (C : Fin 1024) (k : Fin 1024 → Fin 3 → Fin 128)
    (hk : ∀ D j, (k D j).val = 3 * (D.val / 64) + j.val) :
    ref x gl o0 o1 o2 w (ix2 R C) = x (ix2 R C) + ∑ D, ((Ideal.logistic (gl (ix2 R (k D 0))) * o0 (ix2 R D)
      + Ideal.logistic (gl (ix2 R (k D 1))) * o1 (ix2 R D)) + Ideal.logistic (gl (ix2 R (k D 2))) * o2 (ix2 R D)) * w (ix2 D C) := by
  have e : ∀ M : FVec Ideal S16384x1024 .f32,
      addf x (Host.dotGeneral dot_S16384x1024_S1024x1024_S16384x1024_1_0_0_1_n_n none M w) (ix2 R C)
        = (x (ix2 R C) : EReal) + ∑ D, M (ix2 R D) * w (ix2 D C) := fun M => by
    pointwise []
  rw [ref, e]
  exact congrArg ((x (ix2 R C) : EReal) + ·) (Finset.sum_congr rfl fun D _ =>
    congrArg (· * w (ix2 D C)) (mixed_at gl o0 o1 o2 R D (k D) (hk D)))

end Reference

/-! ## The matrices that spread the gates -/

open Cert.Kernel6Ideal Cert.Kernel6Ideal.Gen

/-- The column numbers. -/
def cols : IVec S1x1x1024 32 := broadcastInDim S1x1x1024 ![2] bcast_S1024_S1x1x1024_2 (iotaInDim S1024 32 0)

/-- A column's head: its number divided by 64, rounded down. -/
def head : IVec S1x1x1024 32 :=
  select (andi (cmpi .ne (signi cols) (broadcastInDim S1x1x1024 ![] bcast_S_S1x1x1024 (signi (id (constantI S_ 32 64#32)))))
      (cmpi .ne (Host.remsi cols (broadcastInDim S1x1x1024 ![] bcast_S_S1x1x1024 (id (constantI S_ 32 64#32))))
        (broadcastInDim S1x1x1024 ![] bcast_S_S1x1x1024 (constantI S_ 32 0#32))))
    (subi (Host.divsi cols (broadcastInDim S1x1x1024 ![] bcast_S_S1x1x1024 (id (constantI S_ 32 64#32))))
      (broadcastInDim S1x1x1024 ![] bcast_S_S1x1x1024 (constantI S_ 32 1#32)))
    (Host.divsi cols (broadcastInDim S1x1x1024 ![] bcast_S_S1x1x1024 (id (constantI S_ 32 64#32))))

/-- The three matrices: a one where the gate belongs to the column's head and the branch. -/
def spread : FVec Ideal S3x128x1024 .bf16 :=
  uitofp .bf16 (cmpi .eq
    (broadcastInDim S3x128x1024 ![0, 1, 2] bcast_S1x128x1_S3x128x1024_0_1_2
      (broadcastInDim S1x128x1 ![1] bcast_S128_S1x128x1_1 (iotaInDim S128 32 0)))
    (broadcastInDim S3x128x1024 ![0, 1, 2] bcast_S3x1x1024_S3x128x1024_0_1_2 (addi
      (broadcastInDim S3x1x1024 ![0, 1, 2] bcast_S1x1x1024_S3x1x1024_0_1_2
        (muli head (broadcastInDim S1x1x1024 ![] bcast_S_S1x1x1024 (constantI S_ 32 3#32))))
      (broadcastInDim S3x1x1024 ![0, 1, 2] bcast_S3x1x1_S3x1x1024_0_1_2
        (broadcastInDim S3x1x1 ![0] bcast_S3_S3x1x1_0 (iotaInDim S3 32 0))))))

theorem head_at (i : S1x1x1024.Idx) : head i = BitVec.ofNat 32 ((i 2).val / 64) := by
  pointwise [head, cols]
  exact (by decide +kernel : ∀ n : Fin 1024, Scalar.select
    (IntOp.andi (IntOp.cmpi CmpIPredicate.ne
        (if BitVec.ofNat 32 n.val = 0 then 0 else if (BitVec.ofNat 32 n.val).msb = true then -1 else 1)
        (if (64#32 : BitVec 32) = 0 then 0 else if (64#32 : BitVec 32).msb = true then -1 else (1 : BitVec 32)))
      (IntOp.cmpi CmpIPredicate.ne (IntOp.remsi ArithUnit.host (BitVec.ofNat 32 n.val) 64#32) 0#32))
    (IntOp.subi (IntOp.divsi ArithUnit.host (BitVec.ofNat 32 n.val) 64#32) 1#32)
    (IntOp.divsi ArithUnit.host (BitVec.ofNat 32 n.val) 64#32) = BitVec.ofNat 32 (n.val / 64)) (i 2)

theorem spread_at (j : Fin 3) (l : Fin 128) (C : Fin 1024) :
    spread (ix3 j l C) = if l.val = 3 * (C.val / 64) + j.val then (1 : EReal) else 0 := by
  pointwise [spread]
  rw [head_at]
  have hv : IntOp.addi (IntOp.muli (BitVec.ofNat 32 (C.val / 64)) 3#32) (BitVec.ofNat 32 j.val)
      = BitVec.ofNat 32 (3 * (C.val / 64) + j.val) := by
    show BitVec.ofNat 32 (C.val / 64) * 3#32 + BitVec.ofNat 32 j.val = _
    rw [mul_comm, BitVec.ofNat_add, BitVec.ofNat_mul]
  have hC := C.isLt
  show FloatOps.uitofp FTy.bf16 (IntOp.cmpi CmpIPredicate.eq (BitVec.ofNat 32 l.val)
    (IntOp.addi (IntOp.muli (BitVec.ofNat 32 (C.val / 64)) 3#32) (BitVec.ofNat 32 j.val))) = _
  rw [hv]
  simp (disch := omega) only [hlo_ix]
  show ((((BitVec.ofBool (decide _)).toNat : ℝ)) : EReal) = _
  split
  · next h => simp [h]
  · next h => simp [h]

variable (m : (ℓ : Loc nD τ sig) → Buf (Elt Ideal) ℓ)

theorem V_spread (c : Dev nD) : V m c main_v15 = spread := by
  unfold V spread head cols
  simp only [List.flatten, List.append, hostOps0, hostOps0_1, hostOps0_2]
  after_results_simp <;> rfl

theorem V_weights (c : Dev nD) : V m c main_v16 = m ((c : Thread nD τ).loc main_arg5) := by
  unfold V
  simp only [List.flatten, List.append, hostOps0, hostOps0_1, hostOps0_2]
  after_results_simp <;> rfl

/-! ## The block a point writes -/

/-- The logistic function is finite: taken from itself it leaves zero. -/
theorem logistic_sub (x : EReal) : Ideal.logistic x - Ideal.logistic x = 0 := by
  induction x using EReal.rec with
  | bot => rw [Ideal.logistic_bot]; simp
  | top => rw [Ideal.logistic_top, ← EReal.coe_one, ← EReal.coe_sub]; simp
  | coe r => rw [Ideal.logistic_coe, ← EReal.coe_sub]; simp

/-- A sum that a one picks an entry of. -/
theorem pick (u E : Fin 128 → EReal) (k : ℕ) (K : Fin 128) (hK : K.val = k) (hE : ∀ l, E l = if l.val = k then 1 else 0) :
    ∑ l, u l * E l = u K := by
  rw [Finset.sum_eq_single K]
  · rw [hE, if_pos hK, mul_one]
  · intro l _ hl
    rw [hE, if_neg fun h => hl (Fin.ext (h.trans hK.symm)), mul_zero]
  · exact fun h => absurd (Finset.mem_univ _) h

theorem none_left (u E : Fin 128 → EReal) : ∑ l, (Ideal.logistic (u l) - Ideal.logistic (u l)) * E l = 0 :=
  Finset.sum_eq_zero fun l _ => by rw [logistic_sub, zero_mul]

/-- The body's rows at a column: the residual plus the contraction of the mix with the weights. -/
theorem pay_at (gl : FVec Ideal S256x128 .f32) (E : Fin 3 → FVec Ideal S1x128x1024 .bf16) (a0 a1 a2 res : FVec Ideal S256x1024 .f32)
    (w : FVec Ideal S1024x1024 .bf16)
    (hE : ∀ j l C, E j (ix3 0 l C) = if l.val = 3 * (C.val / 64) + j.val then (1 : EReal) else 0) (r : Fin 256) (C : Fin 1024)
    (k : Fin 1024 → Fin 3 → Fin 128) (hk : ∀ D j, (k D j).val = 3 * (D.val / 64) + j.val) :
    k0_pay1 (k0_pay4 gl) (k0_pay5 gl (E 0) (E 0) a0 (E 1) (E 1) a1) (k0_pay6 gl (E 2)) (E 2) a2 res w (ix2 r C)
      = res (ix2 r C) + ∑ D, ((Ideal.logistic (gl (ix2 r (k D 0))) * a0 (ix2 r D) + Ideal.logistic (gl (ix2 r (k D 1))) * a1 (ix2 r D))
        + Ideal.logistic (gl (ix2 r (k D 2))) * a2 (ix2 r D)) * w (ix2 D C) := by
  pointwise [k0_pay1, k0_pay4, k0_pay5, k0_pay6, k0_pay2, k0_pay3]
  show (_ : EReal) = _
  refine congrArg (res (ix2 r C) + ·) (Finset.sum_congr rfl fun D _ => congrArg (· * w (ix2 D C)) ?_)
  have g : ∀ j, ∑ l, Ideal.logistic (gl (ix2 r l)) * E j (ix3 0 l D) = Ideal.logistic (gl (ix2 r (k D j))) := fun j =>
    pick (fun l => Ideal.logistic (gl (ix2 r l))) (fun l => E j (ix3 0 l D)) _ (k D j) (hk D j) fun l => hE j l D
  have z : ∀ j, ∑ l, (Ideal.logistic (gl (ix2 r l)) - Ideal.logistic (gl (ix2 r l))) * E j (ix3 0 l D) = 0 := fun j =>
    none_left (fun l => gl (ix2 r l)) fun l => E j (ix3 0 l D)
  have s : ∀ j, (∑ l, Ideal.logistic (gl (ix2 r l)) * E j (ix3 0 l D)
      + ∑ l, (Ideal.logistic (gl (ix2 r l)) - Ideal.logistic (gl (ix2 r l))) * E j (ix3 0 l D) : EReal)
        = Ideal.logistic (gl (ix2 r (k D j))) := fun j => by rw [g, z, add_zero]
  exact congrArg₂ (· + ·) (congrArg₂ (· + ·) (congrArg (· * a0 (ix2 r D)) (s 0)) (congrArg (· * a1 (ix2 r D)) (s 1)))
    (congrArg (· * a2 (ix2 r D)) (s 2))

/-- Point `t` works on rows `256 t` to `256 t + 255`. -/
theorem index_at : ∀ t : Fin cfg0.N, win0_0.index t = ![t.val, 0] ∧ win0_1.index t = ![t.val, 0] ∧ win0_2.index t = ![0, 0, 0]
    ∧ win0_3.index t = ![t.val, 0] ∧ win0_4.index t = ![t.val, 0] ∧ win0_5.index t = ![t.val, 0] ∧ win0_6.index t = ![0, 0]
    ∧ win0_7.index t = ![t.val, 0] :=
  (by decide +kernel : ∀ t : Fin grid0.N, _)

/-- The result, of the arguments. -/
abbrev res (c : Dev nD) : FVec Ideal Reference6Ideal.S16384x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

section Blocks

variable (c : Dev nD) (t : Fin cfg0.N)

/-- Matrix `j`, as the body loads it. -/
theorem loaded_at (j : Fin 3) (o : ℕ) (ho : o = j.val) (ho' : ∀ a, (![o, 0, 0] : Fin 3 → ℕ) a + S1x128x1024.size a ≤ S3x128x1024.size a)
    (l : Fin 128) (C : Fin 1024) :
    View.ld (iblk m c 2 t) (Rect.unit (s := S3x128x1024) ![o, 0, 0] S1x128x1024.size ho') (ix3 0 l C)
      = if l.val = 3 * (C.val / 64) + j.val then (1 : EReal) else 0 := by
  rw [← spread_at, ← V_spread m c]
  refine (View.ld_unit_apply_of _ _ _ _ _ (ix3 j l C) fun a => ?_).trans
    (congrArg (V m c main_v15) (funext fun d => Fin.ext ?_))
  · match a with
    | ⟨0, _⟩ => exact ho.symm
    | ⟨1, _⟩ => exact (Nat.zero_add _).symm
    | ⟨2, _⟩ => exact (Nat.zero_add _).symm
  · match d with
    | ⟨0, _⟩ => blk_simp [index_at t]
    | ⟨1, _⟩ => blk_simp [index_at t]
    | ⟨2, _⟩ => blk_simp [index_at t]

theorem weights_at (D C : Fin 1024) : iblk m c 6 t (ix2 D C) = m ((c : Thread nD τ).loc main_arg5) (ix2 D C) := by
  rw [← V_weights m c]
  refine congrArg (V m c main_v16) (funext fun d => Fin.ext ?_)
  match d with
  | ⟨0, _⟩ => blk_simp [index_at t]
  | ⟨1, _⟩ => blk_simp [index_at t]

variable (r : Fin 256) (R : Fin 16384) (hR : R.val = t.val * 256 + r.val)
include hR

theorem residual_at (D : Fin 1024) : iblk m c 0 t (ix2 r D) = m ((c : Thread nD τ).loc main_arg0) (ix2 R D) := by
  blk_point [iblk, V, index_at t]
theorem logits_at (l : Fin 128) : iblk m c 1 t (ix2 r l) = m ((c : Thread nD τ).loc main_arg1) (ix2 R l) := by
  blk_point [iblk, V, index_at t]
theorem first_at (D : Fin 1024) : iblk m c 3 t (ix2 r D) = m ((c : Thread nD τ).loc main_arg2) (ix2 R D) := by
  blk_point [iblk, V, index_at t]
theorem second_at (D : Fin 1024) : iblk m c 4 t (ix2 r D) = m ((c : Thread nD τ).loc main_arg3) (ix2 R D) := by
  blk_point [iblk, V, index_at t]
theorem third_at (D : Fin 1024) : iblk m c 5 t (ix2 r D) = m ((c : Thread nD τ).loc main_arg4) (ix2 R D) := by
  blk_point [iblk, V, index_at t]

end Blocks

/-- The loaded matrices. -/
def loaded (c : Dev nD) (t : Fin cfg0.N) (j : Fin 3) : FVec Ideal S1x128x1024 .bf16 :=
  match j with
  | 0 => View.ld (iblk m c 2 t) r0_1
  | 1 => View.ld (iblk m c 2 t) r0_3
  | 2 => View.ld (iblk m c 2 t) r0_4

theorem loaded_eq (c : Dev nD) (t : Fin cfg0.N) (j : Fin 3) (l : Fin 128) (C : Fin 1024) :
    loaded m c t j (ix3 0 l C) = if l.val = 3 * (C.val / 64) + j.val then (1 : EReal) else 0 :=
  match j with
  | 0 => loaded_at m c t 0 0 rfl _ l C
  | 1 => loaded_at m c t 1 1 rfl _ l C
  | 2 => loaded_at m c t 2 2 rfl _ l C

/-- What point `t` computes at row `r` and column `C` is the reference's term at the row of the array. -/
theorem block_eq (c : Dev nD) (t : Fin cfg0.N) (r : Fin 256) (C : Fin 1024) (R : Fin 16384) (hR : R.val = t.val * 256 + r.val) :
    k0_pay1 (k0_pay4 (iblk m c 1 t)) (k0_pay5 (iblk m c 1 t) (loaded m c t 0) (loaded m c t 0) (iblk m c 3 t) (loaded m c t 1)
      (loaded m c t 1) (iblk m c 4 t)) (k0_pay6 (iblk m c 1 t) (loaded m c t 2)) (loaded m c t 2) (iblk m c 5 t) (iblk m c 0 t)
      (iblk m c 6 t) (ix2 r C) = res m c (ix2 R C) := by
  let k : Fin 1024 → Fin 3 → Fin 128 := fun D j => ⟨3 * (D.val / 64) + j.val, by omega⟩
  rw [pay_at _ (loaded m c t) _ _ _ _ _ (loaded_eq m c t) r C k fun D j => rfl]
  rw [show res m c (ix2 R C) = _ from ref_at _ _ _ _ _ _ R C k fun D j => rfl]
  have part : ∀ D, (iblk m c 3 t (ix2 r D) = m ((c : Thread nD τ).loc main_arg2) (ix2 R D))
      ∧ iblk m c 4 t (ix2 r D) = m ((c : Thread nD τ).loc main_arg3) (ix2 R D)
      ∧ iblk m c 5 t (ix2 r D) = m ((c : Thread nD τ).loc main_arg4) (ix2 R D) := fun D =>
    ⟨first_at m c t r R hR D, second_at m c t r R hR D, third_at m c t r R hR D⟩
  have gl := logits_at m c t r R hR
  rw [residual_at m c t r R hR]
  simp only [gl, part, weights_at]

/-- The result array after the run. -/
theorem result_eq (c : Dev nD) : (dats m 0 c).arrAt 7 cfg0.N = res m c := by
  refine (dats m 0 c).arrAt_eq_of_covers 7 _ (by decide +kernel) fun t _ y => ?_
  have e0 : ((((cfg0.win 7).blk t).view.emb y) 0).val = t.val * 256 + (y 0).val := by blk_simp [index_at t]
  have e1 : ((((cfg0.win 7).blk t).view.emb y) 1).val = (y 1).val := by blk_simp [index_at t]
  have part := fun R hR => block_eq m c t (y 0) (y 1) R hR
  blk_simp
  generalize res m c = T at part ⊢
  generalize (((View.whole main_v17).slice (win0_7.rect t)).emb y) = j at e0 e1 ⊢
  rw [after0_7]
  frame_out
  have hj : j = ix2 (j 0) (y 1) := by
    funext a
    match a with
    | ⟨0, _⟩ => rfl
    | ⟨1, _⟩ => exact Fin.ext e1
  have hy : y = ix2 (y 0) (y 1) := by
    funext a
    match a with
    | ⟨0, _⟩ => rfl
    | ⟨1, _⟩ => rfl
  rw [hj]
  refine Eq.trans ?_ (part (j 0) e0)
  exact congrArg (k0_pay1 _ _ _ _ _ _ _) hy

/-- Kernel and reference end with equal results, whatever the arguments. -/
theorem algebraic : Cert.algebraic_Kernel6Ideal_Reference6Ideal := fun m g m' g' _ hagree =>
  ⟨fun c => res m c,
    (θ_run defs _ _).mono (fun _ h c => ⟨(h c).1.trans (result_eq m c), (h c).2⟩) (Cert.Kernel6Ideal.Value.run_blocks m g),
    (θ_run Cert.Reference6Ideal.defs _ _).mono (fun _ h c => by
      obtain ⟨a0, a1, a2, a3, a4, a5⟩ := hagree c
      obtain ⟨r0, kept⟩ := h c
      refine ⟨r0.trans ?_, kept⟩
      rw [a0, a1, a2, a3, a4, a5])
      (Cert.Reference6Ideal.Value.run m' g')⟩

end Cert.Proof.NsaOut

end
-- ==== Proof.FinalNorm.lean ====
/-
  The last normalisation (program `Kernel7Ideal`): its result array is the reference's term of the rows and the weights.
  Each of the 64 points divides 256 rows by their root mean square and scales them by the weights.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.Proof.FinalNorm

open Idealize.ShloMosaic Idealize.ShloMosaic.TcCoe Idealize.SL.Sem
open Idealize.ShloMosaic.Pipeline (Dat)

section Reference
open Cert.Reference7Ideal Cert.Reference7Ideal.Gen

/-- The rows, each divided by its root mean square and scaled by the weights. -/
abbrev normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf
    (Host.divf (broadcastInDim S16384x1 ![0] bcast_S16384_S16384x1_0
      (Host.reduceAdd (mulf x x) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

end Reference

open Cert.Kernel7Ideal Cert.Kernel7Ideal.Gen

variable (m : (ℓ : Loc nD τ sig) → Buf (Elt Ideal) ℓ)

/-- Point `t` works on rows `256 t` to `256 t + 255`. -/
theorem index_at : ∀ t : Fin cfg0.N, win0_0.index t = ![t.val, 0] ∧ win0_1.index t = ![0, 0] ∧ win0_2.index t = ![t.val, 0] :=
  (by decide +kernel : ∀ t : Fin grid0.N, _)

/-- The result's array. -/
theorem array_eq (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, normed]
  blk_point [iblk, V, index_at t]

/-- The normalisation's idealization computes the reference's function of the arguments. -/
theorem algebraic : Cert.algebraic_Kernel7Ideal_Reference7Ideal := fun m g m' g' _ hagree =>
  ⟨fun c => normed (m ((c : Thread nD τ).loc main_arg0)) (m ((c : Thread nD τ).loc main_arg1)),
    (θ_run defs _ _).mono (fun _ h c => ⟨(h c).1.trans (array_eq m c), (h c).2⟩) (Cert.Kernel7Ideal.Value.run_blocks m g),
    (θ_run Cert.Reference7Ideal.defs _ _).mono (fun _ h c => by
      obtain ⟨a0, a1⟩ := hagree c
      obtain ⟨r0, kept⟩ := h c
      refine ⟨r0.trans ?_, kept⟩
      rw [a0, a1])
      (Cert.Reference7Ideal.Value.run m' g')⟩

end Cert.Proof.FinalNorm

end
-- ==== Proof.Band.Scalar.lean ====
/-
  The running softmax, at one query: a maximum `M` of the scores seen so far and sums of weights measured from it. When
  the maximum grows from `M` to `M'`, a sum is multiplied by `exp (M - M')`, and is then the same sum measured from `M'`.
  The scores are extended reals; `⊥` is a key that is left out.
-/
module

public import Idealize.ShloMosaic.Lib.Pipeline.ValueKit

@[expose] public section

noncomputable section

namespace Cert.Proof.Band

open Idealize.ShloMosaic

theorem exp_bot : Ideal.exp ⊥ = 0 := rfl
theorem exp_coe (x : ℝ) : Ideal.exp (x : EReal) = (Real.exp x : ℝ) := rfl

theorem exp_nonneg (x : EReal) : 0 ≤ Ideal.exp x := by
  induction x with
  | bot => exact le_rfl
  | top => exact le_top
  | coe x => exact EReal.coe_nonneg.mpr (Real.exp_pos x).le

/-- The factor by which a sum is rescaled is finite. -/
theorem factor_ne_top {M M' : EReal} (h : M ≤ M') : Ideal.exp (M - M') ≠ ⊤ := by
  induction M' with
  | top => rw [EReal.sub_top, exp_bot]; exact EReal.zero_ne_top
  | bot => rw [le_bot_iff.mp h, EReal.bot_sub, exp_bot]; exact EReal.zero_ne_top
  | coe m' =>
    induction M with
    | top => exact absurd h (by simp)
    | bot => rw [EReal.bot_sub, exp_bot]; exact EReal.zero_ne_top
    | coe m => rw [← EReal.coe_sub, exp_coe]; exact EReal.coe_ne_top _

/-- A weight measured from `M`, rescaled, is the weight measured from `M'`. -/
theorem exp_mul_exp {s M M' : EReal} (h : s ≤ M) (h' : M ≤ M') :
    Ideal.exp (M - M') * Ideal.exp (s - M) = Ideal.exp (s - M') := by
  induction M' with
  | top => rw [EReal.sub_top, EReal.sub_top, exp_bot, zero_mul]
  | bot =>
    rw [le_bot_iff.mp h'] at h ⊢
    rw [le_bot_iff.mp h, EReal.bot_sub, exp_bot, zero_mul]
  | coe m' =>
    induction M with
    | top => exact absurd h' (by simp)
    | bot => rw [le_bot_iff.mp h, EReal.bot_sub, EReal.bot_sub, exp_bot, mul_zero]
    | coe m =>
      induction s with
      | top => exact absurd h (by simp)
      | bot => rw [EReal.bot_sub, EReal.bot_sub, exp_bot, mul_zero]
      | coe x =>
        rw [← EReal.coe_sub, ← EReal.coe_sub, ← EReal.coe_sub, exp_coe, exp_coe, exp_coe, ← EReal.coe_mul, ← Real.exp_add]
        congr 2
        ring

/-- A finite factor that is not negative goes into a sum. -/
theorem mul_sum_of_nonneg {ι : Type*} {a : EReal} (h : 0 ≤ a) (h' : a ≠ ⊤) (S : Finset ι) (f : ι → EReal) :
    a * ∑ s ∈ S, f s = ∑ s ∈ S, a * f s := by
  classical
  induction S using Finset.induction_on with
  | empty => simp
  | insert s S hs ih => rw [Finset.sum_insert hs, Finset.sum_insert hs, EReal.left_distrib_of_nonneg_of_ne_top h h', ih]

section
variable (σ w : ℕ → EReal) (M0 L0 : EReal)

/-- The sum over the keys in `S` of `w`, weighted by the scores measured from `M`; `L0` is the weight of what is there
    before any key, at the score `M0`. -/
def X (S : Finset ℕ) (M : EReal) : EReal := Ideal.exp (M0 - M) * L0 + ∑ s ∈ S, w s * Ideal.exp (σ s - M)

/-- The greatest score. -/
def top (S : Finset ℕ) : EReal := M0 ⊔ S.sup σ

theorem X_rescale {S : Finset ℕ} {M M' : EReal} (hM : top σ M0 S ≤ M) (h : M ≤ M') :
    Ideal.exp (M - M') * X σ w M0 L0 S M = X σ w M0 L0 S M' := by
  unfold X
  rw [EReal.left_distrib_of_nonneg_of_ne_top (exp_nonneg _) (factor_ne_top h), ← mul_assoc,
    exp_mul_exp (le_trans le_sup_left hM) h, mul_sum_of_nonneg (exp_nonneg _) (factor_ne_top h)]
  refine congrArg (_ + ·) (Finset.sum_congr rfl fun s hs => ?_)
  rw [mul_left_comm, exp_mul_exp ((Finset.le_sup (f := σ) hs).trans (le_sup_right.trans hM)) h]

theorem sum_tile (f : ℕ → EReal) (a b : ℕ) (h : a ≤ b) :
    ∑ s ∈ Finset.Ico a b, f s + ∑ k : Fin 128, f (b + k.val) = ∑ s ∈ Finset.Ico a (b + 128), f s := by
  rw [← Finset.sum_Ico_consecutive f h (Nat.le_add_right b 128), Finset.sum_Ico_eq_sum_range f b,
    Nat.add_sub_cancel_left, Finset.sum_range]

theorem X_tile (a b : ℕ) (h : a ≤ b) (M : EReal) :
    X σ w M0 L0 (Finset.Ico a b) M + ∑ k : Fin 128, w (b + k.val) * Ideal.exp (σ (b + k.val) - M)
      = X σ w M0 L0 (Finset.Ico a (b + 128)) M := by
  unfold X
  rw [add_assoc, sum_tile (fun s => w s * Ideal.exp (σ s - M)) a b h]

theorem top_tile (a b : ℕ) (h : a ≤ b) :
    max (top σ M0 (Finset.Ico a b)) (Finset.univ.fold max ⊥ fun k : Fin 128 => σ (b + k.val))
      = top σ M0 (Finset.Ico a (b + 128)) := by
  unfold top
  have e : (Finset.univ.fold max ⊥ fun k : Fin 128 => σ (b + k.val)) = (Finset.Ico b (b + 128)).sup σ := by
    refine le_antisymm ((Finset.fold_max_le _).mpr ⟨bot_le, fun k _ => Finset.le_sup (f := σ) (by simp)⟩)
      (Finset.sup_le fun s hs => ?_)
    have hs' := Finset.mem_Ico.mp hs
    refine (Finset.le_fold_max _).mpr (.inr ⟨⟨s - b, by omega⟩, Finset.mem_univ _, ?_⟩)
    dsimp only
    rw [Nat.add_sub_cancel' hs'.1]
  rw [e, ← Finset.Ico_union_Ico_eq_Ico h (Nat.le_add_right b 128), Finset.sup_union, ← sup_assoc]

/-- What is known of a maximum and a sum before a tile: the keys from `a` to `b` are in them. -/
def Holds (a b : ℕ) (M x : EReal) : Prop :=
  M = top σ M0 (Finset.Ico a b) ∧ ∀ M', M ≤ M' → Ideal.exp (M - M') * x = X σ w M0 L0 (Finset.Ico a b) M'

theorem holds_zero (a : ℕ) : Holds σ w M0 L0 a a M0 L0 := by
  refine ⟨by simp [top], fun M' _ => by simp [X]⟩

/-- One tile. -/
theorem holds_step {a b : ℕ} (h : a ≤ b) {M x : EReal} (H : Holds σ w M0 L0 a b M x) {M' x' : EReal}
    (hM : M' = max M (Finset.univ.fold max ⊥ fun k : Fin 128 => σ (b + k.val)))
    (hx : x' = Ideal.exp (M - M') * x + ∑ k : Fin 128, w (b + k.val) * Ideal.exp (σ (b + k.val) - M')) :
    x' = X σ w M0 L0 (Finset.Ico a (b + 128)) M' ∧ Holds σ w M0 L0 a (b + 128) M' x' := by
  have hle : M ≤ M' := hM ▸ le_max_left _ _
  have e : M' = top σ M0 (Finset.Ico a (b + 128)) := by rw [hM, H.1, top_tile σ M0 a b h]
  have ex : x' = X σ w M0 L0 (Finset.Ico a (b + 128)) M' := by rw [hx, H.2 M' hle, X_tile σ w M0 L0 a b h]
  exact ⟨ex, e, fun M'' h'' => by rw [ex, X_rescale σ w M0 L0 e.ge h'']⟩

end

/-- A finite number added to every score changes nothing. -/
theorem sub_shift (x y : EReal) (r : ℝ) : (x + r) - (y + r) = x - y := by
  rw [sub_eq_add_neg, sub_eq_add_neg, EReal.neg_add (.inr (EReal.coe_ne_top r)) (.inr (EReal.coe_ne_bot r)), sub_eq_add_neg, add_add_add_comm, ← sub_eq_add_neg (r : EReal),
    EReal.sub_self (EReal.coe_ne_top r) (EReal.coe_ne_bot r), add_zero]

theorem sup_shift (σ : ℕ → EReal) (r : ℝ) (S : Finset ℕ) : (S.sup fun s => σ s + r) = S.sup σ + r := by
  symm
  refine Finset.comp_sup_eq_sup_comp (fun x : EReal => x + r) (fun x y => ?_) (EReal.bot_add _)
  exact (max_add_add_right x y (r : EReal)).symm

theorem fold_sub (f : Fin 128 → EReal) (r : ℝ) :
    (Finset.univ.fold max ⊥ f) - (r : EReal) = Finset.univ.fold max ⊥ fun k => f k - r := by
  have := Finset.fold_hom (op := max) (op' := max) (m := fun x : EReal => x - r) (b := ⊥) (f := f) (s := Finset.univ)
    (fun x y => ?_)
  · rw [EReal.bot_sub] at this
    exact this.symm
  · show max x y - (r : EReal) = max (x - r) (y - r)
    simp only [sub_eq_add_neg]
    exact (max_add_add_right x y (-(r : EReal))).symm

theorem sub_add_shift (x y : EReal) (r : ℝ) : x - (y + r) = (x - r) - y := by
  rw [sub_eq_add_neg, sub_eq_add_neg, sub_eq_add_neg, EReal.neg_add (.inr (EReal.coe_ne_top r)) (.inr (EReal.coe_ne_bot r)), sub_eq_add_neg]
  rw [add_assoc, add_comm (-(r : EReal))]

/-- The sums over the window of a query at place `T`, from the tile four back, divided. -/
def quotient (T : ℕ) (σ : ℕ → EReal) (v : ℕ → EReal) : EReal :=
  Ideal.div (X σ v ⊥ 0 (Finset.Ico ((T / 128 - 4) * 128) (T / 128 * 128 + 128)) (top σ ⊥ (Finset.Ico ((T / 128 - 4) * 128) (T / 128 * 128 + 128))))
    (X σ (fun _ => 1) ⊥ 0 (Finset.Ico ((T / 128 - 4) * 128) (T / 128 * 128 + 128)) (top σ ⊥ (Finset.Ico ((T / 128 - 4) * 128) (T / 128 * 128 + 128))))

theorem sum_window {a b : ℕ} (hb : b ≤ 4096) (f : ℕ → EReal) (hf : ∀ s, s ∉ Finset.Ico a b → f s = 0) :
    ∑ s : Fin 4096, f s.val = ∑ s ∈ Finset.Ico a b, f s := by
  rw [← Finset.sum_range f]
  refine (Finset.sum_subset (fun s hs => ?_) fun s _ h => hf s h).symm
  rw [Finset.mem_Ico] at hs
  rw [Finset.mem_range]
  omega

theorem sup_window {a b : ℕ} (hb : b ≤ 4096) (σ : ℕ → EReal) (hσ : ∀ s, s ∉ Finset.Ico a b → σ s = ⊥) :
    (Finset.univ.fold max ⊥ fun s : Fin 4096 => σ s.val) = (Finset.Ico a b).sup σ := by
  show Finset.univ.sup (fun s : Fin 4096 => σ s.val) = _
  refine le_antisymm (Finset.sup_le fun s _ => ?_) (Finset.sup_le fun s hs => ?_)
  · by_cases h : s.val ∈ Finset.Ico a b
    · exact Finset.le_sup (f := σ) h
    · rw [hσ _ h]; exact bot_le
  · have h := (Finset.mem_Ico.mp hs).2
    exact Finset.le_sup (f := fun s : Fin 4096 => σ s.val) (Finset.mem_univ ⟨s, by omega⟩)

/-- Over all the keys, with scores that differ by one finite number, the division is the same. -/
theorem quotient_eq {T : ℕ} (hT : T < 4096) (σ ρ v : ℕ → EReal) (r : ℝ) (hρ : ∀ s, ρ s = σ s + r)
    (hσ : ∀ s, s ∉ Finset.Ico ((T / 128 - 4) * 128) (T / 128 * 128 + 128) → σ s = ⊥) {M : EReal}
    (hM : M = Finset.univ.fold max ⊥ fun s : Fin 4096 => ρ s.val) :
    Ideal.div (∑ s : Fin 4096, v s.val * Ideal.exp (ρ s.val - M)) (∑ s : Fin 4096, Ideal.exp (ρ s.val - M)) = quotient T σ v := by
  have hb : T / 128 * 128 + 128 ≤ 4096 := by omega
  have hout : ∀ s, s ∉ Finset.Ico ((T / 128 - 4) * 128) (T / 128 * 128 + 128) → ρ s = ⊥ := fun s h => by
    rw [hρ, hσ s h, EReal.bot_add]
  have e0 : ∀ s, s ∉ Finset.Ico ((T / 128 - 4) * 128) (T / 128 * 128 + 128) → Ideal.exp (ρ s - M) = 0 := fun s h => by
    rw [hout s h, EReal.bot_sub, exp_bot]
  have eM : M = top σ ⊥ (Finset.Ico ((T / 128 - 4) * 128) (T / 128 * 128 + 128)) + r := by
    rw [hM, sup_window hb ρ hout, funext hρ, sup_shift, top, bot_sup_eq]
  rw [sum_window hb (fun s => v s * Ideal.exp (ρ s - M)) (fun s h => by rw [e0 s h, mul_zero]),
    sum_window hb (fun s => Ideal.exp (ρ s - M)) e0]
  unfold quotient X
  simp only [eM, hρ, sub_shift, mul_zero, zero_add, one_mul]

/-- The sums over the keys from `a` to `b` and over a place without a key at the score `M0`, divided: the place's weight is
    only in the divisor. -/
def ratio (a b : ℕ) (M0 : EReal) (σ v : ℕ → EReal) : EReal :=
  Ideal.div (X σ v M0 0 (Finset.Ico a b) (top σ M0 (Finset.Ico a b))) (X σ (fun _ => 1) M0 1 (Finset.Ico a b) (top σ M0 (Finset.Ico a b)))

/-- Over all the keys, with scores that differ by one finite number, that division is the same. -/
theorem ratio_eq {a b : ℕ} (hb : b ≤ 4096) (M0 : EReal) (σ ρ v : ℕ → EReal) (r : ℝ) (hρ : ∀ s, ρ s = σ s + r)
    (hσ : ∀ s, s ∉ Finset.Ico a b → σ s = ⊥) {M sink : EReal} (hs : sink = M0 + r)
    (hM : M = max (Finset.univ.fold max ⊥ fun s : Fin 4096 => ρ s.val) sink) :
    Ideal.div (∑ s : Fin 4096, v s.val * Ideal.exp (ρ s.val - M)) (∑ s : Fin 4096, Ideal.exp (ρ s.val - M) + Ideal.exp (sink - M))
      = ratio a b M0 σ v := by
  have hout : ∀ s, s ∉ Finset.Ico a b → ρ s = ⊥ := fun s h => by rw [hρ, hσ s h, EReal.bot_add]
  have e0 : ∀ s, s ∉ Finset.Ico a b → Ideal.exp (ρ s - M) = 0 := fun s h => by rw [hout s h, EReal.bot_sub, exp_bot]
  have eM : M = top σ M0 (Finset.Ico a b) + r := by
    rw [hM, hs, sup_window hb ρ hout, funext hρ, sup_shift, top, max_comm]
    exact max_add_add_right M0 _ (r : EReal)
  rw [sum_window hb (fun s => v s * Ideal.exp (ρ s - M)) (fun s h => by rw [e0 s h, mul_zero]),
    sum_window hb (fun s => Ideal.exp (ρ s - M)) e0, add_comm]
  unfold ratio X
  simp only [eM, hs, hρ, sub_shift, mul_zero, zero_add, one_mul, mul_one]

end Cert.Proof.Band

end
-- ==== Proof.Band.Tile.lean ====
/-
  One tile of the banded attention, for the 512 lanes of a block at once: the scores of 128 keys, the maximum, the sum of
  weights and the sum of weighted values after the tile, and what each of them is at one lane.
-/
module

public import proofs.«01_k».proof.Proof.Gen.Kernel8Ideal.Skeleton
public import proofs.«01_k».proof.Proof.Band.Scalar
public import Idealize.ShloMosaic.Lib.Pipeline.ReadBack

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem

theorem bits_bot : Ideal.ofBits .f32 0xFF800000#32 = ⊥ := by simp [Ideal.ofBits, Ideal.ieee]

/-- A left-out key's score. -/
theorem masked_eq : (Named.named κ "masked" 0xF149F2CA#32 : Ideal .f32) = ⊥ := rfl

/-- The scores of a tile's keys. -/
def scores (qa : FVec Ideal S128x512 .bf16) (kt : Vec Ideal S1x1x128x128 .bf16) : FVec Ideal S128x512 .f32 :=
  matmul dot_S128x128_S128x512_S128x512_1_0_0_1_n_n none ((shapeCast S128x128 kt shapeCasts_S1x1x128x128_S128x128 : FVec Ideal S128x128 .bf16)) qa
    (constant S128x512 .f32 0x00000000#32)

/-- The same, of the keys that are kept. -/
def kept (keep : IVec S128x512 1) (z : FVec Ideal S128x512 .f32) : FVec Ideal S128x512 .f32 :=
  select keep z (broadcast S128x512 (Named.named κ "masked" 0xF149F2CA#32))

/-- What a tile's distance takes off its scores. -/
def shift (row : FVec Ideal S1x512 .f32) (d : BitVec 32) : FVec Ideal S1x512 .f32 :=
  mulf row (broadcast S1x512 (Scalar.ofBits .f32 d))

section
variable (z : FVec Ideal S128x512 .f32) (sh : FVec Ideal S1x512 .f32) (vt : Vec Ideal S1x1x64x128 .f32)
  (M l : Vec Ideal S1x512 .f32) (acc : Vec Ideal S64x512 .f32)

/-- The maximum after a tile. -/
def maxOf : FVec Ideal S1x512 .f32 :=
  maximumf M (subf (shapeCast S1x512 (multiReduction .maximumf [0] S512 z 0xFF800000#32 reduces_S128x512_S512 (.inl rfl) rfl)
    shapeCasts_S512_S1x512) sh)

/-- The factor that brings the sums to the new maximum. -/
def factor : FVec Ideal S1x512 .f32 := exp (subf M (maxOf z sh M))

/-- The weights of the tile's keys. -/
def weights : FVec Ideal S128x512 .f32 :=
  exp (subf z (broadcastTo S128x512 (addf (maxOf z sh M) sh) broadcasts_S1x512_S128x512))

/-- The sum of weights after the tile. -/
def total : FVec Ideal S1x512 .f32 :=
  shapeCast S1x512 (addf (mulf (factor z sh M) l) (shapeCast S1x512
    (multiReduction .add [0] S512 (weights z sh M) 0x00000000#32 reduces_S128x512_S512 (.inl rfl) rfl) shapeCasts_S512_S1x512))
    shapeCasts_S1x512_S1x512

/-- The sum of weighted values after the tile. -/
def summed : FVec Ideal S64x512 .f32 :=
  shapeCast S64x512 (addf (mulf acc (broadcastTo S64x512 (factor z sh M) broadcasts_S1x512_S64x512))
    (matmul dot_S64x128_S128x512_S64x512_1_0_0_1_n_n none
      (truncf .bf16 (shapeCast S64x128 vt shapeCasts_S1x1x64x128_S64x128) bitsLt_bf16_f32)
      (truncf .bf16 (weights z sh M) bitsLt_bf16_f32) (constant S64x512 .f32 0x00000000#32))) shapeCasts_S64x512_S64x512

theorem maxOf_apply (g : Fin 512) : maxOf z sh M (ix2 0 g)
    = max (M (ix2 0 g)) ((Finset.univ.fold max ⊥ fun a : Fin 128 => z (ix2 a g)) - sh (ix2 0 g)) := by
  pointwise [maxOf]
  rw [bits_bot]

theorem factor_apply (g : Fin 512) : factor z sh M (ix2 0 g) = Ideal.exp (M (ix2 0 g) - maxOf z sh M (ix2 0 g)) := by
  unfold factor
  generalize maxOf z sh M = N
  pointwise []

theorem weights_apply (a : Fin 128) (g : Fin 512) : weights z sh M (ix2 a g)
    = Ideal.exp (z (ix2 a g) - (maxOf z sh M (ix2 0 g) + sh (ix2 0 g))) := by
  unfold weights
  generalize maxOf z sh M = N
  pointwise []

theorem total_apply (g : Fin 512) : total z sh M l (ix2 0 g)
    = Ideal.exp (M (ix2 0 g) - maxOf z sh M (ix2 0 g)) * l (ix2 0 g)
      + ∑ a : Fin 128, Ideal.exp (z (ix2 a g) - (maxOf z sh M (ix2 0 g) + sh (ix2 0 g))) := by
  simp only [← weights_apply]
  rw [← factor_apply]
  unfold total
  generalize weights z sh M = W
  generalize factor z sh M = N
  rw [shapeCast_self]
  pointwise []

theorem summed_apply (d : Fin 64) (g : Fin 512) : summed z sh vt M acc (ix2 d g)
    = Ideal.exp (M (ix2 0 g) - maxOf z sh M (ix2 0 g)) * acc (ix2 d g)
      + ∑ a : Fin 128, vt (ix4 0 0 d a) * Ideal.exp (z (ix2 a g) - (maxOf z sh M (ix2 0 g) + sh (ix2 0 g))) := by
  simp only [← weights_apply]
  rw [← factor_apply]
  unfold summed
  generalize weights z sh M = W
  generalize factor z sh M = N
  rw [shapeCast_self, mul_comm]
  pointwise []

end

/-- A tile of 128 keys of the block of keys. -/
def keyTile (x3 : Vec Ideal S1x1x4096x128 .bf16) (off : Fin 4 → ℕ) (h : ∀ a, off a + S1x1x128x128.size a ≤ S1x1x4096x128.size a) :
    Vec Ideal S1x1x128x128 .bf16 := View.ld x3 (Rect.unit (s := S1x1x4096x128) off S1x1x128x128.size h)

/-- Their values. -/
def valueTile (x4 : Vec Ideal S1x1x64x4096 .f32) (off : Fin 4 → ℕ) (h : ∀ a, off a + S1x1x64x128.size a ≤ S1x1x64x4096.size a) :
    Vec Ideal S1x1x64x128 .f32 := View.ld x4 (Rect.unit (s := S1x1x64x4096) off S1x1x64x128.size h)

/-- Each lane's number, from its head's. -/
def row (sl : Fin 4 → EReal) : FVec Ideal S1x512 .f32 := k0_pay48 (sl 0) (sl 1) (sl 2) (sl 3)

/-- The queries by lane, each lane's slope under them. -/
def lanes (sl : Fin 4 → EReal) (x2 : Vec Ideal S1x256x128 .bf16) : FVec Ideal S128x512 .bf16 :=
  k0_pay56 (k0_pay49 x2) (iota .tc S64x512 32 [0] iota_S64x512_d0_w32) (k0_pay54 (sl 0) (sl 1) (sl 2) (sl 3))
    (k0_pay55 (sl 0) (sl 1) (sl 2) (sl 3))

/-- The mask of the farthest tile: the keys not before the query's place. -/
def farKeep : IVec S128x512 1 := cmpi .sge (iota .tc S128x512 32 [0] iota_S128x512_d0_w32) k0_pay57

/-- The mask of the query's own tile: the keys not after the query's place. -/
def ownKeep : IVec S128x512 1 := cmpi .sle (iota .tc S128x512 32 [0] iota_S128x512_d0_w32) k0_pay57

/-- The maxima, sums of weights and sums of weighted values of a block's lanes. -/
abbrev State := FVec Ideal S1x512 .f32 × FVec Ideal S1x512 .f32 × FVec Ideal S64x512 .f32

/-- One tile. -/
def step (z : FVec Ideal S128x512 .f32) (sh : FVec Ideal S1x512 .f32) (vt : Vec Ideal S1x1x64x128 .f32) (s : State) : State :=
  (shapeCast S1x512 (maxOf z sh s.1) shapeCasts_S1x512_S1x512, total z sh s.1 s.2.1, summed z sh vt s.1 s.2.2)

/-- Before the first tile. -/
def start : State := (k0_pay58, k0_pay59, k0_pay60)

/-- The sums go out one head after another, each transposed and divided by its weights. -/
theorem result_apply (acc : Vec Ideal S64x512 .f32) (l : Vec Ideal S1x512 .f32) (r : Fin 128) (e : Fin 256) :
    k0_pay7 acc l (ix3 0 r e) = Ideal.div (acc (ix2 ⟨e.val % 64, by omega⟩ ⟨e.val / 64 * 128 + r.val, by omega⟩))
      (l (ix2 0 ⟨e.val / 64 * 128 + r.val, by omega⟩)) := by
  have he := e.isLt
  pointwise [k0_pay7]
  split_ifs <;> refine congrArg₂ Ideal.div (congrArg acc ?_) (congrArg l ?_) <;> congr 1 <;> apply Fin.ext <;> dsimp only <;> omega

theorem scores_apply (qa : FVec Ideal S128x512 .bf16) (kt : Vec Ideal S1x1x128x128 .bf16) (a : Fin 128) (g : Fin 512) :
    scores qa kt (ix2 a g) = ∑ d : Fin 128, kt (ix4 0 0 a d) * qa (ix2 d g) := by
  pointwise [scores]

theorem kept_apply (keep : IVec S128x512 1) (z : FVec Ideal S128x512 .f32) (a : Fin 128) (g : Fin 512) :
    kept keep z (ix2 a g) = if keep (ix2 a g) = 1#1 then z (ix2 a g) else ⊥ := by
  pointwise [kept]
  rw [masked_eq]
  rfl

theorem shift_apply (row : FVec Ideal S1x512 .f32) (d : BitVec 32) (g : Fin 512) :
    shift row d (ix2 0 g) = row (ix2 0 g) * Ideal.ofBits .f32 d := by
  pointwise [shift]

end Cert.Proof.Band

end
-- ==== Proof.Band.Lane.lean ====
/-
  The window attention at one lane: the stacked queries and slopes, the masks, and the tiles read from the blocks.
-/
module

public import proofs.«01_k».proof.Proof.Band.Tile
public import Idealize.ShloMosaic.Lib.WordCmp

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem

/-- A lane's head. -/
theorem head_eq : ∀ g : Fin 512, IntOp.shrsi .vector (BitVec.ofNat 32 g.val) 7#32 = BitVec.ofNat 32 (g.val / 128) := by decide +kernel

/-- The choice among four heads. -/
theorem pick_eq (a b c d : Elt Ideal .f32) (r : Fin 4) :
    Scalar.select (IntOp.cmpi .eq (BitVec.ofNat 32 r.val) 0#32) a (Scalar.select (IntOp.cmpi .eq (BitVec.ofNat 32 r.val) 1#32) b
      (Scalar.select (IntOp.cmpi .eq (BitVec.ofNat 32 r.val) 2#32) c d)) = ![a, b, c, d] r := by
  fin_cases r <;> rfl

/-- A lane's slope, from its head's. -/
theorem row_apply (a b c d : Elt Ideal .f32) (g : Fin 512) : k0_pay48 a b c d (ix2 0 g) = ![a, b, c, d] ⟨g.val / 128, by omega⟩ := by
  pointwise [k0_pay48]
  rw [head_eq]
  exact pick_eq a b c d ⟨g.val / 128, by omega⟩

theorem rows_apply (a b c d : Elt Ideal .f32) (k : Fin 64) (g : Fin 512) :
    k0_pay50 a b c d (ix2 k g) = ![a, b, c, d] ⟨g.val / 128, by omega⟩ := by
  pointwise [k0_pay50]
  rw [head_eq]
  exact pick_eq a b c d ⟨g.val / 128, by omega⟩

theorem zero_rows : ∀ k : Fin 64, ¬k.val = 0 → IntOp.cmpi .eq (BitVec.ofNat 32 k.val) 0#32 = 0#1 := by decide +kernel

/-- The lower half of the stacked queries: the slope, and two rows for what rounding the slope would lose. -/
theorem lower_apply (q : FVec Ideal S64x512 .bf16) (a b c d : Elt Ideal .f32) (S : Fin 4 → ℝ) (hS : ∀ r, ![a, b, c, d] r = (S r : EReal))
    (k : Fin 64) (g : Fin 512) :
    k0_pay56 q (iota .tc S64x512 32 [0] iota_S64x512_d0_w32) (k0_pay54 a b c d) (k0_pay55 a b c d) (ix2 (Fin.natAdd 64 k) g)
      = if k.val = 0 then (S ⟨g.val / 128, by omega⟩ : EReal) else 0 := by
  unfold k0_pay55 k0_pay54 k0_pay53 k0_pay52 k0_pay51
  have hr := fun k => (rows_apply a b c d k g).trans (hS _)
  generalize k0_pay50 a b c d = R at hr
  have hz : ((S ⟨g.val / 128, by omega⟩ : ℝ) : EReal) - (S ⟨g.val / 128, by omega⟩ : ℝ) = 0 := by
    rw [← EReal.coe_sub, sub_self, EReal.coe_zero]
  pointwise [k0_pay56]
  rw [dif_neg (by simp)]
  simp only [hr, hz, sub_zero, Fin.natAdd, Nat.add_sub_cancel_left]
  by_cases hk : k.val = 0
  · rw [if_pos hk, hk]
    rfl
  · rw [if_neg hk, zero_rows k hk]
    unfold Scalar.select
    split_ifs <;> first | rfl | exact absurd ‹(0#1 : BitVec 1) = 1› (by decide)

theorem upper_apply (x2 : Vec Ideal S1x256x128 .bf16) (p r : FVec Ideal S64x512 .f32) (v : IVec S64x512 32)
    (k : Fin 64) (g : Fin 512) :
    k0_pay56 (k0_pay49 x2) v p r (ix2 (Fin.castAdd 64 k) g)
      = x2 (ix3 0 ⟨g.val / 128 * 64 + k.val, by omega⟩ ⟨g.val % 128, by omega⟩) := by
  have hg := g.isLt
  pointwise [k0_pay56, k0_pay49]
  rw [dif_pos (by simp)]
  split_ifs <;> refine congrArg x2 ?_ <;> congr 1 <;> apply Fin.ext <;> simp <;> omega

/-- A lane's place in its row block. -/
theorem place_eq : ∀ g : Fin 512, IntOp.andi (BitVec.ofNat 32 g.val) 127#32 = BitVec.ofNat 32 (g.val % 128) := by decide +kernel

/-- The mask of the farthest tile. -/
theorem far_apply (a : Fin 128) (g : Fin 512) :
    farKeep (ix2 a g) = 1#1 ↔ g.val % 128 ≤ a.val := by
  have hg := g.isLt
  have ha := a.isLt
  pointwise [farKeep, k0_pay57]
  rw [place_eq]
  simp (disch := omega) only [hlo_ix]

/-- The mask of the query's own tile. -/
theorem own_apply (a : Fin 128) (g : Fin 512) :
    ownKeep (ix2 a g) = 1#1 ↔ a.val ≤ g.val % 128 := by
  have hg := g.isLt
  have ha := a.isLt
  pointwise [ownKeep, k0_pay57]
  rw [place_eq]
  simp (disch := omega) only [hlo_ix]

theorem keyTile_apply (x3 : Vec Ideal S1x1x4096x128 .bf16) {off : Fin 4 → ℕ} {h} {b : ℕ} (e : off = ![0, 0, b, 0]) (hb : b + 128 ≤ 4096)
    (a d : Fin 128) : keyTile x3 off h (ix4 0 0 a d) = x3 (ix4 0 0 ⟨b + a.val, by omega⟩ d) := by
  refine View.ld_unit_apply_of x3 _ _ _ _ _ fun k => ?_
  refine Eq.trans ?_ (congrArg (· + _) (congrFun e k).symm)
  fin_cases k <;> simp [ix4]

theorem valueTile_apply (x4 : Vec Ideal S1x1x64x4096 .f32) {off : Fin 4 → ℕ} {h} {b : ℕ} (e : off = ![0, 0, 0, b]) (hb : b + 128 ≤ 4096)
    (d : Fin 64) (a : Fin 128) : valueTile x4 off h (ix4 0 0 d a) = x4 (ix4 0 0 d ⟨b + a.val, by omega⟩) := by
  refine View.ld_unit_apply_of x4 _ _ _ _ _ fun k => ?_
  refine Eq.trans ?_ (congrArg (· + _) (congrFun e k).symm)
  fin_cases k <;> simp [ix4]

end Cert.Proof.Band

end
-- ==== Proof.Band.Window.lean ====
/-
  A window attention's tiles at one lane: a tile whose kept scores are those the window keeps brings its keys into the
  lane's maximum and sums.
-/
module

public import proofs.«01_k».proof.Proof.Band.Lane

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem

section
variable (σ : ℕ → EReal) (v : Fin 64 → ℕ → EReal) (M0 L0 : EReal) (g : Fin 512)

/-- Lane `g`'s maximum and sums, with the keys from `a` to `b` in them. -/
def Lane (a b : ℕ) (s : State) : Prop :=
  Holds σ (fun _ => 1) M0 L0 a b (s.1 (ix2 0 g)) (s.2.1 (ix2 0 g))
    ∧ ∀ d, Holds σ (v d) M0 0 a b (s.1 (ix2 0 g)) (s.2.2 (ix2 d g))

/-- The same, with the sums exactly those measured from the greatest score. -/
def Exact (a b : ℕ) (s : State) : Prop :=
  s.2.1 (ix2 0 g) = X σ (fun _ => 1) M0 L0 (Finset.Ico a b) (top σ M0 (Finset.Ico a b))
    ∧ ∀ d, s.2.2 (ix2 d g) = X σ (v d) M0 0 (Finset.Ico a b) (top σ M0 (Finset.Ico a b))

/-- One tile at lane `g`. -/
theorem step_lane {a b : ℕ} (h : a ≤ b) {z : FVec Ideal S128x512 .f32} {sh : FVec Ideal S1x512 .f32} {vt : Vec Ideal S1x1x64x128 .f32}
    {s : State} (r : ℝ) (hr : sh (ix2 0 g) = (r : EReal)) (hz : ∀ k : Fin 128, z (ix2 k g) - (r : EReal) = σ (b + k.val))
    (hv : ∀ d (k : Fin 128), vt (ix4 0 0 d k) = v d (b + k.val)) (H : Lane σ v M0 L0 g a b s) :
    Exact σ v M0 L0 g a (b + 128) (step z sh vt s) ∧ Lane σ v M0 L0 g a (b + 128) (step z sh vt s) := by
  have e1 : (step z sh vt s).1 = maxOf z sh s.1 := by
    simp only [step, shapeCast_self]
  have eM : maxOf z sh s.1 (ix2 0 g) = max (s.1 (ix2 0 g)) (Finset.univ.fold max ⊥ fun k : Fin 128 => σ (b + k.val)) := by
    rw [maxOf_apply, hr, fold_sub]
    simp only [hz]
  have el : (step z sh vt s).2.1 (ix2 0 g) = Ideal.exp (s.1 (ix2 0 g) - maxOf z sh s.1 (ix2 0 g)) * s.2.1 (ix2 0 g)
      + ∑ k : Fin 128, 1 * Ideal.exp (σ (b + k.val) - maxOf z sh s.1 (ix2 0 g)) := by
    refine (total_apply z sh s.1 s.2.1 g).trans ?_
    simp only [hr, sub_add_shift, hz, one_mul]
  have ea : ∀ d, (step z sh vt s).2.2 (ix2 d g) = Ideal.exp (s.1 (ix2 0 g) - maxOf z sh s.1 (ix2 0 g)) * s.2.2 (ix2 d g)
      + ∑ k : Fin 128, v d (b + k.val) * Ideal.exp (σ (b + k.val) - maxOf z sh s.1 (ix2 0 g)) := fun d => by
    refine (summed_apply z sh vt s.1 s.2.2 d g).trans ?_
    simp only [hr, sub_add_shift, hz, hv]
  have Hl := holds_step σ (fun _ => 1) M0 L0 h H.1 eM el
  have Ha := fun d => holds_step σ (v d) M0 0 h (H.2 d) eM (ea d)
  unfold Exact Lane
  rw [e1]
  refine ⟨⟨?_, fun d => ?_⟩, Hl.2, fun d => (Ha d).2⟩
  · rw [← Hl.2.1]; exact Hl.1
  · rw [← Hl.2.1]; exact (Ha d).1

end

/-- The blocks a point reads, as numbers: the slopes are finite, and a row of keys carries its place in its tile. -/
structure Reads (sl : Fin 4 → EReal) (x3 : Vec Ideal S1x1x4096x128 .bf16) (S : Fin 4 → ℝ) : Prop where
  slope : ∀ r, sl r = (S r : EReal)
  place : ∀ (s : Fin 4096) (k : Fin 64), k.val = 0 → x3 (ix4 0 0 s (Fin.natAdd 64 k)) = (((s.val % 128 : ℕ) : ℝ) : EReal)

section
variable (B w : ℕ) (sl : Fin 4 → EReal) (x2 : Vec Ideal S1x256x128 .bf16) (x3 : Vec Ideal S1x1x4096x128 .bf16)
  (x4 : Vec Ideal S1x1x64x4096 .f32) (S : Fin 4 → ℝ) (hR : Reads sl x3 S) (g : Fin 512) (M0 L0 : EReal)

/-- Lane `g`'s slope. -/
abbrev slope : ℝ := S ⟨g.val / 128, by omega⟩

/-- Lane `g`'s query against key `s`. -/
def dots (s : ℕ) : EReal := ∑ d : Fin 64, (if h : s < 4096 then x3 (ix4 0 0 ⟨s, h⟩ (Fin.castAdd 64 d)) else 0)
  * x2 (ix3 0 ⟨g.val / 128 * 64 + d.val, by omega⟩ ⟨g.val % 128, by omega⟩)

/-- Lane `g`'s score of key `s`, for a window of `w` keys back: its distance is taken from the start of row block `B`. -/
def score (s : ℕ) : EReal :=
  if s ≤ B * 128 + g.val % 128 ∧ B * 128 + g.val % 128 ≤ s + w then
    dots x2 x3 g s + ((slope S g * ((s : ℝ) - (B * 128 : ℕ)) : ℝ) : EReal) else ⊥

/-- Coordinate `d` of key `s`'s value. -/
def value (d : Fin 64) (s : ℕ) : EReal := if h : s < 4096 then x4 (ix4 0 0 d ⟨s, h⟩) else 0

include hR

theorem row_at : row sl (ix2 0 g) = (slope S g : EReal) := by
  refine (row_apply _ _ _ _ g).trans ?_
  have : ∀ r : Fin 4, ![sl 0, sl 1, sl 2, sl 3] r = sl r := fun r => by
    fin_cases r <;> rfl
  rw [this, hR.slope]

/-- A tile's score: the dot product, and the slope times the key's place. -/
theorem scores_at {off : Fin 4 → ℕ} {h} (n : ℕ) (e : off = ![0, 0, n * 128, 0]) (hn : n < 32) (k : Fin 128) :
    scores (lanes sl x2) (keyTile x3 off h) (ix2 k g)
      = dots x2 x3 g (n * 128 + k.val) + ((slope S g * (k.val : ℝ) : ℝ) : EReal) := by
  have hS : ∀ r : Fin 4, ![sl 0, sl 1, sl 2, sl 3] r = (S r : EReal) := fun r => by
    rw [← hR.slope]
    fin_cases r <;> rfl
  rw [scores_apply, Fin.sum_univ_add (a := 64) (b := 64)]
  refine congrArg₂ (· + ·) (Finset.sum_congr rfl fun d _ => ?_) ?_
  · rw [keyTile_apply x3 e (by omega), dif_pos (by omega)]
    exact congrArg (_ * ·) (upper_apply x2 _ _ _ d g)
  · rw [Finset.sum_eq_single (0 : Fin 64)]
    · rw [keyTile_apply x3 e (by omega), hR.place _ _ rfl]
      refine (congrArg (_ * ·) ((lower_apply _ _ _ _ _ S hS 0 g).trans (if_pos rfl))).trans ?_
      rw [← EReal.coe_mul, mul_comm]
      have hk : (n * 128 + k.val) % 128 = k.val := by omega
      rw [hk]
    · intro d _ hd
      exact (congrArg (_ * ·) ((lower_apply _ _ _ _ _ S hS d g).trans (if_neg fun h => hd (Fin.ext h)))).trans (mul_zero _)
    · exact fun h => absurd (Finset.mem_univ _) h

/-- A tile's score less what the tile's distance takes off is the score of the key. -/
theorem shifted (n k c : ℕ) (hc : n + c = B) :
    (dots x2 x3 g (n * 128 + k) + ((slope S g * (k : ℝ) : ℝ) : EReal)) - ((slope S g * ((c * 128 : ℕ) : ℝ) : ℝ) : EReal)
      = dots x2 x3 g (n * 128 + k) + ((slope S g * (((n * 128 + k : ℕ) : ℝ) - (B * 128 : ℕ)) : ℝ) : EReal) := by
  rw [sub_eq_add_neg, add_assoc, ← sub_eq_add_neg, ← EReal.coe_sub, ← hc]
  congr 2
  push_cast
  ring

/-- What a tile's distance takes off, at lane `g`. -/
theorem shift_at (d : BitVec 32) (x : ℝ) (hx : Ideal.ofBits .f32 d = (x : EReal)) :
    shift (row sl) d (ix2 0 g) = ((slope S g * x : ℝ) : EReal) := by
  rw [shift_apply, row_at sl x3 S hR g, hx, EReal.coe_mul]

theorem value_at' {off : Fin 4 → ℕ} {h} (n : ℕ) (e : off = ![0, 0, 0, n * 128]) (hn : n < 32) (d : Fin 64) (k : Fin 128) :
    valueTile x4 off h (ix4 0 0 d k) = value x4 d (n * 128 + k.val) := by
  rw [valueTile_apply x4 e (by omega), value, dif_pos (by omega)]

/-- A tile whose kept scores are those the window keeps brings its keys in. -/
theorem tile_lane {a n c : ℕ} (hc : n + c = B) (ha : a ≤ n * 128) {z : FVec Ideal S128x512 .f32} {dist : BitVec 32}
    {vt : Vec Ideal S1x1x64x128 .f32} {s : State} (hd : Ideal.ofBits .f32 dist = (((c * 128 : ℕ) : ℝ) : EReal))
    (hz : ∀ k : Fin 128, z (ix2 k g) = if n * 128 + k.val ≤ B * 128 + g.val % 128
      ∧ B * 128 + g.val % 128 ≤ n * 128 + k.val + w
      then dots x2 x3 g (n * 128 + k.val) + ((slope S g * (k.val : ℝ) : ℝ) : EReal) else ⊥)
    (hv : ∀ d (k : Fin 128), vt (ix4 0 0 d k) = value x4 d (n * 128 + k.val))
    (H : Lane (score B w x2 x3 S g) (value x4) M0 L0 g a (n * 128) s) :
    Exact (score B w x2 x3 S g) (value x4) M0 L0 g a (n * 128 + 128) (step z (shift (row sl) dist) vt s)
      ∧ Lane (score B w x2 x3 S g) (value x4) M0 L0 g a (n * 128 + 128) (step z (shift (row sl) dist) vt s) := by
  refine step_lane _ _ _ _ _ ha (slope S g * ((c * 128 : ℕ) : ℝ)) (shift_at sl x3 S hR g dist _ hd) (fun k => ?_) hv H
  rw [hz, score]
  split
  · exact shifted B sl x2 x3 S hR g n k.val c hc
  · exact EReal.bot_sub _

end

end Cert.Proof.Band

end
-- ==== Proof.Band.Cases.lean ====
/-
  What each grid point of the window attention leaves: one step per tile, from the first tile of the window that exists
  (the first four row blocks have fewer tiles before them) to the query's own.
-/
module

public import proofs.«01_k».proof.Proof.Gen.Kernel8Ideal.Value
public import proofs.«01_k».proof.Proof.Band.Tile
public import Idealize.ShloMosaic.Lib.Pipeline.ValueKit

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem

/-- The slope of head `r` of the point's group. -/
def slopeOf (i : grid0.Coords) (x0 : Vec Ideal S16 .f32) (r : Fin 4) : EReal :=
  View.ld x0 (Rect.unit (s := S16) (k0_off1 i (BitVec.ofNat 32 r.val)) S1.size (k0_off1_inb i r)) (Shape.Idx.first (show 0 < S1.numel by decide))

variable (i : grid0.Coords) (x0 : Vec Ideal S16 .f32) (x2 : Vec Ideal S1x256x128 .bf16) (x3 : Vec Ideal S1x1x4096x128 .bf16)
  (x4 : Vec Ideal S1x1x64x4096 .f32)

/-- The tile four tiles back, of which a query sees the keys not before its own place. -/
def first (h : k0_cond1 i = 1#1) : State → State :=
  step (kept farKeep
    (scores (lanes (slopeOf i x0) x2) (keyTile x3 (k0_off2 i) (k0_off2_inb i h)))) (shift (row (slopeOf i x0)) 0x44000000#32)
    (valueTile x4 (k0_off3 i) (k0_off3_inb i h))

/-- A tile in between. -/
def second (h : k0_cond2 i = 1#1) : State → State :=
  step (scores (lanes (slopeOf i x0) x2) (keyTile x3 (k0_off4 i) (k0_off4_inb i h))) (shift (row (slopeOf i x0)) 0x43C00000#32)
    (valueTile x4 (k0_off5 i) (k0_off5_inb i h))
@[inherit_doc second] def third (h : k0_cond3 i = 1#1) : State → State :=
  step (scores (lanes (slopeOf i x0) x2) (keyTile x3 (k0_off6 i) (k0_off6_inb i h))) (shift (row (slopeOf i x0)) 0x43800000#32)
    (valueTile x4 (k0_off7 i) (k0_off7_inb i h))
@[inherit_doc second] def fourth (h : k0_cond4 i = 1#1) : State → State :=
  step (scores (lanes (slopeOf i x0) x2) (keyTile x3 (k0_off8 i) (k0_off8_inb i h))) (shift (row (slopeOf i x0)) 0x43000000#32)
    (valueTile x4 (k0_off9 i) (k0_off9_inb i h))

/-- The query's own tile, of which it sees the keys not after its own place. -/
def last (h : k0_cond5 i = 1#1) : State → State :=
  step (kept ownKeep
    (scores (lanes (slopeOf i x0) x2) (keyTile x3 (k0_off10 i) (k0_off10_inb i h)))) (shift (row (slopeOf i x0)) 0x00000000#32)
    (valueTile x4 (k0_off11 i) (k0_off11_inb i h))

/-- What goes out. -/
def outOf (s : State) : FVec Ideal S1x128x256 .f32 := k0_pay7 s.2.2 s.2.1

variable (m : (ℓ : Loc nD τ sig) → Buf (Elt Ideal) ℓ) (c : Dev nD) (t : Fin cfg0.N)

theorem outs_A (h0 : ¬4 ≤ t.val % 32) (h1 : ¬3 ≤ t.val % 32) (h2 : ¬2 ≤ t.val % 32) (h3 : ¬1 ≤ t.val % 32) :
    outsAt0 m c t.val t.isLt = outOf (last (grid0.coords t) (iblk m c 0 t) (iblk m c 2 t) (iblk m c 3 t) (iblk m c 4 t)
      (hcond0_4 t) start) := by
  rw [outsAt0_A m c t h0 h1 h2 h3]
  frame_out
  rfl

theorem outs_B (h0 : ¬4 ≤ t.val % 32) (h1 : ¬3 ≤ t.val % 32) (h2 : ¬2 ≤ t.val % 32) (h3 : 1 ≤ t.val % 32) :
    outsAt0 m c t.val t.isLt = outOf (last (grid0.coords t) (iblk m c 0 t) (iblk m c 2 t) (iblk m c 3 t) (iblk m c 4 t) (hcond0_4 t)
      (fourth (grid0.coords t) (iblk m c 0 t) (iblk m c 2 t) (iblk m c 3 t) (iblk m c 4 t) ((hcond0_3 t).mpr h3) start)) := by
  rw [outsAt0_B m c t h0 h1 h2 h3]
  frame_out
  rfl

theorem outs_C (h0 : ¬4 ≤ t.val % 32) (h1 : ¬3 ≤ t.val % 32) (h2 : 2 ≤ t.val % 32) (h3 : 1 ≤ t.val % 32) :
    outsAt0 m c t.val t.isLt = outOf (last (grid0.coords t) (iblk m c 0 t) (iblk m c 2 t) (iblk m c 3 t) (iblk m c 4 t) (hcond0_4 t)
      (fourth (grid0.coords t) (iblk m c 0 t) (iblk m c 2 t) (iblk m c 3 t) (iblk m c 4 t) ((hcond0_3 t).mpr h3)
      (third (grid0.coords t) (iblk m c 0 t) (iblk m c 2 t) (iblk m c 3 t) (iblk m c 4 t) ((hcond0_2 t).mpr h2) start))) := by
  rw [outsAt0_C m c t h0 h1 h2 h3]
  frame_out
  rfl

theorem outs_D (h0 : ¬4 ≤ t.val % 32) (h1 : 3 ≤ t.val % 32) (h2 : 2 ≤ t.val % 32) (h3 : 1 ≤ t.val % 32) :
    outsAt0 m c t.val t.isLt = outOf (last (grid0.coords t) (iblk m c 0 t) (iblk m c 2 t) (iblk m c 3 t) (iblk m c 4 t) (hcond0_4 t)
      (fourth (grid0.coords t) (iblk m c 0 t) (iblk m c 2 t) (iblk m c 3 t) (iblk m c 4 t) ((hcond0_3 t).mpr h3)
      (third (grid0.coords t) (iblk m c 0 t) (iblk m c 2 t) (iblk m c 3 t) (iblk m c 4 t) ((hcond0_2 t).mpr h2)
      (second (grid0.coords t) (iblk m c 0 t) (iblk m c 2 t) (iblk m c 3 t) (iblk m c 4 t) ((hcond0_1 t).mpr h1) start)))) := by
  rw [outsAt0_D m c t h0 h1 h2 h3]
  frame_out
  rfl

theorem outs_E (h0 : 4 ≤ t.val % 32) (h1 : 3 ≤ t.val % 32) (h2 : 2 ≤ t.val % 32) (h3 : 1 ≤ t.val % 32) :
    outsAt0 m c t.val t.isLt = outOf (last (grid0.coords t) (iblk m c 0 t) (iblk m c 2 t) (iblk m c 3 t) (iblk m c 4 t) (hcond0_4 t)
      (fourth (grid0.coords t) (iblk m c 0 t) (iblk m c 2 t) (iblk m c 3 t) (iblk m c 4 t) ((hcond0_3 t).mpr h3)
      (third (grid0.coords t) (iblk m c 0 t) (iblk m c 2 t) (iblk m c 3 t) (iblk m c 4 t) ((hcond0_2 t).mpr h2)
      (second (grid0.coords t) (iblk m c 0 t) (iblk m c 2 t) (iblk m c 3 t) (iblk m c 4 t) ((hcond0_1 t).mpr h1)
      (first (grid0.coords t) (iblk m c 0 t) (iblk m c 2 t) (iblk m c 3 t) (iblk m c 4 t) ((hcond0_0 t).mpr h0) start))))) := by
  rw [outsAt0_E m c t h0 h1 h2 h3]
  frame_out
  rfl

end Cert.Proof.Band

end
-- ==== Proof.Band.Block.lean ====
/-
  The block one grid point of the window attention leaves: each entry is one query's sum of weighted values divided by
  its sum of weights, over the tiles the query's window can reach.
-/
module

public import proofs.«01_k».proof.Proof.Band.Window
public import proofs.«01_k».proof.Proof.Band.Cases

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem

/-- Where a tile starts, as the body computes it. -/
theorem start_eq : ∀ n : Fin 32, ∀ k : Fin 5, 4 ≤ n.val + k.val →
    (Scalar.indexCast (Scalar.muli (Scalar.addi (Scalar.subi (BitVec.ofNat 32 n.val) 4#32) (BitVec.ofNat 32 k.val)) 128#32)).toNat
      = (n.val + k.val - 4) * 128 := by decide +kernel

theorem off2_eq (i : grid0.Coords) (h : 4 ≤ (i 2).val) : k0_off2 i = ![0, 0, ((i 2).val + 0 - 4) * 128, 0] := by
  exact congrArg (fun n => (![0, 0, n, 0] : Fin 4 → ℕ)) (start_eq (i 2) 0 h)
theorem off3_eq (i : grid0.Coords) (h : 4 ≤ (i 2).val) : k0_off3 i = ![0, 0, 0, ((i 2).val + 0 - 4) * 128] := by
  exact congrArg (fun n => (![0, 0, 0, n] : Fin 4 → ℕ)) (start_eq (i 2) 0 h)
theorem off4_eq (i : grid0.Coords) (h : 4 ≤ (i 2).val + 1) : k0_off4 i = ![0, 0, ((i 2).val + 1 - 4) * 128, 0] := by
  exact congrArg (fun n => (![0, 0, n, 0] : Fin 4 → ℕ)) (start_eq (i 2) 1 h)
theorem off5_eq (i : grid0.Coords) (h : 4 ≤ (i 2).val + 1) : k0_off5 i = ![0, 0, 0, ((i 2).val + 1 - 4) * 128] := by
  exact congrArg (fun n => (![0, 0, 0, n] : Fin 4 → ℕ)) (start_eq (i 2) 1 h)
theorem off6_eq (i : grid0.Coords) (h : 4 ≤ (i 2).val + 2) : k0_off6 i = ![0, 0, ((i 2).val + 2 - 4) * 128, 0] := by
  exact congrArg (fun n => (![0, 0, n, 0] : Fin 4 → ℕ)) (start_eq (i 2) 2 h)
theorem off7_eq (i : grid0.Coords) (h : 4 ≤ (i 2).val + 2) : k0_off7 i = ![0, 0, 0, ((i 2).val + 2 - 4) * 128] := by
  exact congrArg (fun n => (![0, 0, 0, n] : Fin 4 → ℕ)) (start_eq (i 2) 2 h)
theorem off8_eq (i : grid0.Coords) (h : 4 ≤ (i 2).val + 3) : k0_off8 i = ![0, 0, ((i 2).val + 3 - 4) * 128, 0] := by
  exact congrArg (fun n => (![0, 0, n, 0] : Fin 4 → ℕ)) (start_eq (i 2) 3 h)
theorem off9_eq (i : grid0.Coords) (h : 4 ≤ (i 2).val + 3) : k0_off9 i = ![0, 0, 0, ((i 2).val + 3 - 4) * 128] := by
  exact congrArg (fun n => (![0, 0, 0, n] : Fin 4 → ℕ)) (start_eq (i 2) 3 h)
theorem off10_eq (i : grid0.Coords) : k0_off10 i = ![0, 0, ((i 2).val + 4 - 4) * 128, 0] := by
  exact congrArg (fun n => (![0, 0, n, 0] : Fin 4 → ℕ)) (start_eq (i 2) 4 (Nat.le_add_left _ _))
theorem off11_eq (i : grid0.Coords) : k0_off11 i = ![0, 0, 0, ((i 2).val + 4 - 4) * 128] := by
  exact congrArg (fun n => (![0, 0, 0, n] : Fin 4 → ℕ)) (start_eq (i 2) 4 (Nat.le_add_left _ _))

section
variable (i : grid0.Coords) (x0 : Vec Ideal S16 .f32) (x2 : Vec Ideal S1x256x128 .bf16) (x3 : Vec Ideal S1x1x4096x128 .bf16)
  (x4 : Vec Ideal S1x1x64x4096 .f32) (S : Fin 4 → ℝ) (hR : Reads (slopeOf i x0) x3 S) (g : Fin 512)

include hR

theorem first_lane (h : k0_cond1 i = 1#1) (h4 : 4 ≤ (i 2).val) {a : ℕ} (ha : a ≤ ((i 2).val - 4) * 128) {s : State}
    (H : Lane (score (i 2).val 512 x2 x3 S g) (value x4) ⊥ 0 g a (((i 2).val - 4) * 128) s) :
    Lane (score (i 2).val 512 x2 x3 S g) (value x4) ⊥ 0 g a (((i 2).val - 3) * 128) (first i x0 x2 x3 x4 h s) := by
  have hi : (i 2).val < 32 := (i 2).isLt
  have e : ((i 2).val - 3) * 128 = ((i 2).val - 4) * 128 + 128 := by omega
  rw [e]
  refine (tile_lane _ 512 _ x2 x3 x4 S hR g ⊥ 0 (n := (i 2).val - 4) (c := 4) (by omega) ha ?_ (fun k => ?_) (fun d k => ?_) H).2
  · simp [Ideal.ofBits, Ideal.ieee, -EReal.coe_mul]; norm_num
  · rw [kept_apply, scores_at _ x2 x3 S hR g ((i 2).val - 4) (off2_eq i h4) (by omega)]
    refine if_congr ((far_apply k g).trans ?_) rfl rfl
    omega
  · exact value_at' _ x3 x4 S hR ((i 2).val - 4) (off3_eq i h4) (by omega) d k

theorem second_lane (h : k0_cond2 i = 1#1) (h3 : 3 ≤ (i 2).val) {a : ℕ} (ha : a ≤ ((i 2).val - 3) * 128) {s : State}
    (H : Lane (score (i 2).val 512 x2 x3 S g) (value x4) ⊥ 0 g a (((i 2).val - 3) * 128) s) :
    Lane (score (i 2).val 512 x2 x3 S g) (value x4) ⊥ 0 g a (((i 2).val - 2) * 128) (second i x0 x2 x3 x4 h s) := by
  have hi : (i 2).val < 32 := (i 2).isLt
  have e : ((i 2).val - 2) * 128 = ((i 2).val - 3) * 128 + 128 := by omega
  have e' : (i 2).val + 1 - 4 = (i 2).val - 3 := by omega
  rw [e]
  refine (tile_lane _ 512 _ x2 x3 x4 S hR g ⊥ 0 (n := (i 2).val - 3) (c := 3) (by omega) ha ?_ (fun k => ?_) (fun d k => ?_) H).2
  · simp [Ideal.ofBits, Ideal.ieee, -EReal.coe_mul]; norm_num
  · rw [scores_at _ x2 x3 S hR g ((i 2).val - 3) (e' ▸ off4_eq i (by omega)) (by omega), if_pos (by omega)]
  · exact value_at' _ x3 x4 S hR ((i 2).val - 3) (e' ▸ off5_eq i (by omega)) (by omega) d k

theorem third_lane (h : k0_cond3 i = 1#1) (h2 : 2 ≤ (i 2).val) {a : ℕ} (ha : a ≤ ((i 2).val - 2) * 128) {s : State}
    (H : Lane (score (i 2).val 512 x2 x3 S g) (value x4) ⊥ 0 g a (((i 2).val - 2) * 128) s) :
    Lane (score (i 2).val 512 x2 x3 S g) (value x4) ⊥ 0 g a (((i 2).val - 1) * 128) (third i x0 x2 x3 x4 h s) := by
  have hi : (i 2).val < 32 := (i 2).isLt
  have e : ((i 2).val - 1) * 128 = ((i 2).val - 2) * 128 + 128 := by omega
  have e' : (i 2).val + 2 - 4 = (i 2).val - 2 := by omega
  rw [e]
  refine (tile_lane _ 512 _ x2 x3 x4 S hR g ⊥ 0 (n := (i 2).val - 2) (c := 2) (by omega) ha ?_ (fun k => ?_) (fun d k => ?_) H).2
  · simp [Ideal.ofBits, Ideal.ieee, -EReal.coe_mul]; norm_num
  · rw [scores_at _ x2 x3 S hR g ((i 2).val - 2) (e' ▸ off6_eq i (by omega)) (by omega), if_pos (by omega)]
  · exact value_at' _ x3 x4 S hR ((i 2).val - 2) (e' ▸ off7_eq i (by omega)) (by omega) d k

theorem fourth_lane (h : k0_cond4 i = 1#1) (h1 : 1 ≤ (i 2).val) {a : ℕ} (ha : a ≤ ((i 2).val - 1) * 128) {s : State}
    (H : Lane (score (i 2).val 512 x2 x3 S g) (value x4) ⊥ 0 g a (((i 2).val - 1) * 128) s) :
    Lane (score (i 2).val 512 x2 x3 S g) (value x4) ⊥ 0 g a ((i 2).val * 128) (fourth i x0 x2 x3 x4 h s) := by
  have hi : (i 2).val < 32 := (i 2).isLt
  have e : (i 2).val * 128 = ((i 2).val - 1) * 128 + 128 := by omega
  have e' : (i 2).val + 3 - 4 = (i 2).val - 1 := by omega
  rw [e]
  refine (tile_lane _ 512 _ x2 x3 x4 S hR g ⊥ 0 (n := (i 2).val - 1) (c := 1) (by omega) ha ?_ (fun k => ?_) (fun d k => ?_) H).2
  · simp [Ideal.ofBits, Ideal.ieee, -EReal.coe_mul]; norm_num
  · rw [scores_at _ x2 x3 S hR g ((i 2).val - 1) (e' ▸ off8_eq i (by omega)) (by omega), if_pos (by omega)]
  · exact value_at' _ x3 x4 S hR ((i 2).val - 1) (e' ▸ off9_eq i (by omega)) (by omega) d k

/-- The query's own tile, after which the sums are those of the whole window. -/
theorem last_exact (h : k0_cond5 i = 1#1) {a : ℕ} (ha : a ≤ (i 2).val * 128) {s : State}
    (H : Lane (score (i 2).val 512 x2 x3 S g) (value x4) ⊥ 0 g a ((i 2).val * 128) s) :
    Exact (score (i 2).val 512 x2 x3 S g) (value x4) ⊥ 0 g a ((i 2).val * 128 + 128) (last i x0 x2 x3 x4 h s) := by
  have hi : (i 2).val < 32 := (i 2).isLt
  have e' : (i 2).val + 4 - 4 = (i 2).val := by omega
  refine (tile_lane _ 512 _ x2 x3 x4 S hR g ⊥ 0 (n := (i 2).val) (c := 0) rfl ha ?_ (fun k => ?_) (fun d k => ?_) H).1
  · simp [Ideal.ofBits, Ideal.ieee]
  · rw [kept_apply, scores_at _ x2 x3 S hR g (i 2).val (e' ▸ off10_eq i) (by omega)]
    refine if_congr ((own_apply k g).trans ?_) rfl rfl
    omega
  · exact value_at' _ x3 x4 S hR (i 2).val (e' ▸ off11_eq i) (by omega) d k

omit hR in
theorem start_lane (σ : ℕ → EReal) (v : Fin 64 → ℕ → EReal) (a : ℕ) : Lane σ v ⊥ 0 g a a start := by
  have e1 : start.1 (ix2 0 g) = ⊥ := rfl
  have e2 : start.2.1 (ix2 0 g) = 0 := Ideal.ofBits_zero_f32
  have e3 : ∀ d, start.2.2 (ix2 d g) = 0 := fun d => Ideal.ofBits_zero_f32
  unfold Lane
  rw [e1, e2]
  exact ⟨holds_zero .., fun d => by rw [e3]; exact holds_zero ..⟩

omit hR in
/-- What the sums give out. -/
theorem out_exact {σ : ℕ → EReal} {v : Fin 64 → ℕ → EReal} {s : State} (r : Fin 128) (e : Fin 256)
    (H : Exact σ v ⊥ 0 ⟨e.val / 64 * 128 + r.val, by omega⟩ (((i 2).val - 4) * 128) ((i 2).val * 128 + 128) s) :
    outOf s (ix3 0 r e) = quotient ((i 2).val * 128 + r.val) σ (v ⟨e.val % 64, by omega⟩) := by
  have h : ((i 2).val * 128 + r.val) / 128 = (i 2).val := by omega
  unfold quotient
  rw [h]
  refine (result_apply _ _ r e).trans ?_
  exact congrArg₂ Ideal.div (H.2 _) H.1

end

end Cert.Proof.Band

end
-- ==== Proof.Band.Reference.lean ====
/-
  The reference's window attention, entry by entry.
-/
module

public import proofs.«01_k».proof.Proof.Band.Scalar
public import proofs.«01_k».proof.Proof.Gen.Reference8Ideal.Run
public import Idealize.ShloMosaic.Lib.WordCmp

@[expose] public section

set_option maxRecDepth 16384

noncomputable section

namespace Cert.Proof.Band.Ref

open Cert.Reference8Ideal Cert.Reference8Ideal.Gen
open Idealize.ShloMosaic Idealize.ShloMosaic.TcCoe Idealize.SL.Sem

/-- How far each key is behind each query. -/
def behind : IVec S4096x4096 32 := subi
  (broadcastInDim S4096x4096 ![0, 1] bcast_S4096x1_S4096x4096_0_1 (broadcastInDim S4096x1 ![0] bcast_S4096_S4096x1_0 (iotaInDim S4096 32 0)))
  (broadcastInDim S4096x4096 ![0, 1] bcast_S1x4096_S4096x4096_0_1 (broadcastInDim S1x4096 ![1] bcast_S4096_S1x4096_1 (iotaInDim S4096 32 0)))

/-- Which keys a query sees, with a window of `w` keys back. -/
def seen (w : BitVec 32) : IVec S4096x4096 1 := andi (cmpi .sge behind (broadcastInDim S4096x4096 ![] bcast_S_S4096x4096 (constantI S_ 32 0#32)))
  (cmpi .sle behind (broadcastInDim S4096x4096 ![] bcast_S_S4096x4096 (constantI S_ 32 w)))

/-- The heads' slopes. -/
def slopes : FVec Ideal S16 .f32 := Host.exp (mulf (broadcastInDim S16 ![] bcast_S_S16 (constant S_ .f32 0x3F317218#32))
  (Host.divf (mulf (broadcastInDim S16 ![] bcast_S_S16 (constant S_ .f32 0xC1000000#32))
    (addf (broadcastInDim S16 ![] bcast_S_S16 (constant S_ .f32 0x3F800000#32)) (sitofp .f32 (iotaInDim S16 32 0))))
    (broadcastInDim S16 ![] bcast_S_S16 (constant S_ .f32 0x41800000#32))))

/-- The logits, by batch, key head, head in the group, query and key. -/
def logits (q : FVec Ideal S4x1024x4096 .bf16) (k : FVec Ideal S4x4x4096x64 .bf16) : FVec Ideal S4x4x4x4096x4096 .f32 :=
  Host.dotGeneral dot_S4x4x4x64x4096_S4x4x4096x64_S4x4x4x4096x4096_3_3_24_2_01_01 none
    (shapeCast _ (extf .f32 q bitsLt_bf16_f32) shapeCasts_S4x1024x4096_S4x4x4x64x4096) (extf .f32 k bitsLt_bf16_f32)

/-- What a key's distance takes off, given the slopes. -/
def bias (sl : FVec Ideal S16 .f32) : FVec Ideal S4x4x4x4096x4096 .f32 :=
  broadcastInDim S4x4x4x4096x4096 ![0, 1, 2, 3, 4] bcast_S1x4x4x4096x4096_S4x4x4x4096x4096_0_1_2_3_4
    (broadcastInDim S1x4x4x4096x4096 ![1, 2, 3, 4] bcast_S4x4x4096x4096_S1x4x4x4096x4096_1_2_3_4 (mulf
      (broadcastInDim S4x4x4096x4096 ![0, 1, 2, 3] bcast_S4x4x1x1_S4x4x4096x4096_0_1_2_3
        (broadcastInDim S4x4x1x1 ![0, 1] bcast_S4x4_S4x4x1x1_0_1 (shapeCast _ sl shapeCasts_S16_S4x4)))
      (broadcastInDim S4x4x4096x4096 ![0, 1, 2, 3] bcast_S1x1x4096x4096_S4x4x4096x4096_0_1_2_3
        (broadcastInDim S1x1x4096x4096 ![2, 3] bcast_S4096x4096_S1x1x4096x4096_2_3 (sitofp .f32 behind)))))

/-- The scores. -/
def scores (w : BitVec 32) (q : FVec Ideal S4x1024x4096 .bf16) (k : FVec Ideal S4x4x4096x64 .bf16) : FVec Ideal S4x4x4x4096x4096 .f32 :=
  select (broadcastInDim S4x4x4x4096x4096 ![3, 4] bcast_S4096x4096_S4x4x4x4096x4096_3_4 (seen w)) (subf (logits q k) (bias slopes))
    (broadcastInDim S4x4x4x4096x4096 ![] bcast_S_S4x4x4x4096x4096 (id (constant S_ .f32 0xFF800000#32)))

/-- Each query's greatest score. -/
def greatest (z : FVec Ideal S4x4x4x4096x4096 .f32) : FVec Ideal S4x4x4x4096 .f32 :=
  Host.reduce FloatOps.maximumf z (constant S_ .f32 0xFF800000#32) reducesTo_S4x4x4x4096x4096_S4x4x4x4096_d4 h_S_

/-- The weights, measured from a given score of each query. -/
def weights (z : FVec Ideal S4x4x4x4096x4096 .f32) (M : FVec Ideal S4x4x4x4096 .f32) : FVec Ideal S4x4x4x4096x4096 .f32 :=
  Host.exp (subf z (broadcastInDim S4x4x4x4096x4096 ![0, 1, 2, 3, 4] bcast_S4x4x4x4096x1_S4x4x4x4096x4096_0_1_2_3_4
    (broadcastInDim S4x4x4x4096x1 ![0, 1, 2, 3] bcast_S4x4x4x4096_S4x4x4x4096x1_0_1_2_3 M)))

/-- The weights' sums. -/
def totals (w : FVec Ideal S4x4x4x4096x4096 .f32) : FVec Ideal S4x4x4x4096 .f32 :=
  Host.reduceAdd w (constant S_ .f32 0x00000000#32) reducesTo_S4x4x4x4096x4096_S4x4x4x4096_d4 h_S_

/-- The weighted values. -/
def summed (v : FVec Ideal S4x4x64x4096 .f32) (w : FVec Ideal S4x4x4x4096x4096 .f32) : FVec Ideal S4x4x64x4x4096 .f32 :=
  Host.dotGeneral dot_S4x4x64x4096_S4x4x4x4096x4096_S4x4x64x4x4096_3_4_2_23_01_01 none v w

/-- The division, and the order of the result's axes. -/
def divided (acc : FVec Ideal S4x4x64x4x4096 .f32) (l : FVec Ideal S4x4x4x4096 .f32) : FVec Ideal S4x4096x1024 .f32 :=
  shapeCast _ (Host.divf (transpose S4x4096x4x4x64 [0, 4, 1, 3, 2] acc transposes_S4x4x64x4x4096_S4x4096x4x4x64_0_4_1_3_2)
    (broadcastInDim S4x4096x4x4x64 ![0, 1, 2, 3, 4] bcast_S4x4096x4x4x1_S4x4096x4x4x64_0_1_2_3_4
      (broadcastInDim S4x4096x4x4x1 ![0, 1, 2, 3] bcast_S4x4096x4x4_S4x4096x4x4x1_0_1_2_3
        (transpose S4x4096x4x4 [0, 3, 1, 2] l transposes_S4x4x4x4096_S4x4096x4x4_0_3_1_2)))) shapeCasts_S4x4096x4x4x64_S4x4096x1024

/-- The attention. -/
def attention (q : FVec Ideal S4x1024x4096 .bf16) (k : FVec Ideal S4x4x4096x64 .bf16) (v : FVec Ideal S4x4x64x4096 .f32) :
    FVec Ideal S4x4096x1024 .f32 :=
  divided (summed v (weights (scores 512#32 q k) (greatest (scores 512#32 q k)))) (totals (weights (scores 512#32 q k) (greatest (scores 512#32 q k))))

/-- It is what the reference's run leaves. -/
theorem res_eq (m : (ℓ : Loc nD τ sig) → Buf (Elt Ideal) ℓ) (c : Dev nD) : Cert.Reference8Ideal.Value.res_main_v48 m c
    = attention (m ((c.tc : Thread nD τ).loc main_arg0)) (m ((c.tc : Thread nD τ).loc main_arg1)) (m ((c.tc : Thread nD τ).loc main_arg2)) := by
  unfold Cert.Reference8Ideal.Value.res_main_v48
  rfl

theorem bits_bot : Ideal.ofBits .f32 0xFF800000#32 = ⊥ := by simp [Ideal.ofBits, Ideal.ieee]

theorem behind_apply (t s : Fin 4096) : behind (ix2 t s) = IntOp.subi (BitVec.ofNat 32 t.val) (BitVec.ofNat 32 s.val) := by
  pointwise [behind]

/-- The distance, as an integer. -/
theorem distance (t s : ℕ) (ht : t < 4096) (hs : s < 4096) :
    (BitVec.ofNat 32 t - BitVec.ofNat 32 s).toInt = (t : ℤ) - s := by
  simp only [BitVec.toInt_sub, BitVec.toInt_ofNat', Int.bmod_def]
  omega

theorem seen_apply {w : BitVec 32} {n : ℕ} (hw : w.toInt = n) (t s : Fin 4096) :
    seen w (ix2 t s) = 1#1 ↔ s.val ≤ t.val ∧ t.val ≤ s.val + n := by
  have hd := distance t.val s.val t.isLt s.isLt
  have hb := behind_apply t s
  unfold seen
  generalize behind = B at hb
  pointwise []
  rw [hb]
  show IntOp.andi (BitVec.ofBool (decide ((0#32 : BitVec 32).toInt ≤ (BitVec.ofNat 32 t.val - BitVec.ofNat 32 s.val).toInt)))
    (BitVec.ofBool (decide ((BitVec.ofNat 32 t.val - BitVec.ofNat 32 s.val).toInt ≤ w.toInt))) = 1#1 ↔ _
  rw [hd, show (0#32 : BitVec 32).toInt = 0 from rfl, hw]
  by_cases h1 : (0 : ℤ) ≤ (t.val : ℤ) - s.val <;> by_cases h2 : (t.val : ℤ) - s.val ≤ n
  · rw [decide_eq_true h1, decide_eq_true h2]
    exact iff_of_true rfl (by omega)
  · rw [decide_eq_true h1, decide_eq_false h2]
    exact iff_of_false (by decide) (by omega)
  · rw [decide_eq_false h1, decide_eq_true h2]
    exact iff_of_false (by decide) (by omega)
  · rw [decide_eq_false h1, decide_eq_false h2]
    exact iff_of_false (by decide) (by omega)

theorem bias_apply (sl : FVec Ideal S16 .f32) (b kk g : Fin 4) (t s : Fin 4096) :
    bias sl (ix5 b kk g t s) = sl (ix1 ⟨kk.val * 4 + g.val, by omega⟩) * ((((t.val : ℝ) - s.val : ℝ)) : EReal) := by
  have hd := distance t.val s.val t.isLt s.isLt
  have hb := behind_apply t s
  unfold bias
  generalize behind = B at hb
  pointwise []
  rw [hb]
  refine congrArg (_ * ·) ?_
  show ((((BitVec.ofNat 32 t.val - BitVec.ofNat 32 s.val).toInt : ℝ)) : EReal) = _
  rw [hd]
  push_cast
  rfl

theorem logits_apply (q : FVec Ideal S4x1024x4096 .bf16) (k : FVec Ideal S4x4x4096x64 .bf16) (b kk g : Fin 4) (t s : Fin 4096) :
    logits q k (ix5 b kk g t s) = ∑ d : Fin 64, q (ix3 b ⟨kk.val * 256 + g.val * 64 + d.val, by omega⟩ t) * k (ix4 b kk s d) := by
  pointwise [logits]

theorem slopes_real (j : Fin 16) : ∃ r : ℝ, slopes (ix1 j) = (r : EReal) := by
  have h1 : ∃ r : ℝ, Ideal.ofBits .f32 0x3F317218#32 = (r : EReal) := ⟨_, by simp [Ideal.ofBits, Ideal.ieee, -EReal.coe_mul]; rfl⟩
  have h2 : ∃ r : ℝ, Ideal.ofBits .f32 0xC1000000#32 = (r : EReal) := ⟨_, by simp [Ideal.ofBits, Ideal.ieee, -EReal.coe_mul]; rfl⟩
  have h3 : Ideal.ofBits .f32 0x41800000#32 = ((16 : ℝ) : EReal) := by simp [Ideal.ofBits, Ideal.ieee, -EReal.coe_mul]; norm_num
  obtain ⟨r1, h1⟩ := h1
  obtain ⟨r2, h2⟩ := h2
  pointwise [slopes]
  rw [h1, h2, h3]
  show ∃ r : ℝ, Ideal.exp ((r1 : EReal) * Ideal.div ((r2 : EReal) * (((1 : ℝ) : EReal) + (((BitVec.ofNat 32 j.val).toInt : ℝ) : EReal))) ((16 : ℝ) : EReal)) = _
  unfold Ideal.div
  rw [if_neg (by norm_num), ← EReal.coe_inv, ← EReal.coe_add, ← EReal.coe_mul, ← EReal.coe_mul, ← EReal.coe_mul]
  exact ⟨_, exp_coe _⟩

theorem scores_apply {w : BitVec 32} {n : ℕ} (hw : w.toInt = n) (q : FVec Ideal S4x1024x4096 .bf16) (k : FVec Ideal S4x4x4096x64 .bf16) (b kk g : Fin 4) (t s : Fin 4096) :
    scores w q k (ix5 b kk g t s) = if s.val ≤ t.val ∧ t.val ≤ s.val + n
      then logits q k (ix5 b kk g t s) - bias slopes (ix5 b kk g t s) else ⊥ := by
  have hs := seen_apply hw t s
  unfold scores
  generalize seen w = B at hs
  generalize logits q k = L
  generalize bias slopes = N
  pointwise []
  unfold Scalar.select
  exact if_congr hs rfl bits_bot

theorem greatest_apply (z : FVec Ideal S4x4x4x4096x4096 .f32) (b kk g : Fin 4) (t : Fin 4096) :
    greatest z (ix4 b kk g t) = Finset.univ.fold max ⊥ fun s : Fin 4096 => z (ix5 b kk g t s) := by
  pointwise [greatest]
  rw [bits_bot]

theorem weights_apply (z : FVec Ideal S4x4x4x4096x4096 .f32) (M : FVec Ideal S4x4x4x4096 .f32) (b kk g : Fin 4) (t s : Fin 4096) :
    weights z M (ix5 b kk g t s) = Ideal.exp (z (ix5 b kk g t s) - M (ix4 b kk g t)) := by
  pointwise [weights]

theorem totals_apply (w : FVec Ideal S4x4x4x4096x4096 .f32) (b kk g : Fin 4) (t : Fin 4096) :
    totals w (ix4 b kk g t) = ∑ s : Fin 4096, w (ix5 b kk g t s) := by
  pointwise [totals]

theorem summed_apply (v : FVec Ideal S4x4x64x4096 .f32) (w : FVec Ideal S4x4x4x4096x4096 .f32) (b kk : Fin 4) (d : Fin 64) (g : Fin 4) (t : Fin 4096) :
    summed v w (ix5 b kk d g t) = ∑ s : Fin 4096, v (ix4 b kk d s) * w (ix5 b kk g t s) := by
  pointwise [summed]

theorem divided_apply (acc : FVec Ideal S4x4x64x4x4096 .f32) (l : FVec Ideal S4x4x4x4096 .f32) (b : Fin 4) (t : Fin 4096) (e : Fin 1024) :
    divided acc l (ix3 b t e) = Ideal.div (acc (ix5 b ⟨e.val / 256, by omega⟩ ⟨e.val % 64, by omega⟩ ⟨e.val / 64 % 4, by omega⟩ t))
      (l (ix4 b ⟨e.val / 256, by omega⟩ ⟨e.val / 64 % 4, by omega⟩ t)) := by
  pointwise [divided]

/-- An entry, from the query's logits and the values, given as numbers of the keys. -/
theorem attention_eq (q : FVec Ideal S4x1024x4096 .bf16) (k : FVec Ideal S4x4x4096x64 .bf16) (v : FVec Ideal S4x4x64x4096 .f32)
    (b : Fin 4) (t : Fin 4096) (e : Fin 1024) (Z V : ℕ → EReal) (S : ℝ)
    (hZ : ∀ s : Fin 4096, logits q k (ix5 b ⟨e.val / 256, by omega⟩ ⟨e.val / 64 % 4, by omega⟩ t s) = Z s.val)
    (hV : ∀ s : Fin 4096, v (ix4 b ⟨e.val / 256, by omega⟩ ⟨e.val % 64, by omega⟩ s) = V s.val)
    (hS : slopes (ix1 ⟨e.val / 256 * 4 + e.val / 64 % 4, by omega⟩) = (S : EReal)) :
    attention q k v (ix3 b t e) = quotient t.val (fun s => if s ≤ t.val ∧ t.val ≤ s + 512
      then Z s + ((S * ((s : ℝ) - (t.val / 128 * 128 : ℕ)) : ℝ) : EReal) else ⊥) V := by
  rw [← quotient_eq t.isLt _ (fun s => if s ≤ t.val ∧ t.val ≤ s + 512 then Z s - ((S * ((t.val : ℝ) - s) : ℝ) : EReal) else ⊥) V
    (-(S * ((t.val : ℝ) - (t.val / 128 * 128 : ℕ)))) (fun s => ?_) (fun s hs => ?_) rfl]
  · have hz : ∀ s : Fin 4096, scores 512#32 q k (ix5 b ⟨e.val / 256, by omega⟩ ⟨e.val / 64 % 4, by omega⟩ t s)
        = if s.val ≤ t.val ∧ t.val ≤ s.val + 512 then Z s.val - ((S * ((t.val : ℝ) - s.val) : ℝ) : EReal) else ⊥ := fun s => by
      rw [scores_apply (n := 512) rfl, hZ, bias_apply, hS, EReal.coe_mul]
    rw [attention, divided_apply, summed_apply, totals_apply]
    simp only [weights_apply, greatest_apply, hz, hV]
  · split
    · rw [sub_eq_add_neg, add_assoc, ← EReal.coe_neg, ← EReal.coe_add]
      congr 2
      ring
    · rw [EReal.bot_add]
  · rw [Finset.mem_Ico] at hs
    exact if_neg (by omega)

end Cert.Proof.Band.Ref

end
-- ==== Proof.Band.Value.lean ====
/-
  The window attention (program `Kernel8Ideal`): its result array is the reference's attention of the arguments.
-/
module

public import proofs.«01_k».proof.Defs
public import proofs.«01_k».proof.Proof.Band.Block
public import proofs.«01_k».proof.Proof.Band.Reference

@[expose] public section

set_option maxRecDepth 16384

noncomputable section

namespace Cert.Proof.Band

open Cert.Kernel8Ideal Cert.Kernel8Ideal.Gen
open Idealize.ShloMosaic Idealize.ShloMosaic.ValueKit Idealize.ShloMosaic.TcCoe Idealize.SL.Sem
open Idealize.ShloMosaic.Pipeline (Dat)

variable (m : (ℓ : Loc nD τ sig) → Buf (Elt Ideal) ℓ)

/-- Point `t` works on batch `t / 128`, key head `t / 32 % 4` and row block `t % 32`. -/
theorem index_at : ∀ t : Fin cfg0.N, win0_0.index t = ![0] ∧ win0_2.index t = ![t.val / 128, t.val / 32 % 4, t.val % 32]
    ∧ win0_3.index t = ![t.val / 128, t.val / 32 % 4, 0, 0] ∧ win0_4.index t = ![t.val / 128, t.val / 32 % 4, 0, 0]
    ∧ win0_5.index t = ![t.val / 128, t.val % 32, t.val / 32 % 4] :=
  (by decide +kernel : ∀ t : Fin grid0.N, _)

theorem coords_at : ∀ t : Fin cfg0.N, (grid0.coords t 2).val = t.val % 32 ∧ (grid0.coords t 1).val = t.val / 32 % 4 :=
  (by decide +kernel : ∀ t : Fin grid0.N, _)

/-- The keys with their places beside them: each key's place in its tile, in the first three lanes after the key. -/
def keyRows (k : FVec Ideal S4x4x4096x64 .bf16) : FVec Ideal S4x4x4096x128 .bf16 :=
  concatenate S4x4x4096x128 3 [⟨S4x4x4096x64, k⟩, ⟨S4x4x4096x64, broadcastInDim S4x4x4096x64 ![2, 3] bcast_S4096x64_S4x4x4096x64_2_3
    (sitofp .bf16 (select (broadcastInDim S4096x64 ![0, 1] bcast_S1x64_S4096x64_0_1 (cmpi .slt
      (broadcastInDim S1x64 ![1] bcast_S64_S1x64_1 (iotaInDim S64 32 0)) (broadcastInDim S1x64 ![] bcast_S_S1x64 (constantI S_ 32 3#32))))
      (broadcastInDim S4096x64 ![0, 1] bcast_S4096x1_S4096x64_0_1 (andi (broadcastInDim S4096x1 ![0] bcast_S4096_S4096x1_0 (iotaInDim S4096 32 0))
        (broadcastInDim S4096x1 ![] bcast_S_S4096x1 (constantI S_ 32 127#32))))
      (broadcastInDim S4096x64 ![] bcast_S_S4096x64 (id (constantI S_ 32 0#32)))))⟩]
    concatenates_S4x4x4096x64_S4x4x4096x64_S4x4x4096x128_d3

theorem V_keys (c : Dev nD) : V m c main_v11 = keyRows (m ((c : Thread nD τ).loc main_arg1)) := by
  unfold V keyRows
  simp only [List.flatten, List.append, hostOps0, hostOps0_1, hostOps0_2]
  after_results_simp <;> rfl

theorem V_slopes (c : Dev nD) : V m c main_v21 = Ref.slopes := by
  unfold V Ref.slopes
  simp only [List.flatten, List.append, hostOps0, hostOps0_1, hostOps0_2]
  after_results_simp <;> rfl

theorem keyRows_key (k : FVec Ideal S4x4x4096x64 .bf16) (b h : Fin 4) (s : Fin 4096) (d : Fin 64) :
    keyRows k (ix4 b h s (Fin.castAdd 64 d)) = k (ix4 b h s d) := by
  pointwise [keyRows]
  exact dif_pos d.isLt

/-- A key's place in its tile, as a bit mask gives it. -/
theorem place_in_tile : ∀ s : Fin 4096, (IntOp.andi (BitVec.ofNat 32 s.val) 127#32).toInt = ((s.val % 128 : ℕ) : ℤ) := by decide +kernel

theorem keyRows_place (k : FVec Ideal S4x4x4096x64 .bf16) (b h : Fin 4) (s : Fin 4096) (d : Fin 64) (hd : d.val = 0) :
    keyRows k (ix4 b h s (Fin.natAdd 64 d)) = (((s.val % 128 : ℕ) : ℝ) : EReal) := by
  have e := place_in_tile s
  pointwise [keyRows]
  rw [dif_neg (by simp)]
  simp only [Fin.natAdd, hd, Nat.add_zero, Nat.sub_self]
  show (((IntOp.andi (BitVec.ofNat 32 s.val) 127#32).toInt : ℝ) : EReal) = _
  rw [e, Int.cast_natCast]

variable (c : Dev nD) (t : Fin cfg0.N)

/-- Where a head's slope stands, as the body computes it. -/
theorem slope_place : ∀ n r : Fin 4, (Scalar.indexCast (Scalar.addi (Scalar.muli (BitVec.ofNat 32 n.val) 4#32) (BitVec.ofNat 32 r.val))).toNat
    = n.val * 4 + r.val := by decide +kernel

/-- The slope of head `r` of the point's group. -/
theorem slope_at (r : Fin 4) (j : Fin 16) (hj : j.val = t.val / 32 % 4 * 4 + r.val) :
    slopeOf (grid0.coords t) (iblk m c 0 t) r = Ref.slopes (ix1 j) := by
  rw [← V_slopes m c]
  have h1 := (coords_at t).2
  unfold slopeOf
  refine (View.ld_unit_apply_of (iblk m c 0 t) _ _ _ _ (ix1 j) fun a => ?_).trans (congrArg (V m c main_v21) (funext fun a => Fin.ext ?_))
  · have ha : a = 0 := Subsingleton.elim (α := Fin 1) _ _
    subst ha
    rw [← h1] at hj
    refine hj.trans ?_
    have e' := slope_place (grid0.coords t 1) r
    exact e'.symm
  · match a with
    | ⟨0, _⟩ => blk_simp [index_at t]

/-- The block of keys. -/
theorem key_at (b h : Fin 4) (hb : b.val = t.val / 128) (hh : h.val = t.val / 32 % 4) (s : Fin 4096) (d : Fin 128) :
    iblk m c 3 t (ix4 0 0 s d) = keyRows (m ((c : Thread nD τ).loc main_arg1)) (ix4 b h s d) := by
  rw [← V_keys m c]
  refine congrArg (V m c main_v11) (funext fun a => Fin.ext ?_)
  match a with
  | ⟨0, _⟩ => blk_simp [index_at t]; omega
  | ⟨1, _⟩ => blk_simp [index_at t]; omega
  | ⟨2, _⟩ => blk_simp [index_at t]
  | ⟨3, _⟩ => blk_simp [index_at t]

/-- The block of queries at point `t`. -/
theorem query_at (e : Fin 256) (r : Fin 128) (j : S4x1024x4096.Idx) (h0 : (j 0).val = t.val / 128)
    (h1 : (j 1).val = t.val / 32 % 4 * 256 + e.val) (h2 : (j 2).val = t.val % 32 * 128 + r.val) :
    iblk m c 2 t (ix3 0 e r) = m ((c : Thread nD τ).loc main_arg0) j := by
  blk_point [iblk, V, index_at t]

/-- The block of values. -/
theorem value_at (d : Fin 64) (s : Fin 4096) (j : S4x4x64x4096.Idx) (h0 : (j 0).val = t.val / 128)
    (h1 : (j 1).val = t.val / 32 % 4) (h2 : (j 2).val = d.val) (h3 : (j 3).val = s.val) :
    iblk m c 4 t (ix4 0 0 d s) = m ((c : Thread nD τ).loc main_arg2) j := by
  blk_point [iblk, V, index_at t]

theorem start_at (g : Fin 512) (σ : ℕ → EReal) (v : Fin 64 → ℕ → EReal) {a b : ℕ} (e : a = b) : Lane σ v ⊥ 0 g a b start :=
  e ▸ start_lane g σ v a

/-- The block point `t` leaves is some sums over each query's window, divided. -/
theorem block_exact {S : Fin 4 → ℝ} (hR : Reads (slopeOf (grid0.coords t) (iblk m c 0 t)) (iblk m c 3 t) S) :
    ∃ s, outsAt0 m c t.val t.isLt = outOf s ∧ ∀ g, Exact (score (grid0.coords t 2).val 512 (iblk m c 2 t) (iblk m c 3 t) S g)
      (value (iblk m c 4 t)) ⊥ 0 g (((grid0.coords t 2).val - 4) * 128) ((grid0.coords t 2).val * 128 + 128) s := by
  have hi := (coords_at t).1
  by_cases h3 : 1 ≤ t.val % 32
  · by_cases h2 : 2 ≤ t.val % 32
    · by_cases h1 : 3 ≤ t.val % 32
      · by_cases h0 : 4 ≤ t.val % 32
        · refine ⟨_, outs_E m c t h0 h1 h2 h3, fun g => ?_⟩
          exact last_exact _ _ _ _ _ S hR g _ (by omega) (fourth_lane _ _ _ _ _ S hR g _ (by omega) (by omega)
            (third_lane _ _ _ _ _ S hR g _ (by omega) (by omega) (second_lane _ _ _ _ _ S hR g _ (by omega) (by omega)
              (first_lane _ _ _ _ _ S hR g _ (by omega) (by omega) (start_at g _ _ (by omega))))))
        · refine ⟨_, outs_D m c t h0 h1 h2 h3, fun g => ?_⟩
          exact last_exact _ _ _ _ _ S hR g _ (by omega) (fourth_lane _ _ _ _ _ S hR g _ (by omega) (by omega)
            (third_lane _ _ _ _ _ S hR g _ (by omega) (by omega) (second_lane _ _ _ _ _ S hR g _ (by omega) (by omega)
              (start_at g _ _ (by omega)))))
      · refine ⟨_, outs_C m c t (by omega) h1 h2 h3, fun g => ?_⟩
        exact last_exact _ _ _ _ _ S hR g _ (by omega) (fourth_lane _ _ _ _ _ S hR g _ (by omega) (by omega)
          (third_lane _ _ _ _ _ S hR g _ (by omega) (by omega) (start_at g _ _ (by omega))))
    · refine ⟨_, outs_B m c t (by omega) (by omega) h2 h3, fun g => ?_⟩
      exact last_exact _ _ _ _ _ S hR g _ (by omega) (fourth_lane _ _ _ _ _ S hR g _ (by omega) (by omega) (start_at g _ _ (by omega)))
  · refine ⟨_, outs_A m c t (by omega) (by omega) (by omega) h3, fun g => ?_⟩
    exact last_exact _ _ _ _ _ S hR g _ (by omega) (start_at g _ _ (by omega))

/-- An entry of the block that point `t` writes is the reference's entry there. -/
theorem entry_eq (r : Fin 128) (e : Fin 256) (b : Fin 4) (T : Fin 4096) (E : Fin 1024) (hb : b.val = t.val / 128)
    (hT : T.val = t.val % 32 * 128 + r.val) (hE : E.val = t.val / 32 % 4 * 256 + e.val) :
    outsAt0 m c t.val t.isLt (ix3 0 r e) = Ref.attention (m ((c : Thread nD τ).loc main_arg0)) (m ((c : Thread nD τ).loc main_arg1))
      (m ((c : Thread nD τ).loc main_arg2)) (ix3 b T E) := by
  have hi := (coords_at t).1
  have hr := r.isLt
  have he := e.isLt
  choose S hS using fun r : Fin 4 => Ref.slopes_real ⟨t.val / 32 % 4 * 4 + r.val, by omega⟩
  have hR : Reads (slopeOf (grid0.coords t) (iblk m c 0 t)) (iblk m c 3 t) S := ⟨fun r => (slope_at m c t r _ rfl).trans (hS r),
    fun s k hk => (key_at m c t b ⟨t.val / 32 % 4, by omega⟩ hb rfl s _).trans (keyRows_place _ _ _ s k hk)⟩
  obtain ⟨s, hs, hx⟩ := block_exact m c t hR
  rw [hs, out_exact (grid0.coords t) r e (hx _),
    Ref.attention_eq _ _ _ b T E (dots (iblk m c 2 t) (iblk m c 3 t) ⟨e.val / 64 * 128 + r.val, by omega⟩)
      (value (iblk m c 4 t) ⟨e.val % 64, by omega⟩) (S ⟨e.val / 64, by omega⟩) (fun s => ?_) (fun s => ?_) ?_]
  · have e1 : (grid0.coords t 2).val * 128 + r.val = T.val := by omega
    have e2 : T.val / 128 * 128 = (grid0.coords t 2).val * 128 := by omega
    rw [e1]
    refine congrArg (quotient T.val · _) (funext fun s => ?_)
    unfold score slope
    have e3 : (e.val / 64 * 128 + r.val) % 128 = r.val := by omega
    have e4 : (e.val / 64 * 128 + r.val) / 128 = e.val / 64 := by omega
    simp only [e3, e4, e1, e2]
  · rw [← hS]
    refine congrArg (fun j => Ref.slopes (ix1 j)) (Fin.ext ?_)
    dsimp only
    omega
  · rw [Ref.logits_apply, dots]
    refine Finset.sum_congr rfl fun d _ => (mul_comm _ _).trans (congrArg₂ (· * ·) ?_ ?_)
    · rw [dif_pos s.isLt]
      exact ((key_at m c t b ⟨E.val / 256, by omega⟩ hb (by dsimp only; omega) s _).trans (keyRows_key _ _ _ s d)).symm
    · exact (query_at m c t _ _ _ hb (by dsimp [ix3]; omega) (by dsimp [ix3]; omega)).symm
  · unfold value
    rw [dif_pos s.isLt]
    exact (value_at m c t _ s _ hb (by dsimp [ix4]; omega) (by dsimp [ix4]; omega) rfl).symm

/-- The result's array. -/
theorem array_eq : (dats m 0 c).arrAt 5 cfg0.N = Ref.attention (m ((c : Thread nD τ).loc main_arg0))
    (m ((c : Thread nD τ).loc main_arg1)) (m ((c : Thread nD τ).loc main_arg2)) := by
  refine (dats m 0 c).arrAt_eq_of_covers 5 _ (by decide +kernel) fun t hf y => ?_
  have e0 : ((((cfg0.win 5).blk t).view.emb y) 0).val = t.val / 128 := by blk_simp [index_at t]
  have e1 : ((((cfg0.win 5).blk t).view.emb y) 1).val = t.val % 32 * 128 + (y 1).val := by blk_simp [index_at t]
  have e2 : ((((cfg0.win 5).blk t).view.emb y) 2).val = t.val / 32 % 4 * 256 + (y 2).val := by blk_simp [index_at t]
  have key := fun b T E => entry_eq m c t (y 1) (y 2) b T E
  have hy : (ix3 0 (y 1) (y 2) : S1x128x256.Idx) = y := by
    refine funext fun d => Fin.ext ?_
    match d with
    | ⟨0, _⟩ => exact (Nat.lt_one_iff.mp (y 0).isLt).symm
    | ⟨1, _⟩ => rfl
    | ⟨2, _⟩ => rfl
  rw [hy] at key
  blk_simp
  rw [after0_5]
  generalize Ref.attention (m ((c : Thread nD τ).loc main_arg0)) (m ((c : Thread nD τ).loc main_arg1))
    (m ((c : Thread nD τ).loc main_arg2)) = R at key ⊢
  generalize (((View.whole main_v23).slice (win0_5.rect t)).emb y) = j at e0 e1 e2 ⊢
  refine (key (j 0) (j 1) (j 2) e0 e1 e2).trans (congrArg R (funext fun d => ?_))
  match d with
  | ⟨0, _⟩ => rfl
  | ⟨1, _⟩ => rfl
  | ⟨2, _⟩ => rfl

/-- The window attention's idealization computes the reference's function of the arguments. -/
theorem algebraic : Cert.algebraic_Kernel8Ideal_Reference8Ideal := fun m g m' g' _ hagree =>
  ⟨fun c => Ref.attention (m ((c : Thread nD τ).loc main_arg0)) (m ((c : Thread nD τ).loc main_arg1)) (m ((c : Thread nD τ).loc main_arg2)),
    (θ_run defs _ _).mono (fun _ h c => ⟨(h c).1.trans (array_eq m c), (h c).2⟩) (Cert.Kernel8Ideal.Value.run_blocks m g),
    (θ_run Cert.Reference8Ideal.defs _ _).mono (fun _ h c => by
      obtain ⟨a0, a1, a2⟩ := hagree c
      obtain ⟨r0, kept⟩ := h c
      refine ⟨r0.trans ?_, kept⟩
      rw [Ref.res_eq, a0, a1, a2])
      (Cert.Reference8Ideal.Value.run m' g')⟩

end Cert.Proof.Band

end
-- ==== Proof.Sink.Cases.lean ====
/-
  What each grid point of the window attention with sinks leaves: the sinks at the start, then one step for the tile before
  the query's own (the first row block has none before it) and one for the query's own.
-/
module

public import proofs.«01_k».proof.Proof.Gen.Kernel9Ideal.Value
public import proofs.«01_k».proof.Proof.Band.Tile
public import Idealize.ShloMosaic.Lib.Pipeline.ValueKit

@[expose] public section

set_option maxRecDepth 16384

noncomputable section

namespace Cert.Proof.Sink

open Cert.Kernel9Ideal Cert.Kernel9Ideal.Gen Cert.Proof.Band
open Idealize.ShloMosaic Idealize.ShloMosaic.ValueKit Idealize.ShloMosaic.TcCoe Idealize.SL.Sem

/-- The number of head `r` of the point's group, out of one number per head. -/
def headOf (i : grid0.Coords) (x : Vec Ideal S16 .f32) (r : Fin 4) : EReal :=
  View.ld x (Rect.unit (s := S16) (k0_off1 i (BitVec.ofNat 32 r.val)) S1.size (k0_off1_inb i r)) (Shape.Idx.first (show 0 < S1.numel by decide))

variable (i : grid0.Coords) (x0 x1 : Vec Ideal S16 .f32) (x2 : Vec Ideal S1x256x128 .bf16) (x3 : Vec Ideal S1x1x4096x128 .bf16)
  (x4 : Vec Ideal S1x1x64x4096 .f32)

/-- The sinks, each at its query's own place. -/
def begin : State := (k0_pay30 (row (headOf i x0)) (row (headOf i x1)) k0_pay29, k0_pay31, k0_pay32)

/-- The tile before the query's own, of which it sees the keys not before its own place. -/
def far (h : k0_cond1 i = 1#1) : State → State :=
  step (kept farKeep (Band.scores (lanes (headOf i x0) x2) (keyTile x3 (k0_off2 i) (k0_off2_inb i h)))) (shift (row (headOf i x0)) 0x43000000#32)
    (valueTile x4 (k0_off3 i) (k0_off3_inb i h))

/-- The query's own tile, of which it sees the keys not after its own place. -/
def own (h : k0_cond2 i = 1#1) : State → State :=
  step (kept ownKeep (Band.scores (lanes (headOf i x0) x2) (keyTile x3 (k0_off4 i) (k0_off4_inb i h)))) (shift (row (headOf i x0)) 0x00000000#32)
    (valueTile x4 (k0_off5 i) (k0_off5_inb i h))

/-- What goes out. -/
def outOf (s : State) : FVec Ideal S1x128x256 .bf16 :=
  k0_pay1 (k0_pay38 s.2.2 s.2.1) (k0_pay39 s.2.2 s.2.1) (k0_pay40 s.2.2 s.2.1) (k0_pay41 s.2.2 s.2.1)

variable (m : (ℓ : Loc nD τ sig) → Buf (Elt Ideal) ℓ) (c : Dev nD) (t : Fin cfg0.N)

theorem outs_A (h0 : ¬1 ≤ t.val % 32) :
    outsAt0 m c t.val t.isLt = outOf (own (grid0.coords t) (iblk m c 0 t) (iblk m c 2 t) (iblk m c 3 t) (iblk m c 4 t)
      (hcond0_1 t) (begin (grid0.coords t) (iblk m c 0 t) (iblk m c 1 t))) := by
  rw [outsAt0_A m c t h0]
  frame_out
  rfl

theorem outs_B (h0 : 1 ≤ t.val % 32) :
    outsAt0 m c t.val t.isLt = outOf (own (grid0.coords t) (iblk m c 0 t) (iblk m c 2 t) (iblk m c 3 t) (iblk m c 4 t) (hcond0_1 t)
      (far (grid0.coords t) (iblk m c 0 t) (iblk m c 2 t) (iblk m c 3 t) (iblk m c 4 t) ((hcond0_0 t).mpr h0)
        (begin (grid0.coords t) (iblk m c 0 t) (iblk m c 1 t)))) := by
  rw [outsAt0_B m c t h0]
  frame_out
  rfl

end Cert.Proof.Sink

end
-- ==== Proof.Sink.Block.lean ====
/-
  The block one grid point of the window attention with sinks leaves: each entry is one query's sum of weighted values,
  divided by its sum of weights with the sink's weight in it.
-/
module

public import proofs.«01_k».proof.Proof.Band.Window
public import proofs.«01_k».proof.Proof.Sink.Cases

@[expose] public section

set_option maxRecDepth 16384

noncomputable section

namespace Cert.Proof.Sink

open Cert.Kernel9Ideal Cert.Kernel9Ideal.Gen Cert.Proof.Band
open Idealize.ShloMosaic Idealize.ShloMosaic.ValueKit Idealize.ShloMosaic.TcCoe Idealize.SL.Sem

/-- Where a tile starts, as the body computes it. -/
theorem start_eq : ∀ n : Fin 32, ∀ k : Fin 2, 1 ≤ n.val + k.val →
    (Scalar.indexCast (Scalar.muli (Scalar.addi (Scalar.subi (BitVec.ofNat 32 n.val) 1#32) (BitVec.ofNat 32 k.val)) 128#32)).toNat
      = (n.val + k.val - 1) * 128 := by decide +kernel

theorem off2_eq (i : grid0.Coords) (h : 1 ≤ (i 2).val) : k0_off2 i = ![0, 0, ((i 2).val - 1) * 128, 0] :=
  congrArg (fun n => (![0, 0, n, 0] : Fin 4 → ℕ)) (start_eq (i 2) 0 h)
theorem off3_eq (i : grid0.Coords) (h : 1 ≤ (i 2).val) : k0_off3 i = ![0, 0, 0, ((i 2).val - 1) * 128] :=
  congrArg (fun n => (![0, 0, 0, n] : Fin 4 → ℕ)) (start_eq (i 2) 0 h)
theorem off4_eq (i : grid0.Coords) : k0_off4 i = ![0, 0, (i 2).val * 128, 0] :=
  congrArg (fun n => (![0, 0, n, 0] : Fin 4 → ℕ)) (start_eq (i 2) 1 (Nat.le_add_left _ _))
theorem off5_eq (i : grid0.Coords) : k0_off5 i = ![0, 0, 0, (i 2).val * 128] :=
  congrArg (fun n => (![0, 0, 0, n] : Fin 4 → ℕ)) (start_eq (i 2) 1 (Nat.le_add_left _ _))

/-- A lane's place in its row block, as a number. -/
theorem place_int : ∀ g : Fin 512, (IntOp.andi (BitVec.ofNat 32 g.val) 127#32).toInt = ((g.val % 128 : ℕ) : ℤ) := by decide +kernel

theorem begin_apply (a b : FVec Ideal S1x512 .f32) (g : Fin 512) :
    k0_pay30 a b k0_pay29 (ix2 0 g) = b (ix2 0 g) + a (ix2 0 g) * (((g.val % 128 : ℕ) : ℝ) : EReal) := by
  have e := place_int g
  unfold k0_pay30
  rw [shapeCast_self]
  pointwise [k0_pay29]
  show _ + _ * (((IntOp.andi (BitVec.ofNat 32 g.val) 127#32).toInt : ℝ) : EReal) = _
  rw [e, Int.cast_natCast]

/-- The sums go out one head after another, each transposed and divided by its weights. -/
theorem result_apply (acc : Vec Ideal S64x512 .f32) (l : Vec Ideal S1x512 .f32) (r : Fin 128) (e : Fin 256) :
    k0_pay1 (k0_pay38 acc l) (k0_pay39 acc l) (k0_pay40 acc l) (k0_pay41 acc l) (ix3 0 r e)
      = Ideal.div (acc (ix2 ⟨e.val % 64, by omega⟩ ⟨e.val / 64 * 128 + r.val, by omega⟩))
        (l (ix2 0 ⟨e.val / 64 * 128 + r.val, by omega⟩)) := by
  have he := e.isLt
  pointwise [k0_pay1, k0_pay37, k0_pay38, k0_pay39, k0_pay40, k0_pay41]
  split_ifs <;> refine congrArg₂ Ideal.div (congrArg acc ?_) (congrArg l ?_) <;> congr 1 <;> apply Fin.ext <;> dsimp only <;> omega

section
variable (i : grid0.Coords) (x0 x1 : Vec Ideal S16 .f32) (x2 : Vec Ideal S1x256x128 .bf16) (x3 : Vec Ideal S1x1x4096x128 .bf16)
  (x4 : Vec Ideal S1x1x64x4096 .f32) (S : Fin 4 → ℝ) (hR : Reads (headOf i x0) x3 S) (g : Fin 512)

/-- Lane `g`'s sink, its distance taken from the start of the row block. -/
def sinkAt : EReal := headOf i x1 ⟨g.val / 128, by omega⟩ + ((slope S g * ((g.val % 128 : ℕ) : ℝ) : ℝ) : EReal)

include hR

theorem begin_lane (σ : ℕ → EReal) (v : Fin 64 → ℕ → EReal) (a : ℕ) : Lane σ v (sinkAt i x1 S g) 1 g a a (begin i x0 x1) := by
  have e1 : (begin i x0 x1).1 (ix2 0 g) = sinkAt i x1 S g := by
    refine (begin_apply _ _ g).trans (congrArg₂ (· + ·) ?_ ?_)
    · refine (row_apply _ _ _ _ g).trans ?_
      have : ∀ r : Fin 4, ![headOf i x1 0, headOf i x1 1, headOf i x1 2, headOf i x1 3] r = headOf i x1 r := fun r => by
        fin_cases r <;> rfl
      exact this _
    · rw [row_at (headOf i x0) x3 S hR g, EReal.coe_mul]
  have e2 : (begin i x0 x1).2.1 (ix2 0 g) = 1 := by
    show Ideal.ofBits .f32 0x3F800000#32 = ((1 : ℝ) : EReal)
    simp [Ideal.ofBits, Ideal.ieee, -EReal.coe_mul]; norm_num
  have e3 : ∀ d, (begin i x0 x1).2.2 (ix2 d g) = 0 := fun d => Ideal.ofBits_zero_f32
  unfold Lane
  rw [e1, e2]
  exact ⟨holds_zero .., fun d => by rw [e3]; exact holds_zero ..⟩

theorem far_lane (h : k0_cond1 i = 1#1) (h1 : 1 ≤ (i 2).val) {a : ℕ} (ha : a ≤ ((i 2).val - 1) * 128) {s : State} (M0 L0 : EReal)
    (H : Lane (score (i 2).val 128 x2 x3 S g) (value x4) M0 L0 g a (((i 2).val - 1) * 128) s) :
    Lane (score (i 2).val 128 x2 x3 S g) (value x4) M0 L0 g a ((i 2).val * 128) (far i x0 x2 x3 x4 h s) := by
  have hi : (i 2).val < 32 := (i 2).isLt
  have e : (i 2).val * 128 = ((i 2).val - 1) * 128 + 128 := by omega
  rw [e]
  refine (tile_lane _ 128 _ x2 x3 x4 S hR g M0 L0 (n := (i 2).val - 1) (c := 1) (by omega) ha ?_ (fun k => ?_) (fun d k => ?_) H).2
  · simp [Ideal.ofBits, Ideal.ieee, -EReal.coe_mul]; norm_num
  · rw [kept_apply, scores_at _ x2 x3 S hR g ((i 2).val - 1) (off2_eq i h1) (by omega)]
    refine if_congr ((far_apply k g).trans ?_) rfl rfl
    omega
  · exact value_at' _ x3 x4 S hR ((i 2).val - 1) (off3_eq i h1) (by omega) d k

/-- The query's own tile, after which the sums are those of the whole window. -/
theorem own_exact (h : k0_cond2 i = 1#1) {a : ℕ} (ha : a ≤ (i 2).val * 128) {s : State} (M0 L0 : EReal)
    (H : Lane (score (i 2).val 128 x2 x3 S g) (value x4) M0 L0 g a ((i 2).val * 128) s) :
    Exact (score (i 2).val 128 x2 x3 S g) (value x4) M0 L0 g a ((i 2).val * 128 + 128) (own i x0 x2 x3 x4 h s) := by
  have hi : (i 2).val < 32 := (i 2).isLt
  refine (tile_lane _ 128 _ x2 x3 x4 S hR g M0 L0 (n := (i 2).val) (c := 0) rfl ha ?_ (fun k => ?_) (fun d k => ?_) H).1
  · simp [Ideal.ofBits, Ideal.ieee]
  · rw [kept_apply, scores_at _ x2 x3 S hR g (i 2).val (off4_eq i) (by omega)]
    refine if_congr ((own_apply k g).trans ?_) rfl rfl
    omega
  · exact value_at' _ x3 x4 S hR (i 2).val (off5_eq i) (by omega) d k

omit hR in
/-- What the sums give out. -/
theorem out_exact {σ : ℕ → EReal} {v : Fin 64 → ℕ → EReal} {M0 : EReal} {a b : ℕ} {s : State} (r : Fin 128) (e : Fin 256)
    (H : Exact σ v M0 1 ⟨e.val / 64 * 128 + r.val, by omega⟩ a b s) :
    outOf s (ix3 0 r e) = ratio a b M0 σ (v ⟨e.val % 64, by omega⟩) := by
  refine (result_apply _ _ r e).trans ?_
  exact congrArg₂ Ideal.div (H.2 _) H.1

end

end Cert.Proof.Sink

end
-- ==== Proof.Sink.Reference.lean ====
/-
  The reference's window attention with sinks, entry by entry. Its scores are those of the reference's other window
  attention, with a shorter window; each part that is the same there is stated to be.
-/
module

public import proofs.«01_k».proof.Proof.Band.Reference
public import proofs.«01_k».proof.Proof.Gen.Reference9Ideal.Run

@[expose] public section

set_option maxRecDepth 16384

noncomputable section

namespace Cert.Proof.Sink.Ref

open Cert.Reference9Ideal Cert.Reference9Ideal.Gen Cert.Proof.Band
open Idealize.ShloMosaic Idealize.ShloMosaic.TcCoe Idealize.SL.Sem

/-- How far each key is behind each query. -/
def behind : IVec S4096x4096 32 := subi
  (broadcastInDim S4096x4096 ![0, 1] bcast_S4096x1_S4096x4096_0_1 (broadcastInDim S4096x1 ![0] bcast_S4096_S4096x1_0 (iotaInDim S4096 32 0)))
  (broadcastInDim S4096x4096 ![0, 1] bcast_S1x4096_S4096x4096_0_1 (broadcastInDim S1x4096 ![1] bcast_S4096_S1x4096_1 (iotaInDim S4096 32 0)))

/-- Which keys a query sees. -/
def seen : IVec S4096x4096 1 := andi (cmpi .sge behind (broadcastInDim S4096x4096 ![] bcast_S_S4096x4096 (constantI S_ 32 0#32)))
  (cmpi .sle behind (broadcastInDim S4096x4096 ![] bcast_S_S4096x4096 (constantI S_ 32 128#32)))

/-- The heads' slopes. -/
def slopes : FVec Ideal S16 .f32 := Host.exp (mulf (broadcastInDim S16 ![] bcast_S_S16 (constant S_ .f32 0x3F317218#32))
  (Host.divf (mulf (broadcastInDim S16 ![] bcast_S_S16 (constant S_ .f32 0xC1000000#32))
    (addf (broadcastInDim S16 ![] bcast_S_S16 (constant S_ .f32 0x3F800000#32)) (sitofp .f32 (iotaInDim S16 32 0))))
    (broadcastInDim S16 ![] bcast_S_S16 (constant S_ .f32 0x41800000#32))))

/-- The logits. -/
def logits (q : FVec Ideal S4x1024x4096 .bf16) (k : FVec Ideal S4x4x4096x64 .bf16) : FVec Ideal S4x4x4x4096x4096 .f32 :=
  Host.dotGeneral dot_S4x4x4x64x4096_S4x4x4096x64_S4x4x4x4096x4096_3_3_24_2_01_01 none
    (shapeCast _ (extf .f32 q bitsLt_bf16_f32) shapeCasts_S4x1024x4096_S4x4x4x64x4096) (extf .f32 k bitsLt_bf16_f32)

/-- What a key's distance takes off. -/
def bias (sl : FVec Ideal S16 .f32) : FVec Ideal S4x4x4x4096x4096 .f32 :=
  broadcastInDim S4x4x4x4096x4096 ![0, 1, 2, 3, 4] bcast_S1x4x4x4096x4096_S4x4x4x4096x4096_0_1_2_3_4
    (broadcastInDim S1x4x4x4096x4096 ![1, 2, 3, 4] bcast_S4x4x4096x4096_S1x4x4x4096x4096_1_2_3_4 (mulf
      (broadcastInDim S4x4x4096x4096 ![0, 1, 2, 3] bcast_S4x4x1x1_S4x4x4096x4096_0_1_2_3
        (broadcastInDim S4x4x1x1 ![0, 1] bcast_S4x4_S4x4x1x1_0_1 (shapeCast _ sl shapeCasts_S16_S4x4)))
      (broadcastInDim S4x4x4096x4096 ![0, 1, 2, 3] bcast_S1x1x4096x4096_S4x4x4096x4096_0_1_2_3
        (broadcastInDim S1x1x4096x4096 ![2, 3] bcast_S4096x4096_S1x1x4096x4096_2_3 (sitofp .f32 behind)))))

/-- The scores. -/
def scores (q : FVec Ideal S4x1024x4096 .bf16) (k : FVec Ideal S4x4x4096x64 .bf16) : FVec Ideal S4x4x4x4096x4096 .f32 :=
  select (broadcastInDim S4x4x4x4096x4096 ![3, 4] bcast_S4096x4096_S4x4x4x4096x4096_3_4 seen) (subf (logits q k) (bias slopes))
    (broadcastInDim S4x4x4x4096x4096 ![] bcast_S_S4x4x4x4096x4096 (id (constant S_ .f32 0xFF800000#32)))

/-- Each query's greatest score of a key. -/
def greatestKey (z : FVec Ideal S4x4x4x4096x4096 .f32) : FVec Ideal S4x4x4x4096 .f32 :=
  Host.reduce FloatOps.maximumf z (constant S_ .f32 0xFF800000#32) reducesTo_S4x4x4x4096x4096_S4x4x4x4096_d4 h_S_

/-- The keys' weights' sums. -/
def totalKeys (w : FVec Ideal S4x4x4x4096x4096 .f32) : FVec Ideal S4x4x4x4096 .f32 :=
  Host.reduceAdd w (constant S_ .f32 0x00000000#32) reducesTo_S4x4x4x4096x4096_S4x4x4x4096_d4 h_S_

/-- The weighted values. -/
def summed (v : FVec Ideal S4x4x64x4096 .f32) (w : FVec Ideal S4x4x4x4096x4096 .f32) : FVec Ideal S4x4x64x4x4096 .f32 :=
  Host.dotGeneral dot_S4x4x64x4096_S4x4x4x4096x4096_S4x4x64x4x4096_3_4_2_23_01_01 none v w

theorem greatestKey_eq (z : FVec Ideal S4x4x4x4096x4096 .f32) : greatestKey z = Band.Ref.greatest z := rfl
theorem totalKeys_eq (w : FVec Ideal S4x4x4x4096x4096 .f32) : totalKeys w = Band.Ref.totals w := rfl
theorem summed_eq (v : FVec Ideal S4x4x64x4096 .f32) (w : FVec Ideal S4x4x4x4096x4096 .f32) : summed v w = Band.Ref.summed v w := rfl
theorem seen_eq : seen = Band.Ref.seen 128#32 := rfl
theorem slopes_eq : slopes = Band.Ref.slopes := rfl
theorem logits_eq (q : FVec Ideal S4x1024x4096 .bf16) (k : FVec Ideal S4x4x4096x64 .bf16) : logits q k = Band.Ref.logits q k := rfl
theorem bias_eq (sl : FVec Ideal S16 .f32) : bias sl = Band.Ref.bias sl := rfl
theorem scores_eq (q : FVec Ideal S4x1024x4096 .bf16) (k : FVec Ideal S4x4x4096x64 .bf16) : scores q k = Band.Ref.scores 128#32 q k := by
  rw [scores, seen_eq, slopes_eq, bias_eq, logits_eq]
  rfl

/-- The heads' sinks, at every query. -/
def sinkOf (k : FVec Ideal S16 .f32) : FVec Ideal S4x4x4x4096x1 .f32 :=
  broadcastInDim S4x4x4x4096x1 ![0, 1, 2, 3, 4] bcast_S1x4x4x1x1_S4x4x4x4096x1_0_1_2_3_4
    (broadcastInDim S1x4x4x1x1 ![1, 2, 3, 4] bcast_S4x4x1x1_S1x4x4x1x1_1_2_3_4
      (broadcastInDim S4x4x1x1 ![0, 1] bcast_S4x4_S4x4x1x1_0_1 (shapeCast _ k shapeCasts_S16_S4x4)))

/-- Each query's greatest score, the sink's among them. -/
def greatest (z : FVec Ideal S4x4x4x4096x4096 .f32) (k : FVec Ideal S4x4x4x4096x1 .f32) : FVec Ideal S4x4x4x4096x1 .f32 :=
  maximumf (broadcastInDim S4x4x4x4096x1 ![0, 1, 2, 3] bcast_S4x4x4x4096_S4x4x4x4096x1_0_1_2_3 (greatestKey z)) k

/-- The weights, measured from a given score of each query. -/
def weights (z : FVec Ideal S4x4x4x4096x4096 .f32) (M : FVec Ideal S4x4x4x4096x1 .f32) : FVec Ideal S4x4x4x4096x4096 .f32 :=
  Host.exp (subf z (broadcastInDim S4x4x4x4096x4096 ![0, 1, 2, 3, 4] bcast_S4x4x4x4096x1_S4x4x4x4096x4096_0_1_2_3_4 M))

/-- The weights' sums, the sink's weight in them. -/
def totals (w : FVec Ideal S4x4x4x4096x4096 .f32) (k M : FVec Ideal S4x4x4x4096x1 .f32) : FVec Ideal S4x4x4x4096x1 .f32 :=
  addf (broadcastInDim S4x4x4x4096x1 ![0, 1, 2, 3] bcast_S4x4x4x4096_S4x4x4x4096x1_0_1_2_3 (totalKeys w)) (Host.exp (subf k M))

/-- The division, and the order of the result's axes. -/
def divided (acc : FVec Ideal S4x4x64x4x4096 .f32) (l : FVec Ideal S4x4x4x4096x1 .f32) : FVec Ideal S4x4096x1024 .bf16 :=
  truncf .bf16 (shapeCast S4x4096x1024 (Host.divf (transpose S4x4096x4x4x64 [0, 4, 1, 3, 2] acc transposes_S4x4x64x4x4096_S4x4096x4x4x64_0_4_1_3_2)
    (broadcastInDim S4x4096x4x4x64 ![0, 1, 2, 3, 4] bcast_S4x4096x4x4x1_S4x4096x4x4x64_0_1_2_3_4
      (transpose S4x4096x4x4x1 [0, 3, 1, 2, 4] l transposes_S4x4x4x4096x1_S4x4096x4x4x1_0_3_1_2_4))) shapeCasts_S4x4096x4x4x64_S4x4096x1024)
    bitsLt_bf16_f32

/-- The attention, from its scores. -/
def attend (z : FVec Ideal S4x4x4x4096x4096 .f32) (v : FVec Ideal S4x4x64x4096 .f32) (k : FVec Ideal S4x4x4x4096x1 .f32) :
    FVec Ideal S4x4096x1024 .bf16 :=
  divided (summed v (weights z (greatest z k))) (totals (weights z (greatest z k)) k (greatest z k))

/-- The attention. -/
def attention (q : FVec Ideal S4x1024x4096 .bf16) (k : FVec Ideal S4x4x4096x64 .bf16) (v : FVec Ideal S4x4x64x4096 .f32)
    (sinks : FVec Ideal S16 .f32) : FVec Ideal S4x4096x1024 .bf16 :=
  attend (scores q k) v (sinkOf sinks)

/-- It is what the reference's run leaves. -/
theorem res_eq (m : (ℓ : Loc nD τ sig) → Buf (Elt Ideal) ℓ) (c : Dev nD) : Cert.Reference9Ideal.Value.res_main_v59 m c
    = attention (m ((c.tc : Thread nD τ).loc main_arg0)) (m ((c.tc : Thread nD τ).loc main_arg1)) (m ((c.tc : Thread nD τ).loc main_arg2))
      (m ((c.tc : Thread nD τ).loc main_arg3)) := by
  unfold Cert.Reference9Ideal.Value.res_main_v59 attention attend divided totals weights greatest sinkOf summed totalKeys greatestKey scores bias logits slopes seen behind
  rfl

theorem sinkOf_apply (k : FVec Ideal S16 .f32) (b kk g : Fin 4) (t : Fin 4096) :
    sinkOf k (ix5 b kk g t 0) = k (ix1 ⟨kk.val * 4 + g.val, by omega⟩) := by
  pointwise [sinkOf]

theorem greatestKey_apply (z : FVec Ideal S4x4x4x4096x4096 .f32) (b kk g : Fin 4) (t : Fin 4096) :
    greatestKey z (ix4 b kk g t) = Finset.univ.fold max ⊥ fun s : Fin 4096 => z (ix5 b kk g t s) := by
  pointwise [greatestKey]
  rw [Band.Ref.bits_bot]

/-- One number per query, given an axis of one more. -/
theorem spread_apply (G : FVec Ideal S4x4x4x4096 .f32) (b kk g : Fin 4) (t : Fin 4096) :
    broadcastInDim S4x4x4x4096x1 ![0, 1, 2, 3] bcast_S4x4x4x4096_S4x4x4x4096x1_0_1_2_3 G (ix5 b kk g t 0) = G (ix4 b kk g t) := by
  pointwise []

theorem greatest_apply (z : FVec Ideal S4x4x4x4096x4096 .f32) (k : FVec Ideal S4x4x4x4096x1 .f32) (b kk g : Fin 4) (t : Fin 4096) :
    greatest z k (ix5 b kk g t 0) = max (Finset.univ.fold max ⊥ fun s : Fin 4096 => z (ix5 b kk g t s)) (k (ix5 b kk g t 0)) := by
  rw [← greatestKey_apply, ← spread_apply (greatestKey z)]
  unfold greatest
  exact ValueIdx.maximumf_apply _ _ _

theorem weights_apply (z : FVec Ideal S4x4x4x4096x4096 .f32) (M : FVec Ideal S4x4x4x4096x1 .f32) (b kk g : Fin 4) (t s : Fin 4096) :
    weights z M (ix5 b kk g t s) = Ideal.exp (z (ix5 b kk g t s) - M (ix5 b kk g t 0)) := by
  pointwise [weights]

theorem totalKeys_apply (w : FVec Ideal S4x4x4x4096x4096 .f32) (b kk g : Fin 4) (t : Fin 4096) :
    totalKeys w (ix4 b kk g t) = ∑ s : Fin 4096, w (ix5 b kk g t s) := by
  pointwise [totalKeys]

theorem totals_apply (w : FVec Ideal S4x4x4x4096x4096 .f32) (k M : FVec Ideal S4x4x4x4096x1 .f32) (b kk g : Fin 4) (t : Fin 4096) :
    totals w k M (ix5 b kk g t 0) = ∑ s : Fin 4096, w (ix5 b kk g t s) + Ideal.exp (k (ix5 b kk g t 0) - M (ix5 b kk g t 0)) := by
  have e := totalKeys_apply w b kk g t
  unfold totals
  generalize totalKeys w = G at e
  rw [← e]
  pointwise []

theorem divided_apply (acc : FVec Ideal S4x4x64x4x4096 .f32) (l : FVec Ideal S4x4x4x4096x1 .f32) (b : Fin 4) (t : Fin 4096) (e : Fin 1024) :
    divided acc l (ix3 b t e) = Ideal.div (acc (ix5 b ⟨e.val / 256, by omega⟩ ⟨e.val % 64, by omega⟩ ⟨e.val / 64 % 4, by omega⟩ t))
      (l (ix5 b ⟨e.val / 256, by omega⟩ ⟨e.val / 64 % 4, by omega⟩ t 0)) := by
  pointwise [divided]

/-- An entry, from the query's logits, the values and the sink, given as numbers. -/
theorem attention_eq (q : FVec Ideal S4x1024x4096 .bf16) (k : FVec Ideal S4x4x4096x64 .bf16) (v : FVec Ideal S4x4x64x4096 .f32)
    (sinks : FVec Ideal S16 .f32) (b : Fin 4) (t : Fin 4096) (e : Fin 1024) (Z V : ℕ → EReal) (S : ℝ)
    (hZ : ∀ s : Fin 4096, Band.Ref.logits q k (ix5 b ⟨e.val / 256, by omega⟩ ⟨e.val / 64 % 4, by omega⟩ t s) = Z s.val)
    (hV : ∀ s : Fin 4096, v (ix4 b ⟨e.val / 256, by omega⟩ ⟨e.val % 64, by omega⟩ s) = V s.val)
    (hS : Band.Ref.slopes (ix1 ⟨e.val / 256 * 4 + e.val / 64 % 4, by omega⟩) = (S : EReal)) :
    attention q k v sinks (ix3 b t e) = ratio ((t.val / 128 - 1) * 128) (t.val / 128 * 128 + 128)
      (sinks (ix1 ⟨e.val / 256 * 4 + e.val / 64 % 4, by omega⟩) + ((S * ((t.val : ℝ) - (t.val / 128 * 128 : ℕ)) : ℝ) : EReal))
      (fun s => if s ≤ t.val ∧ t.val ≤ s + 128 then Z s + ((S * ((s : ℝ) - (t.val / 128 * 128 : ℕ)) : ℝ) : EReal) else ⊥) V := by
  have ht := t.isLt
  rw [← ratio_eq (by omega) _ _ (fun s => if s ≤ t.val ∧ t.val ≤ s + 128 then Z s - ((S * ((t.val : ℝ) - s) : ℝ) : EReal) else ⊥) V
    (-(S * ((t.val : ℝ) - (t.val / 128 * 128 : ℕ)))) (fun s => ?_) (fun s hs => ?_)
    (sink := sinks (ix1 ⟨e.val / 256 * 4 + e.val / 64 % 4, by omega⟩)) ?_ rfl]
  · have hz : ∀ s : Fin 4096, Band.Ref.scores 128#32 q k (ix5 b ⟨e.val / 256, by omega⟩ ⟨e.val / 64 % 4, by omega⟩ t s)
        = if s.val ≤ t.val ∧ t.val ≤ s.val + 128 then Z s.val - ((S * ((t.val : ℝ) - s.val) : ℝ) : EReal) else ⊥ := fun s => by
      rw [Band.Ref.scores_apply (n := 128) rfl, hZ, Band.Ref.bias_apply, hS, EReal.coe_mul]
    rw [attention, attend, scores_eq, divided_apply, summed_eq, Band.Ref.summed_apply, totals_apply]
    simp only [weights_apply, greatest_apply, hz, hV, sinkOf_apply]
  · rw [add_assoc, ← EReal.coe_add, add_neg_cancel, EReal.coe_zero, add_zero]
  · split
    · rw [sub_eq_add_neg, add_assoc, ← EReal.coe_neg, ← EReal.coe_add]
      congr 2
      ring
    · rw [EReal.bot_add]
  · rw [Finset.mem_Ico] at hs
    exact if_neg (by omega)

end Cert.Proof.Sink.Ref

end
-- ==== Proof.Sink.Value.lean ====
/-
  The window attention with sinks (program `Kernel9Ideal`): its result array is the reference's attention of the arguments.
-/
module

public import proofs.«01_k».proof.Defs
public import proofs.«01_k».proof.Proof.Band.Value
public import proofs.«01_k».proof.Proof.Sink.Block
public import proofs.«01_k».proof.Proof.Sink.Reference

@[expose] public section

set_option maxRecDepth 16384

noncomputable section

namespace Cert.Proof.Sink

open Cert.Kernel9Ideal Cert.Kernel9Ideal.Gen Cert.Proof.Band
open Idealize.ShloMosaic Idealize.ShloMosaic.ValueKit Idealize.ShloMosaic.TcCoe Idealize.SL.Sem
open Idealize.ShloMosaic.Pipeline (Dat)

variable (m : (ℓ : Loc nD τ sig) → Buf (Elt Ideal) ℓ)

/-- Point `t` works on batch `t / 128`, key head `t / 32 % 4` and row block `t % 32`. -/
theorem index_at : ∀ t : Fin cfg0.N, win0_0.index t = ![0] ∧ win0_1.index t = ![0] ∧ win0_2.index t = ![t.val / 128, t.val / 32 % 4, t.val % 32]
    ∧ win0_3.index t = ![t.val / 128, t.val / 32 % 4, 0, 0] ∧ win0_4.index t = ![t.val / 128, t.val / 32 % 4, 0, 0]
    ∧ win0_5.index t = ![t.val / 128, t.val % 32, t.val / 32 % 4] :=
  (by decide +kernel : ∀ t : Fin grid0.N, _)

theorem coords_at : ∀ t : Fin cfg0.N, (grid0.coords t 2).val = t.val % 32 ∧ (grid0.coords t 1).val = t.val / 32 % 4 :=
  (by decide +kernel : ∀ t : Fin grid0.N, _)

theorem V_keys (c : Dev nD) : V m c main_v11 = keyRows (m ((c : Thread nD τ).loc main_arg1)) := by
  unfold V Band.keyRows
  simp only [List.flatten, List.append, hostOps0, hostOps0_1, hostOps0_2]
  after_results_simp <;> rfl

theorem V_slopes (c : Dev nD) : V m c main_v21 = Band.Ref.slopes := by
  unfold V Band.Ref.slopes
  simp only [List.flatten, List.append, hostOps0, hostOps0_1, hostOps0_2]
  after_results_simp <;> rfl

variable (c : Dev nD) (t : Fin cfg0.N)

/-- Where a head's number stands, in an array of one number per head. -/
theorem head_at {x : Vec Ideal S16 .f32} {y : FVec Ideal S16 .f32} (hx : ∀ j : Fin 16, x (ix1 j) = y (ix1 j)) (r : Fin 4) (j : Fin 16)
    (hj : j.val = t.val / 32 % 4 * 4 + r.val) : headOf (grid0.coords t) x r = y (ix1 j) := by
  have h1 := (coords_at t).2
  unfold headOf
  refine (View.ld_unit_apply_of x _ _ _ _ (ix1 j) fun a => ?_).trans (hx j)
  have ha : a = 0 := Subsingleton.elim (α := Fin 1) _ _
  subst ha
  rw [← h1] at hj
  exact hj.trans (Band.slope_place (grid0.coords t 1) r).symm

/-- The slope of head `r` of the point's group. -/
theorem slope_at (r : Fin 4) (j : Fin 16) (hj : j.val = t.val / 32 % 4 * 4 + r.val) :
    headOf (grid0.coords t) (iblk m c 0 t) r = Band.Ref.slopes (ix1 j) := by
  refine head_at t (x := iblk m c 0 t) (y := Band.Ref.slopes) (fun j => ?_) r j hj
  rw [← V_slopes m c]
  refine congrArg (V m c main_v21) (funext fun a => Fin.ext ?_)
  match a with
  | ⟨0, _⟩ => blk_simp [index_at t]

/-- The sink of head `r` of the point's group. -/
theorem sink_at (r : Fin 4) (j : Fin 16) (hj : j.val = t.val / 32 % 4 * 4 + r.val) :
    headOf (grid0.coords t) (iblk m c 1 t) r = m ((c : Thread nD τ).loc main_arg3) (ix1 j) := by
  refine head_at (y := m ((c : Thread nD τ).loc main_arg3)) t (fun j => ?_) r j hj
  have h0 : ((ix1 j : S16.Idx) 0).val = j.val := rfl
  blk_point [iblk, V, index_at t]

/-- The block of keys. -/
theorem key_at (b h : Fin 4) (hb : b.val = t.val / 128) (hh : h.val = t.val / 32 % 4) (s : Fin 4096) (d : Fin 128) :
    iblk m c 3 t (ix4 0 0 s d) = keyRows (m ((c : Thread nD τ).loc main_arg1)) (ix4 b h s d) := by
  rw [← V_keys m c]
  refine congrArg (V m c main_v11) (funext fun a => Fin.ext ?_)
  match a with
  | ⟨0, _⟩ => blk_simp [index_at t]; omega
  | ⟨1, _⟩ => blk_simp [index_at t]; omega
  | ⟨2, _⟩ => blk_simp [index_at t]
  | ⟨3, _⟩ => blk_simp [index_at t]

/-- The block of queries at point `t`. -/
theorem query_at (e : Fin 256) (r : Fin 128) (j : S4x1024x4096.Idx) (h0 : (j 0).val = t.val / 128)
    (h1 : (j 1).val = t.val / 32 % 4 * 256 + e.val) (h2 : (j 2).val = t.val % 32 * 128 + r.val) :
    iblk m c 2 t (ix3 0 e r) = m ((c : Thread nD τ).loc main_arg0) j := by
  blk_point [iblk, V, index_at t]

/-- The block of values. -/
theorem value_at (d : Fin 64) (s : Fin 4096) (j : S4x4x64x4096.Idx) (h0 : (j 0).val = t.val / 128)
    (h1 : (j 1).val = t.val / 32 % 4) (h2 : (j 2).val = d.val) (h3 : (j 3).val = s.val) :
    iblk m c 4 t (ix4 0 0 d s) = m ((c : Thread nD τ).loc main_arg2) j := by
  blk_point [iblk, V, index_at t]

/-- The block point `t` leaves is some sums over each query's window and sink, divided. -/
theorem block_exact {S : Fin 4 → ℝ} (hR : Reads (headOf (grid0.coords t) (iblk m c 0 t)) (iblk m c 3 t) S) :
    ∃ s, outsAt0 m c t.val t.isLt = outOf s ∧ ∀ g, Exact (score (grid0.coords t 2).val 128 (iblk m c 2 t) (iblk m c 3 t) S g)
      (value (iblk m c 4 t)) (sinkAt (grid0.coords t) (iblk m c 1 t) S g) 1 g (((grid0.coords t 2).val - 1) * 128)
      ((grid0.coords t 2).val * 128 + 128) s := by
  have hi := (coords_at t).1
  by_cases h0 : 1 ≤ t.val % 32
  · refine ⟨_, outs_B m c t h0, fun g => ?_⟩
    exact own_exact _ _ _ _ _ S hR g _ (by omega) _ _ (far_lane _ _ _ _ _ S hR g _ (by omega) (by omega) _ _
      (begin_lane _ _ _ _ S hR g _ _ _))
  · refine ⟨_, outs_A m c t h0, fun g => ?_⟩
    have e : ((grid0.coords t 2).val - 1) * 128 = (grid0.coords t 2).val * 128 := by omega
    exact own_exact _ _ _ _ _ S hR g _ (by omega) _ _ (e ▸ begin_lane _ _ _ _ S hR g _ _ _)

/-- An entry of the block that point `t` writes is the reference's entry there. -/
theorem entry_eq (r : Fin 128) (e : Fin 256) (b : Fin 4) (T : Fin 4096) (E : Fin 1024) (hb : b.val = t.val / 128)
    (hT : T.val = t.val % 32 * 128 + r.val) (hE : E.val = t.val / 32 % 4 * 256 + e.val) :
    outsAt0 m c t.val t.isLt (ix3 0 r e) = Ref.attention (m ((c : Thread nD τ).loc main_arg0)) (m ((c : Thread nD τ).loc main_arg1))
      (m ((c : Thread nD τ).loc main_arg2)) (m ((c : Thread nD τ).loc main_arg3)) (ix3 b T E) := by
  have hi := (coords_at t).1
  have hr := r.isLt
  have he := e.isLt
  choose S hS using fun r : Fin 4 => Band.Ref.slopes_real ⟨t.val / 32 % 4 * 4 + r.val, by omega⟩
  have hR : Reads (headOf (grid0.coords t) (iblk m c 0 t)) (iblk m c 3 t) S := ⟨fun r => (slope_at m c t r _ rfl).trans (hS r),
    fun s k hk => (key_at m c t b ⟨t.val / 32 % 4, by omega⟩ hb rfl s _).trans (keyRows_place _ _ _ s k hk)⟩
  obtain ⟨s, hs, hx⟩ := block_exact m c t hR
  rw [hs, out_exact r e (hx _),
    Ref.attention_eq _ _ _ _ b T E (dots (iblk m c 2 t) (iblk m c 3 t) ⟨e.val / 64 * 128 + r.val, by omega⟩)
      (value (iblk m c 4 t) ⟨e.val % 64, by omega⟩) (S ⟨e.val / 64, by omega⟩) (fun s => ?_) (fun s => ?_) ?_]
  · have e1 : (grid0.coords t 2).val * 128 + r.val = T.val := by omega
    have e2 : T.val / 128 = (grid0.coords t 2).val := by omega
    have e3 : (e.val / 64 * 128 + r.val) % 128 = r.val := by omega
    have e4 : (e.val / 64 * 128 + r.val) / 128 = e.val / 64 := by omega
    rw [e2]
    refine congrArg₂ (fun x y => ratio _ _ x y _) ?_ (funext fun s => ?_)
    · unfold sinkAt Band.slope
      simp only [e3, e4]
      rw [sink_at m c t ⟨e.val / 64, by omega⟩ ⟨E.val / 256 * 4 + E.val / 64 % 4, by omega⟩ (by dsimp only; omega), ← e1]
      refine congrArg (fun x : ℝ => _ + ((S _ * x : ℝ) : EReal)) ?_
      push_cast
      ring
    · unfold score Band.slope
      simp only [e3, e4, e1]
  · rw [← hS]
    refine congrArg (fun j => Band.Ref.slopes (ix1 j)) (Fin.ext ?_)
    dsimp only
    omega
  · rw [Band.Ref.logits_apply, dots]
    refine Finset.sum_congr rfl fun d _ => (mul_comm _ _).trans (congrArg₂ (· * ·) ?_ ?_)
    · rw [dif_pos s.isLt]
      exact ((key_at m c t b ⟨E.val / 256, by omega⟩ hb (by dsimp only; omega) s _).trans (keyRows_key _ _ _ s d)).symm
    · exact (query_at m c t _ _ _ hb (by dsimp [ix3]; omega) (by dsimp [ix3]; omega)).symm
  · unfold value
    rw [dif_pos s.isLt]
    exact (value_at m c t _ s _ hb (by dsimp [ix4]; omega) (by dsimp [ix4]; omega) rfl).symm

/-- The result's array. -/
theorem array_eq : (dats m 0 c).arrAt 5 cfg0.N = Ref.attention (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  have e0 : ((((cfg0.win 5).blk t).view.emb y) 0).val = t.val / 128 := by blk_simp [index_at t]
  have e1 : ((((cfg0.win 5).blk t).view.emb y) 1).val = t.val % 32 * 128 + (y 1).val := by blk_simp [index_at t]
  have e2 : ((((cfg0.win 5).blk t).view.emb y) 2).val = t.val / 32 % 4 * 256 + (y 2).val := by blk_simp [index_at t]
  have key := fun b T E => entry_eq m c t (y 1) (y 2) b T E
  have hy : (ix3 0 (y 1) (y 2) : S1x128x256.Idx) = y := by
    refine funext fun d => Fin.ext ?_
    match d with
    | ⟨0, _⟩ => exact (Nat.lt_one_iff.mp (y 0).isLt).symm
    | ⟨1, _⟩ => rfl
    | ⟨2, _⟩ => rfl
  rw [hy] at key
  blk_simp
  rw [after0_5]
  generalize Ref.attention (m ((c : Thread nD τ).loc main_arg0)) (m ((c : Thread nD τ).loc main_arg1))
    (m ((c : Thread nD τ).loc main_arg2)) (m ((c : Thread nD τ).loc main_arg3)) = R at key ⊢
  generalize (((View.whole main_v22).slice (win0_5.rect t)).emb y) = j at e0 e1 e2 ⊢
  refine (key (j 0) (j 1) (j 2) e0 e1 e2).trans (congrArg R (funext fun d => ?_))
  match d with
  | ⟨0, _⟩ => rfl
  | ⟨1, _⟩ => rfl
  | ⟨2, _⟩ => rfl

/-- The window attention's idealization computes the reference's function of the arguments. -/
theorem algebraic : Cert.algebraic_Kernel9Ideal_Reference9Ideal := fun m g m' g' _ hagree =>
  ⟨fun c => Ref.attention (m ((c : Thread nD τ).loc main_arg0)) (m ((c : Thread nD τ).loc main_arg1)) (m ((c : Thread nD τ).loc main_arg2))
    (m ((c : Thread nD τ).loc main_arg3)),
    (θ_run defs _ _).mono (fun _ h c => ⟨(h c).1.trans (array_eq m c), (h c).2⟩) (Cert.Kernel9Ideal.Value.run_blocks m g),
    (θ_run Cert.Reference9Ideal.defs _ _).mono (fun _ h c => by
      obtain ⟨a0, a1, a2, a3⟩ := hagree c
      obtain ⟨r0, kept⟩ := h c
      refine ⟨r0.trans ?_, kept⟩
      rw [Ref.res_eq, a0, a1, a2, a3])
      (Cert.Reference9Ideal.Value.run m' g')⟩

end Cert.Proof.Sink

end
-- ==== Proof.lean ====
/-
  The claim, assembled from its parts: the frames (the generated ones, and the attention's own), the references' frames,
  the named constants, and the equations of the calls.
-/
module

public import proofs.«01_k».proof.Defs
public import proofs.«01_k».proof.Proof.SbK.Run
public import proofs.«01_k».proof.Proof.SbI.Run
public import proofs.«01_k».proof.Proof.SbV.Value
public import proofs.«01_k».proof.Proof.References
public import proofs.«01_k».proof.Proof.OutProj
public import proofs.«01_k».proof.Proof.Ffn
public import proofs.«01_k».proof.Proof.NormProj
public import proofs.«01_k».proof.Proof.NsaProj
public import proofs.«01_k».proof.Proof.NsaOut
public import proofs.«01_k».proof.Proof.FinalNorm
public import proofs.«01_k».proof.Proof.Band.Value
public import proofs.«01_k».proof.Proof.Sink.Value
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m g _ => SbK.frame m g,
    fun m g _ => SbI.frame m g,
    References.attention,
    fun m g _ => Cert.Kernel2.Gen.frame m g,
    fun m g _ => Cert.Kernel2Ideal.Gen.frame m g,
    References.ffn,
    fun m g _ => Cert.Kernel3.Gen.frame m g,
    fun m g _ => Cert.Kernel3Ideal.Gen.frame m g,
    References.outProj,
    fun m g _ => Cert.Kernel4.Gen.frame m g,
    fun m g _ => Cert.Kernel4Ideal.Gen.frame m g,
    References.normProj,
    fun m g _ => Cert.Kernel5.Gen.frame m g,
    fun m g _ => Cert.Kernel5Ideal.Gen.frame m g,
    References.nsaProj,
    fun m g _ => Cert.Kernel6.Gen.frame m g,
    fun m g _ => Cert.Kernel6Ideal.Gen.frame m g,
    References.nsaOutProj,
    fun m g _ => Cert.Kernel7.Gen.frame m g,
    fun m g _ => Cert.Kernel7Ideal.Gen.frame m g,
    References.finalNorm,
    fun m g _ => Cert.Kernel8.Gen.frame m g,
    fun m g _ => Cert.Kernel8Ideal.Gen.frame m g,
    References.band,
    fun m g _ => Cert.Kernel9.Gen.frame m g,
    fun m g _ => Cert.Kernel9Ideal.Gen.frame m g,
    References.sink,
    IdealRules.named_const.statement Cert.KernelIdeal.κ "dead" .f32 0xC2D00000#32 ⊥ rfl, SbV.algebraic,
    trivial, Ffn.algebraic,
    trivial, OutProj.algebraic,
    trivial, NormProj.algebraic,
    trivial, NsaProj.algebraic,
    trivial, NsaOut.algebraic,
    trivial, FinalNorm.algebraic,
    IdealRules.named_const.statement Cert.Kernel8Ideal.κ "masked" .f32 0xF149F2CA#32 ⊥ rfl, Band.algebraic,
    IdealRules.named_const.statement Cert.Kernel9Ideal.κ "masked" .f32 0xF149F2CA#32 ⊥ rfl, Sink.algebraic⟩

end Cert.Proof

end
